-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite [hPre_finite : Cert.Pre_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite [hPre_finite : Cert.Pre_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14)
      ∧ r.2.mem ((c.tc : Thread Cert.Kernel2.nD Cert.Kernel2.τ).loc Cert.Kernel2.main_arg15) = m ((c.tc : Thread Cert.Kernel2.nD Cert.Kernel2.τ).loc Cert.Kernel2.main_arg15)
      ∧ r.2.mem ((c.tc : Thread Cert.Kernel2.nD Cert.Kernel2.τ).loc Cert.Kernel2.main_arg16) = m ((c.tc : Thread Cert.Kernel2.nD Cert.Kernel2.τ).loc Cert.Kernel2.main_arg16)
      ∧ r.2.mem ((c.tc : Thread Cert.Kernel2.nD Cert.Kernel2.τ).loc Cert.Kernel2.main_arg17) = m ((c.tc : Thread Cert.Kernel2.nD Cert.Kernel2.τ).loc Cert.Kernel2.main_arg17))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
      ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16)
      ∧ r.2.mem ((c.tc : Thread Cert.Kernel2Ideal.nD Cert.Kernel2Ideal.τ).loc Cert.Kernel2Ideal.main_arg17) = m ((c.tc : Thread Cert.Kernel2Ideal.nD Cert.Kernel2Ideal.τ).loc Cert.Kernel2Ideal.main_arg17))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15)
      ∧ r.2.mem ((c.tc : Thread Cert.Reference2Ideal.nD Cert.Reference2Ideal.τ).loc Cert.Reference2Ideal.main_arg16) = m ((c.tc : Thread Cert.Reference2Ideal.nD Cert.Reference2Ideal.τ).loc Cert.Reference2Ideal.main_arg16)
      ∧ r.2.mem ((c.tc : Thread Cert.Reference2Ideal.nD Cert.Reference2Ideal.τ).loc Cert.Reference2Ideal.main_arg17) = m ((c.tc : Thread Cert.Reference2Ideal.nD Cert.Reference2Ideal.τ).loc Cert.Reference2Ideal.main_arg17))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Kernel4Ideal_pre_finite [hKernel4Ideal : Cert.Kernel4Ideal.Facts] [hPre_finite : Cert.Pre_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Reference4Ideal_pre_finite [hReference4Ideal : Cert.Reference4Ideal.Facts] [hPre_finite : Cert.Pre_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)
      ∧ m' ((c.tc : Thread Cert.Reference2Ideal.nD Cert.Reference2Ideal.τ).loc Cert.Reference2Ideal.main_arg15) = m ((c.tc : Thread Cert.Kernel2Ideal.nD Cert.Kernel2Ideal.τ).loc Cert.Kernel2Ideal.main_arg15)
      ∧ m' ((c.tc : Thread Cert.Reference2Ideal.nD Cert.Reference2Ideal.τ).loc Cert.Reference2Ideal.main_arg16) = m ((c.tc : Thread Cert.Kernel2Ideal.nD Cert.Kernel2Ideal.τ).loc Cert.Kernel2Ideal.main_arg16)
      ∧ m' ((c.tc : Thread Cert.Reference2Ideal.nD Cert.Reference2Ideal.τ).loc Cert.Reference2Ideal.main_arg17) = m ((c.tc : Thread Cert.Kernel2Ideal.nD Cert.Kernel2Ideal.τ).loc Cert.Kernel2Ideal.main_arg17)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
          ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
          ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16)
          ∧ r.2.mem ((c.tc : Thread Cert.Kernel2Ideal.nD Cert.Kernel2Ideal.τ).loc Cert.Kernel2Ideal.main_arg17) = m ((c.tc : Thread Cert.Kernel2Ideal.nD Cert.Kernel2Ideal.τ).loc Cert.Kernel2Ideal.main_arg17))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v116) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14)
          ∧ r.2.mem ((c.tc : Thread Cert.Reference2Ideal.nD Cert.Reference2Ideal.τ).loc Cert.Reference2Ideal.main_arg15) = m' ((c.tc : Thread Cert.Reference2Ideal.nD Cert.Reference2Ideal.τ).loc Cert.Reference2Ideal.main_arg15)
          ∧ r.2.mem ((c.tc : Thread Cert.Reference2Ideal.nD Cert.Reference2Ideal.τ).loc Cert.Reference2Ideal.main_arg16) = m' ((c.tc : Thread Cert.Reference2Ideal.nD Cert.Reference2Ideal.τ).loc Cert.Reference2Ideal.main_arg16)
          ∧ r.2.mem ((c.tc : Thread Cert.Reference2Ideal.nD Cert.Reference2Ideal.τ).loc Cert.Reference2Ideal.main_arg17) = m' ((c.tc : Thread Cert.Reference2Ideal.nD Cert.Reference2Ideal.τ).loc Cert.Reference2Ideal.main_arg17))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v45_0)) (v1 : (c : Dev Cert.Kernel3Ideal.nD) → Buf (Elt Ideal) ((c.tc : Thread Cert.Kernel3Ideal.nD Cert.Kernel3Ideal.τ).loc Cert.Kernel3Ideal.main_v45_1)) (v2 : (c : Dev Cert.Kernel3Ideal.nD) → Buf (Elt Ideal) ((c.tc : Thread Cert.Kernel3Ideal.nD Cert.Kernel3Ideal.τ).loc Cert.Kernel3Ideal.main_v45_2)) (v3 : (c : Dev Cert.Kernel3Ideal.nD) → Buf (Elt Ideal) ((c.tc : Thread Cert.Kernel3Ideal.nD Cert.Kernel3Ideal.τ).loc Cert.Kernel3Ideal.main_v45_3)) (v4 : (c : Dev Cert.Kernel3Ideal.nD) → Buf (Elt Ideal) ((c.tc : Thread Cert.Kernel3Ideal.nD Cert.Kernel3Ideal.τ).loc Cert.Kernel3Ideal.main_v45_4)) (v5 : (c : Dev Cert.Kernel3Ideal.nD) → Buf (Elt Ideal) ((c.tc : Thread Cert.Kernel3Ideal.nD Cert.Kernel3Ideal.τ).loc Cert.Kernel3Ideal.main_v45_5)) (v6 : (c : Dev Cert.Kernel3Ideal.nD) → Buf (Elt Ideal) ((c.tc : Thread Cert.Kernel3Ideal.nD Cert.Kernel3Ideal.τ).loc Cert.Kernel3Ideal.main_v45_6)) (v7 : (c : Dev Cert.Kernel3Ideal.nD) → Buf (Elt Ideal) ((c.tc : Thread Cert.Kernel3Ideal.nD Cert.Kernel3Ideal.τ).loc Cert.Kernel3Ideal.main_v45_7)) (v8 : (c : Dev Cert.Kernel3Ideal.nD) → Buf (Elt Ideal) ((c.tc : Thread Cert.Kernel3Ideal.nD Cert.Kernel3Ideal.τ).loc Cert.Kernel3Ideal.main_v45_8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v45_0) = v0 c
          ∧ r.2.mem ((c.tc : Thread Cert.Kernel3Ideal.nD Cert.Kernel3Ideal.τ).loc Cert.Kernel3Ideal.main_v45_1) = v1 c
          ∧ r.2.mem ((c.tc : Thread Cert.Kernel3Ideal.nD Cert.Kernel3Ideal.τ).loc Cert.Kernel3Ideal.main_v45_2) = v2 c
          ∧ r.2.mem ((c.tc : Thread Cert.Kernel3Ideal.nD Cert.Kernel3Ideal.τ).loc Cert.Kernel3Ideal.main_v45_3) = v3 c
          ∧ r.2.mem ((c.tc : Thread Cert.Kernel3Ideal.nD Cert.Kernel3Ideal.τ).loc Cert.Kernel3Ideal.main_v45_4) = v4 c
          ∧ r.2.mem ((c.tc : Thread Cert.Kernel3Ideal.nD Cert.Kernel3Ideal.τ).loc Cert.Kernel3Ideal.main_v45_5) = v5 c
          ∧ r.2.mem ((c.tc : Thread Cert.Kernel3Ideal.nD Cert.Kernel3Ideal.τ).loc Cert.Kernel3Ideal.main_v45_6) = v6 c
          ∧ r.2.mem ((c.tc : Thread Cert.Kernel3Ideal.nD Cert.Kernel3Ideal.τ).loc Cert.Kernel3Ideal.main_v45_7) = v7 c
          ∧ r.2.mem ((c.tc : Thread Cert.Kernel3Ideal.nD Cert.Kernel3Ideal.τ).loc Cert.Kernel3Ideal.main_v45_8) = v8 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v179) = v0 c
          ∧ r.2.mem ((c.tc : Thread Cert.Reference3Ideal.nD Cert.Reference3Ideal.τ).loc Cert.Reference3Ideal.main_v181) = v1 c
          ∧ r.2.mem ((c.tc : Thread Cert.Reference3Ideal.nD Cert.Reference3Ideal.τ).loc Cert.Reference3Ideal.main_v183) = v2 c
          ∧ r.2.mem ((c.tc : Thread Cert.Reference3Ideal.nD Cert.Reference3Ideal.τ).loc Cert.Reference3Ideal.main_v184) = v3 c
          ∧ r.2.mem ((c.tc : Thread Cert.Reference3Ideal.nD Cert.Reference3Ideal.τ).loc Cert.Reference3Ideal.main_v185) = v4 c
          ∧ r.2.mem ((c.tc : Thread Cert.Reference3Ideal.nD Cert.Reference3Ideal.τ).loc Cert.Reference3Ideal.main_v186) = v5 c
          ∧ r.2.mem ((c.tc : Thread Cert.Reference3Ideal.nD Cert.Reference3Ideal.τ).loc Cert.Reference3Ideal.main_v188) = v6 c
          ∧ r.2.mem ((c.tc : Thread Cert.Reference3Ideal.nD Cert.Reference3Ideal.τ).loc Cert.Reference3Ideal.main_v195) = v7 c
          ∧ r.2.mem ((c.tc : Thread Cert.Reference3Ideal.nD Cert.Reference3Ideal.τ).loc Cert.Reference3Ideal.main_v202) = v8 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal_pre_finite [hKernel4Ideal : Cert.Kernel4Ideal.Facts] [hReference4Ideal : Cert.Reference4Ideal.Facts] [hPre_finite : Cert.Pre_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite (hKernel4Ideal := hKernel4Ideal) (hPre_finite := hPre_finite)
    ∧ quiescent_Reference4Ideal (hReference4Ideal := hReference4Ideal)
    ∧ quiescent_Reference4Ideal_pre_finite (hReference4Ideal := hReference4Ideal) (hPre_finite := hPre_finite)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite (hKernel4Ideal := hKernel4Ideal) (hReference4Ideal := hReference4Ideal) (hPre_finite := hPre_finite)
-- ==== Pre_finite.lean ====
abbrev S4x1024 : Shape := ⟨2, ![4, 1024]⟩
abbrev S1024x6144 : Shape := ⟨2, ![1024, 6144]⟩
abbrev S6144 : Shape := ⟨1, ![6144]⟩
abbrev S4x1024x1 : Shape := ⟨3, ![4, 1024, 1]⟩
abbrev S_ : Shape := ⟨0, ![]⟩
abbrev S1x1024x6144 : Shape := ⟨3, ![1, 1024, 6144]⟩
abbrev S4x1024x6144 : Shape := ⟨3, ![4, 1024, 6144]⟩

class Facts : Prop where
  bcast_S4x1024_S4x1024x1_0_1 : S4x1024.BroadcastsInDim S4x1024x1 (![0, 1] : Fin 2 → Fin S4x1024x1.rank)
  bcast_S_S4x1024x1 : S_.BroadcastsInDim S4x1024x1 (![] : Fin 0 → Fin S4x1024x1.rank)
  bcast_S1024x6144_S1x1024x6144_1_2 : S1024x6144.BroadcastsInDim S1x1024x6144 (![1, 2] : Fin 2 → Fin S1x1024x6144.rank)
  bcast_S_S1x1024x6144 : S_.BroadcastsInDim S1x1024x6144 (![] : Fin 0 → Fin S1x1024x6144.rank)
  bcast_S4x1024x1_S4x1024x6144_0_1_2 : S4x1024x1.BroadcastsInDim S4x1024x6144 (![0, 1, 2] : Fin 3 → Fin S4x1024x6144.rank)
  bcast_S1x1024x6144_S4x1024x6144_0_1_2 : S1x1024x6144.BroadcastsInDim S4x1024x6144 (![0, 1, 2] : Fin 3 → Fin S4x1024x6144.rank)

variable [Facts]

def fn {F : FTy → Type} [FloatOps F] (main_arg0 : FVec F S4x1024 .f32) (main_arg1 : FVec F S1024x6144 .f32) (main_arg2 : FVec F S6144 .f32) : IVec S4x1024x6144 1 :=
  let main_v0 : FVec F S4x1024 .f32 := Host.absf main_arg0
  let main_v1 : FVec F S4x1024x1 .f32 := broadcastInDim S4x1024x1 ![0, 1] bcast_S4x1024_S4x1024x1_0_1 main_v0
  let main_cst : FVec F S_ .f32 := constant S_ .f32 0x7F800000#32
  let main_v2 : FVec F S4x1024x1 .f32 := broadcastInDim S4x1024x1 ![] bcast_S_S4x1024x1 main_cst
  let main_v3 : IVec S4x1024x1 1 := cmpf .olt main_v1 main_v2
  let main_v4 : FVec F S1024x6144 .f32 := Host.absf main_arg1
  let main_v5 : FVec F S1x1024x6144 .f32 := broadcastInDim S1x1024x6144 ![1, 2] bcast_S1024x6144_S1x1024x6144_1_2 main_v4
  let main_cst_0 : FVec F S_ .f32 := constant S_ .f32 0x7F800000#32
  let main_v6 : FVec F S1x1024x6144 .f32 := broadcastInDim S1x1024x6144 ![] bcast_S_S1x1024x6144 main_cst_0
  let main_v7 : IVec S1x1024x6144 1 := cmpf .olt main_v5 main_v6
  let main_v8 : IVec S4x1024x6144 1 := broadcastInDim S4x1024x6144 ![0, 1, 2] bcast_S4x1024x1_S4x1024x6144_0_1_2 main_v3
  let main_v9 : IVec S4x1024x6144 1 := broadcastInDim S4x1024x6144 ![0, 1, 2] bcast_S1x1024x6144_S4x1024x6144_0_1_2 main_v7
  let main_v10 : IVec S4x1024x6144 1 := andi main_v8 main_v9
  main_v10
-- ==== Kernel.lean ====
abbrev S4x4096x512 : Shape := ⟨3, ![4, 4096, 512]⟩
abbrev S4x4096x1024 : Shape := ⟨3, ![4, 4096, 1024]⟩
abbrev S4 : Shape := ⟨1, ![4]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S4x1 : Shape := ⟨2, ![4, 1]⟩
abbrev S4x128 : Shape := ⟨2, ![4, 128]⟩
abbrev S4x128x1 : Shape := ⟨3, ![4, 128, 1]⟩
abbrev S1x4096x128 : Shape := ⟨3, ![1, 4096, 128]⟩
abbrev S1x4096x256 : Shape := ⟨3, ![1, 4096, 256]⟩
abbrev S128x256 : Shape := ⟨2, ![128, 256]⟩
abbrev S1 : Shape := ⟨1, ![1]⟩
abbrev S1x128x256 : Shape := ⟨3, ![1, 128, 256]⟩

abbrev nBuf : Space → Nat
  | .hbm => 64
  | .vmem => 17
  | .smem => 1
  | _ => 0

abbrev bufTy : (tb : Table) → Fin (tcTables nBuf tb) → BufTy
  | .hbm, ⟨0, _⟩ => ⟨S4x4096x512, .bf16⟩
  | .hbm, ⟨1, _⟩ => ⟨S4x4096x512, .bf16⟩
  | .hbm, ⟨2, _⟩ => ⟨S4x4096x1024, .bf16⟩
  | .hbm, ⟨3, _⟩ => ⟨S4x4096x1024, .bf16⟩
  | .hbm, ⟨4, _⟩ => ⟨S4, .f32⟩
  | .hbm, ⟨5, _⟩ => ⟨S_, .f32⟩
  | .hbm, ⟨6, _⟩ => ⟨S4, .f32⟩
  | .hbm, ⟨7, _⟩ => ⟨S4, .f32⟩
  | .hbm, ⟨8, _⟩ => ⟨S_, .f32⟩
  | .hbm, ⟨9, _⟩ => ⟨S4, .f32⟩
  | .hbm, ⟨10, _⟩ => ⟨S4, .f32⟩
  | .hbm, ⟨11, _⟩ => ⟨S_, .f32⟩
  | .hbm, ⟨12, _⟩ => ⟨S4, .f32⟩
  | .hbm, ⟨13, _⟩ => ⟨S4, .f32⟩
  | .hbm, ⟨14, _⟩ => ⟨S4, .f32⟩
  | .hbm, ⟨15, _⟩ => ⟨S128, .f32⟩
  | .hbm, ⟨16, _⟩ => ⟨S128x1, .f32⟩
  | .hbm, ⟨17, _⟩ => ⟨S1x128, .f32⟩
  | .hbm, ⟨18, _⟩ => ⟨S128x128, .f32⟩
  | .hbm, ⟨19, _⟩ => ⟨S128x128, .f32⟩
  | .hbm, ⟨20, _⟩ => ⟨S128x128, .f32⟩
  | .hbm, ⟨21, _⟩ => ⟨S_, .f32⟩
  | .hbm, ⟨22, _⟩ => ⟨S128x128, .f32⟩
  | .hbm, ⟨23, _⟩ => ⟨S128x128, .i1⟩
  | .hbm, ⟨24, _⟩ => ⟨S4x1x1, .f32⟩
  | .hbm, ⟨25, _⟩ => ⟨S_, .f32⟩
  | .hbm, ⟨26, _⟩ => ⟨S128x128, .f32⟩
  | .hbm, ⟨27, _⟩ => ⟨S128x128, .f32⟩
  | .hbm, ⟨28, _⟩ => ⟨S1x128x128, .f32⟩
  | .hbm, ⟨29, _⟩ => ⟨S4x128x128, .f32⟩
  | .hbm, ⟨30, _⟩ => ⟨S4x128x128, .f32⟩
  | .hbm, ⟨31, _⟩ => ⟨S4x128x128, .f32⟩
  | .hbm, ⟨32, _⟩ => ⟨S4x128x128, .f32⟩
  | .hbm, ⟨33, _⟩ => ⟨S_, .f32⟩
  | .hbm, ⟨34, _⟩ => ⟨S4x128x128, .i1⟩
  | .hbm, ⟨35, _⟩ => ⟨S4x128x128, .f32⟩
  | .hbm, ⟨36, _⟩ => ⟨S4x128x128, .f32⟩
  | .hbm, ⟨37, _⟩ => ⟨S4x1, .f32⟩
  | .hbm, ⟨38, _⟩ => ⟨S_, .f32⟩
  | .hbm, ⟨39, _⟩ => ⟨S128, .f32⟩
  | .hbm, ⟨40, _⟩ => ⟨S128, .f32⟩
  | .hbm, ⟨41, _⟩ => ⟨S1x128, .f32⟩
  | .hbm, ⟨42, _⟩ => ⟨S4x128, .f32⟩
  | .hbm, ⟨43, _⟩ => ⟨S4x128, .f32⟩
  | .hbm, ⟨44, _⟩ => ⟨S4x128, .f32⟩
  | .hbm, ⟨45, _⟩ => ⟨S4x128, .f32⟩
  | .hbm, ⟨46, _⟩ => ⟨S4x1, .f32⟩
  | .hbm, ⟨47, _⟩ => ⟨S_, .f32⟩
  | .hbm, ⟨48, _⟩ => ⟨S128, .f32⟩
  | .hbm, ⟨49, _⟩ => ⟨S128, .f32⟩
  | .hbm, ⟨50, _⟩ => ⟨S1x128, .f32⟩
  | .hbm, ⟨51, _⟩ => ⟨S4x128, .f32⟩
  | .hbm, ⟨52, _⟩ => ⟨S4x128, .f32⟩
  | .hbm, ⟨53, _⟩ => ⟨S4x128, .f32⟩
  | .hbm, ⟨54, _⟩ => ⟨S4x128, .f32⟩
  | .hbm, ⟨55, _⟩ => ⟨S_, .f32⟩
  | .hbm, ⟨56, _⟩ => ⟨S4, .f32⟩
  | .hbm, ⟨57, _⟩ => ⟨S4, .f32⟩
  | .hbm, ⟨58, _⟩ => ⟨S4, .f32⟩
  | .hbm, ⟨59, _⟩ => ⟨S4x128x1, .f32⟩
  | .hbm, ⟨60, _⟩ => ⟨S4x128x128, .f32⟩
  | .hbm, ⟨61, _⟩ => ⟨S4x128x1, .f32⟩
  | .hbm, ⟨62, _⟩ => ⟨S4x128x128, .f32⟩
  | .hbm, ⟨63, _⟩ => ⟨S4x4096x1024, .bf16⟩
  | .local _ .vmem, ⟨0, _⟩ => ⟨S1x4096x128, .bf16⟩
  | .local _ .vmem, ⟨1, _⟩ => ⟨S1x4096x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x256, .bf16⟩
  | .local _ .vmem, ⟨5, _⟩ => ⟨S1x4096x256, .bf16⟩
  | .local _ .vmem, ⟨6, _⟩ => ⟨S1x4096x256, .bf16⟩
  | .local _ .vmem, ⟨7, _⟩ => ⟨S1x4096x256, .bf16⟩
  | .local _ .vmem, ⟨8, _⟩ => ⟨S1x128x128, .f32⟩
  | .local _ .vmem, ⟨9, _⟩ => ⟨S1x128x128, .f32⟩
  | .local _ .vmem, ⟨10, _⟩ => ⟨S1x128x128, .f32⟩
  | .local _ .vmem, ⟨11, _⟩ => ⟨S1x128x128, .f32⟩
  | .local _ .vmem, ⟨12, _⟩ => ⟨S1x128x128, .f32⟩
  | .local _ .vmem, ⟨13, _⟩ => ⟨S1x128x128, .f32⟩
  | .local _ .vmem, ⟨14, _⟩ => ⟨S1x4096x256, .bf16⟩
  | .local _ .vmem, ⟨15, _⟩ => ⟨S1x4096x256, .bf16⟩
  | .local _ .vmem, ⟨16, _⟩ => ⟨S128x256, .f32⟩
  | .local _ .smem, ⟨0, _⟩ => ⟨S4, .f32⟩
  | _, _ => ⟨S4x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_call0_v0 : Ref sig .tc := ⟨.hbm, 34, rfl⟩
abbrev main_call0_v1 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_7 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨3, ![4, 4, 1], ![false, false, false]⟩

def k0_off1 (i : grid0.Coords) : Fin 1 → Nat :=
  let arg1 : BitVec 32 := BitVec.ofNat 32 (i 1).val
  let v9 : Index := Scalar.indexCast arg1
  ![v9.toNat]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S1x4096x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== ReferenceIdeal.lean ====
abbrev S4x4096x512 : Shape := ⟨3, ![4, 4096, 512]⟩
abbrev S4x4096x1024 : Shape := ⟨3, ![4, 4096, 1024]⟩
abbrev S4x4096x4x128 : Shape := ⟨4, ![4, 4096, 4, 128]⟩
abbrev S4x4x4096x128 : Shape := ⟨4, ![4, 4, 4096, 128]⟩
abbrev S4x4096x4x256 : Shape := ⟨4, ![4, 4096, 4, 256]⟩
abbrev S4x4x4096x256 : Shape := ⟨4, ![4, 4, 4096, 256]⟩
abbrev S4 : Shape := ⟨1, ![4]⟩
abbrev S_ : Shape := ⟨0, ![]⟩
abbrev S128 : Shape := ⟨1, ![128]⟩
abbrev S4x1 : Shape := ⟨2, ![4, 1]⟩
abbrev S1x128 : Shape := ⟨2, ![1, 128]⟩
abbrev S4x128 : Shape := ⟨2, ![4, 128]⟩
abbrev S4x4x32x128x128 : Shape := ⟨5, ![4, 4, 32, 128, 128]⟩
abbrev S4x4x32x128x256 : Shape := ⟨5, ![4, 4, 32, 128, 256]⟩
abbrev S1x4x1x128x1 : Shape := ⟨5, ![1, 4, 1, 128, 1]⟩
abbrev S32x4x4x128x256 : Shape := ⟨5, ![32, 4, 4, 128, 256]⟩
abbrev S1x4x1x1 : Shape := ⟨4, ![1, 4, 1, 1]⟩
abbrev S32 : Shape := ⟨1, ![32]⟩
abbrev S32x1x1x1x1 : Shape := ⟨5, ![32, 1, 1, 1, 1]⟩
abbrev S4x4x128x256 : Shape := ⟨4, ![4, 4, 128, 256]⟩
abbrev S1x4x4x128x256 : Shape := ⟨5, ![1, 4, 4, 128, 256]⟩
abbrev S128x1 : Shape := ⟨2, ![128, 1]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S1x4x1x128x128 : Shape := ⟨5, ![1, 4, 1, 128, 128]⟩
abbrev S4x4x4096 : Shape := ⟨3, ![4, 4, 4096]⟩
abbrev S4x4x4096x1 : Shape := ⟨4, ![4, 4, 4096, 1]⟩

abbrev nBuf : Space → Nat
  | .hbm => 176
  | .vmem => 0
  | .smem => 0
  | _ => 0

abbrev hbmTy0_0 (i : Nat) : BufTy := match i % 128 with
  | 0 => ⟨S4x4096x512, .bf16⟩
  | 1 => ⟨S4x4096x512, .bf16⟩
  | 2 => ⟨S4x4096x1024, .bf16⟩
  | 3 => ⟨S4x4096x1024, .bf16⟩
  | 4 => ⟨S4x4096x512, .f32⟩
  | 5 => ⟨S4x4096x4x128, .f32⟩
  | 6 => ⟨S4x4x4096x128, .f32⟩
  | 7 => ⟨S4x4096x1024, .f32⟩
  | 8 => ⟨S4x4096x4x256, .f32⟩
  | 9 => ⟨S4x4x4096x256, .f32⟩
  | 10 => ⟨S4, .f32⟩
  | 11 => ⟨S_, .f32⟩
  | 12 => ⟨S4, .f32⟩
  | 13 => ⟨S4, .f32⟩
  | 14 => ⟨S_, .f32⟩
  | 15 => ⟨S4, .f32⟩
  | 16 => ⟨S4, .f32⟩
  | 17 => ⟨S_, .f32⟩
  | 18 => ⟨S4, .f32⟩
  | 19 => ⟨S4, .f32⟩
  | 20 => ⟨S4, .f32⟩
  | 21 => ⟨S128, .f32⟩
  | 22 => ⟨S4x1, .f32⟩
  | 23 => ⟨S_, .f32⟩
  | 24 => ⟨S128, .f32⟩
  | 25 => ⟨S128, .f32⟩
  | 26 => ⟨S1x128, .f32⟩
  | 27 => ⟨S4x128, .f32⟩
  | 28 => ⟨S4x128, .f32⟩
  | 29 => ⟨S4x128, .f32⟩
  | 30 => ⟨S4x128, .f32⟩
  | 31 => ⟨S_, .f32⟩
  | 32 => ⟨S4, .f32⟩
  | 33 => ⟨S4, .f32⟩
  | 34 => ⟨S4, .f32⟩
  | 35 => ⟨S4x4x32x128x128, .f32⟩
  | 36 => ⟨S4x4x32x128x256, .f32⟩
  | 37 => ⟨S1x4x1x128x1, .f32⟩
  | 38 => ⟨S4x4x32x128x128, .f32⟩
  | 39 => ⟨S4x4x32x128x128, .f32⟩
  | 40 => ⟨S32x4x4x128x256, .f32⟩
  | 41 => ⟨S1x4x1x1, .f32⟩
  | 42 => ⟨S32, .i32⟩
  | 43 => ⟨S32x1x1x1x1, .i32⟩
  | 44 => ⟨S_, .f32⟩
  | 45 => ⟨S4x4x128x256, .f32⟩
  | 46 => ⟨S_, .f32⟩
  | 47 => ⟨S32x4x4x128x256, .f32⟩
  | 48 => ⟨S_, .i32⟩
  | 49 => ⟨S_, .i32⟩
  | 50 => ⟨S32x4x4x128x256, .f32⟩
  | 51 => ⟨S1x4x1x1, .f32⟩
  | 52 => ⟨S32x1x1x1x1, .i32⟩
  | 53 => ⟨S_, .i32⟩
  | 54 => ⟨S_, .i32⟩
  | 55 => ⟨S4x4x128x256, .f32⟩
  | 56 => ⟨S32x4x4x128x256, .f32⟩
  | 57 => ⟨S_, .i32⟩
  | 58 => ⟨S_, .i1⟩
  | 59 => ⟨S_, .i32⟩
  | 60 => ⟨S_, .i32⟩
  | 61 => ⟨S_, .i32⟩
  | 62 => ⟨S_, .i32⟩
  | 63 => ⟨S1x4x4x128x256, .f32⟩
  | 64 => ⟨S4x4x128x256, .f32⟩
  | 65 => ⟨S_, .i32⟩
  | 66 => ⟨S_, .i32⟩
  | 67 => ⟨S4x4x128x256, .f32⟩
  | 68 => ⟨S4x4x128x256, .f32⟩
  | 69 => ⟨S4x4x128x256, .f32⟩
  | 70 => ⟨S_, .i32⟩
  | 71 => ⟨S32x1x1x1x1, .i32⟩
  | 72 => ⟨S32x1x1x1x1, .i1⟩
  | 73 => ⟨S1x4x4x128x256, .f32⟩
  | 74 => ⟨S32x4x4x128x256, .i1⟩
  | 75 => ⟨S32x4x4x128x256, .f32⟩
  | 76 => ⟨S32x4x4x128x256, .f32⟩
  | 77 => ⟨S_, .i32⟩
  | 78 => ⟨S_, .i32⟩
  | 79 => ⟨S4x4096x512, .f32⟩
  | 80 => ⟨S4x4096x4x128, .f32⟩
  | 81 => ⟨S4x4x4096x128, .f32⟩
  | 82 => ⟨S4x4096x512, .f32⟩
  | 83 => ⟨S4x4096x4x128, .f32⟩
  | 84 => ⟨S4x4x4096x128, .f32⟩
  | 85 => ⟨S4x4096x1024, .f32⟩
  | 86 => ⟨S4x4096x4x256, .f32⟩
  | 87 => ⟨S4x4x4096x256, .f32⟩
  | 88 => ⟨S4, .f32⟩
  | 89 => ⟨S_, .f32⟩
  | 90 => ⟨S4, .f32⟩
  | 91 => ⟨S4, .f32⟩
  | 92 => ⟨S_, .f32⟩
  | 93 => ⟨S4, .f32⟩
  | 94 => ⟨S4, .f32⟩
  | 95 => ⟨S_, .f32⟩
  | 96 => ⟨S4, .f32⟩
  | 97 => ⟨S4, .f32⟩
  | 98 => ⟨S4, .f32⟩
  | 99 => ⟨S128, .f32⟩
  | 100 => ⟨S128x1, .f32⟩
  | 101 => ⟨S1x128, .f32⟩
  | 102 => ⟨S128x128, .f32⟩
  | 103 => ⟨S128x128, .f32⟩
  | 104 => ⟨S128x128, .f32⟩
  | 105 => ⟨S128, .i32⟩
  | 106 => ⟨S128x1, .i32⟩
  | 107 => ⟨S128, .i32⟩
  | 108 => ⟨S1x128, .i32⟩
  | 109 => ⟨S128x128, .i32⟩
  | 110 => ⟨S128x128, .i32⟩
  | 111 => ⟨S128x128, .i1⟩
  | 112 => ⟨S4x1x1, .f32⟩
  | 113 => ⟨S_, .f32⟩
  | 114 => ⟨S128x128, .f32⟩
  | 115 => ⟨S128x128, .f32⟩
  | 116 => ⟨S1x128x128, .f32⟩
  | 117 => ⟨S4x128x128, .f32⟩
  | 118 => ⟨S4x128x128, .f32⟩
  | 119 => ⟨S4x128x128, .f32⟩
  | 120 => ⟨S4x128x128, .f32⟩
  | 121 => ⟨S_, .f32⟩
  | 122 => ⟨S4x128x128, .i1⟩
  | 123 => ⟨S4x128x128, .f32⟩
  | 124 => ⟨S4x128x128, .f32⟩
  | 125 => ⟨S4x1, .f32⟩
  | 126 => ⟨S_, .f32⟩
  | 127 => ⟨S128, .f32⟩
  | _ => ⟨S4x4096x512, .bf16⟩

abbrev hbmTy0_1 (i : Nat) : BufTy := match i % 128 with
  | 0 => ⟨S128, .f32⟩
  | 1 => ⟨S1x128, .f32⟩
  | 2 => ⟨S4x128, .f32⟩
  | 3 => ⟨S4x128, .f32⟩
  | 4 => ⟨S4x128, .f32⟩
  | 5 => ⟨S4x128, .f32⟩
  | 6 => ⟨S4x4x32x128x128, .f32⟩
  | 7 => ⟨S4x4x32x128x128, .f32⟩
  | 8 => ⟨S4x4x32x128x256, .f32⟩
  | 9 => ⟨S4x4x32x128x128, .f32⟩
  | 10 => ⟨S1x4x1x128x128, .f32⟩
  | 11 => ⟨S4x4x32x128x128, .f32⟩
  | 12 => ⟨S4x4x32x128x128, .f32⟩
  | 13 => ⟨S4x4x32x128x256, .f32⟩
  | 14 => ⟨S1x4x1x128x1, .f32⟩
  | 15 => ⟨S4x4x32x128x128, .f32⟩
  | 16 => ⟨S4x4x32x128x128, .f32⟩
  | 17 => ⟨S4x4x32x128x256, .f32⟩
  | 18 => ⟨S4x4x32x128x256, .f32⟩
  | 19 => ⟨S4x4x4096x256, .f32⟩
  | 20 => ⟨S_, .f32⟩
  | 21 => ⟨S4x4x4096, .f32⟩
  | 22 => ⟨S4x4x4096x1, .f32⟩
  | 23 => ⟨S_, .f32⟩
  | 24 => ⟨S4x4x4096x1, .f32⟩
  | 25 => ⟨S4x4x4096x1, .f32⟩
  | 26 => ⟨S4x4x4096x256, .f32⟩
  | 27 => ⟨S4x4x4096x256, .f32⟩
  | 28 => ⟨S4x4x4096x256, .f32⟩
  | 29 => ⟨S_, .f32⟩
  | 30 => ⟨S4x4x4096, .f32⟩
  | 31 => ⟨S4x4x4096x1, .f32⟩
  | 32 => ⟨S_, .f32⟩
  | 33 => ⟨S4x4x4096x1, .f32⟩
  | 34 => ⟨S4x4x4096x1, .f32⟩
  | 35 => ⟨S4x4x4096x256, .f32⟩
  | 36 => ⟨S4x4x4096x256, .f32⟩
  | 37 => ⟨S_, .f32⟩
  | 38 => ⟨S4x4x4096x1, .f32⟩
  | 39 => ⟨S4x4x4096x1, .f32⟩
  | 40 => ⟨S4x4x4096x1, .f32⟩
  | 41 => ⟨S4x4x4096x256, .f32⟩
  | 42 => ⟨S4x4x4096x256, .f32⟩
  | 43 => ⟨S4x4096x4x256, .f32⟩
  | 44 => ⟨S4x4096x1024, .f32⟩
  | 45 => ⟨S4x4096x1024, .f32⟩
  | 46 => ⟨S4x4096x1024, .f32⟩
  | 47 => ⟨S4x4096x1024, .bf16⟩
  | _ => ⟨S4x4096x512, .bf16⟩

abbrev hbmTy (i : Nat) : BufTy := match i / 128 with
  | 0 => hbmTy0_0 i
  | 1 => hbmTy0_1 i
  | _ => ⟨S4x4096x512, .bf16⟩

abbrev bufTy : (tb : Table) → Fin (tcTables nBuf tb) → BufTy
  | .hbm, ⟨i, _⟩ => hbmTy i
  | _, _ => ⟨S4x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_4 : Ref sig .tc := ⟨.hbm, 44, rfl⟩
abbrev main_v35 : Ref sig .tc := ⟨.hbm, 45, rfl⟩
abbrev main_cst_5 : Ref sig .tc := ⟨.hbm, 46, rfl⟩
abbrev main_v36 : Ref sig .tc := ⟨.hbm, 47, rfl⟩
abbrev main_c : Ref sig .tc := ⟨.hbm, 48, rfl⟩
abbrev main_c_6 : Ref sig .tc := ⟨.hbm, 49, rfl⟩
abbrev main_v37_0 : Ref sig .tc := ⟨.hbm, 50, rfl⟩
abbrev main_v37_1 : Ref sig .tc := ⟨.hbm, 51, rfl⟩
abbrev main_v37_2 : Ref sig .tc := ⟨.hbm, 52, rfl⟩
abbrev main_v37_3 : Ref sig .tc := ⟨.hbm, 53, rfl⟩
abbrev main_v37_4 : Ref sig .tc := ⟨.hbm, 54, rfl⟩
abbrev main_v37_5 : Ref sig .tc := ⟨.hbm, 55, rfl⟩
abbrev main_v37_6 : Ref sig .tc := ⟨.hbm, 56, rfl⟩
abbrev main_while0c_c_24 : Ref sig .tc := ⟨.hbm, 57, rfl⟩
abbrev main_while0c_v122 : Ref sig .tc := ⟨.hbm, 58, rfl⟩
abbrev main_while0b_call0_c : Ref sig .tc := ⟨.hbm, 59, rfl⟩
abbrev main_while0b_call0_c_0 : Ref sig .tc := ⟨.hbm, 60, rfl⟩
abbrev main_while0b_call0_c_1 : Ref sig .tc := ⟨.hbm, 61, rfl⟩
abbrev main_while0b_call0_c_2 : Ref sig .tc := ⟨.hbm, 62, rfl⟩
abbrev main_while0b_call0_v0 : Ref sig .tc := ⟨.hbm, 63, rfl⟩
abbrev main_while0b_v122 : Ref sig .tc := ⟨.hbm, 64, rfl⟩
abbrev main_while0b_c_24 : Ref sig .tc := ⟨.hbm, 65, rfl⟩
abbrev main_while0b_v123 : Ref sig .tc := ⟨.hbm, 66, rfl⟩
abbrev main_while0b_v124 : Ref sig .tc := ⟨.hbm, 67, rfl⟩
abbrev main_while0b_v125 : Ref sig .tc := ⟨.hbm, 68, rfl⟩
abbrev main_while0b_v126 : Ref sig .tc := ⟨.hbm, 69, rfl⟩
abbrev main_while0b_v127 : Ref sig .tc := ⟨.hbm, 70, rfl⟩
abbrev main_while0b_v128 : Ref sig .tc := ⟨.hbm, 71, rfl⟩
abbrev main_while0b_v129 : Ref sig .tc := ⟨.hbm, 72, rfl⟩
abbrev main_while0b_v130 : Ref sig .tc := ⟨.hbm, 73, rfl⟩
abbrev main_while0b_call1_v0 : Ref sig .tc := ⟨.hbm, 74, rfl⟩
abbrev main_while0b_call1_v1 : Ref sig .tc := ⟨.hbm, 75, rfl⟩
abbrev main_while0b_v131 : Ref sig .tc := ⟨.hbm, 76, rfl⟩
abbrev main_while0b_c_25 : Ref sig .tc := ⟨.hbm, 77, rfl⟩
abbrev main_while0b_v132 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_cst_7 : Ref sig .tc := ⟨.hbm, 89, rfl⟩
abbrev main_v48 : Ref sig .tc := ⟨.hbm, 90, rfl⟩
abbrev main_v49 : Ref sig .tc := ⟨.hbm, 91, rfl⟩
abbrev main_cst_8 : Ref sig .tc := ⟨.hbm, 92, rfl⟩
abbrev main_v50 : Ref sig .tc := ⟨.hbm, 93, rfl⟩
abbrev main_v51 : Ref sig .tc := ⟨.hbm, 94, rfl⟩
abbrev main_cst_9 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_cst_10 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_cst_11 : Ref sig .tc := ⟨.hbm, 121, rfl⟩
abbrev main_call2_v0 : Ref sig .tc := ⟨.hbm, 122, rfl⟩
abbrev main_call2_v1 : Ref sig .tc := ⟨.hbm, 123, rfl⟩
abbrev main_v76 : Ref sig .tc := ⟨.hbm, 124, rfl⟩
abbrev main_v77 : Ref sig .tc := ⟨.hbm, 125, rfl⟩
abbrev main_cst_12 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_cst_13 : Ref sig .tc := ⟨.hbm, 148, rfl⟩
abbrev main_v99 : Ref sig .tc := ⟨.hbm, 149, rfl⟩
abbrev main_v100 : Ref sig .tc := ⟨.hbm, 150, rfl⟩
abbrev main_cst_14 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_cst_15 : Ref sig .tc := ⟨.hbm, 157, rfl⟩
abbrev main_v106 : Ref sig .tc := ⟨.hbm, 158, rfl⟩
abbrev main_v107 : Ref sig .tc := ⟨.hbm, 159, rfl⟩
abbrev main_cst_16 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_cst_17 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S4x4096x512 : Shape := ⟨3, ![4, 4096, 512]⟩
abbrev S4x4096x1024 : Shape := ⟨3, ![4, 4096, 1024]⟩
abbrev S4x1x6144 : Shape := ⟨3, ![4, 1, 6144]⟩
abbrev S512x1024 : Shape := ⟨2, ![512, 1024]⟩
abbrev S1024x1024 : Shape := ⟨2, ![1024, 1024]⟩
abbrev S1024 : Shape := ⟨1, ![1024]⟩
abbrev S1024x2816 : Shape := ⟨2, ![1024, 2816]⟩
abbrev S3x2816 : Shape := ⟨2, ![3, 2816]⟩
abbrev S2816 : Shape := ⟨1, ![2816]⟩
abbrev S2816x1024 : Shape := ⟨2, ![2816, 1024]⟩
abbrev S1x1024 : Shape := ⟨2, ![1, 1024]⟩
abbrev S1x2816 : Shape := ⟨2, ![1, 2816]⟩
abbrev S1x512x512 : Shape := ⟨3, ![1, 512, 512]⟩
abbrev S1x512x1024 : Shape := ⟨3, ![1, 512, 1024]⟩
abbrev S1x1x6144 : Shape := ⟨3, ![1, 1, 6144]⟩
abbrev S11x8x256 : Shape := ⟨3, ![11, 8, 256]⟩
abbrev S512x2816 : Shape := ⟨2, ![512, 2816]⟩
abbrev S1x1x1024 : Shape := ⟨3, ![1, 1, 1024]⟩
abbrev S1x256x512 : Shape := ⟨3, ![1, 256, 512]⟩
abbrev S256x512 : Shape := ⟨2, ![256, 512]⟩
abbrev S256x1024 : Shape := ⟨2, ![256, 1024]⟩
abbrev S1x256x1024 : Shape := ⟨3, ![1, 256, 1024]⟩
abbrev S256 : Shape := ⟨1, ![256]⟩
abbrev S256x1 : Shape := ⟨2, ![256, 1]⟩
abbrev S1024x256 : Shape := ⟨2, ![1024, 256]⟩
abbrev S256x256 : Shape := ⟨2, ![256, 256]⟩
abbrev S512x256 : Shape := ⟨2, ![512, 256]⟩
abbrev S1x8x256 : Shape := ⟨3, ![1, 8, 256]⟩
abbrev S8x256 : Shape := ⟨2, ![8, 256]⟩
abbrev S504x256 : Shape := ⟨2, ![504, 256]⟩
abbrev S1x256 : Shape := ⟨2, ![1, 256]⟩
abbrev S256x2816 : Shape := ⟨2, ![256, 2816]⟩

abbrev nBuf : Space → Nat
  | .hbm => 26
  | .vmem => 30
  | .smem => 0
  | _ => 0

abbrev bufTy : (tb : Table) → Fin (tcTables nBuf tb) → BufTy
  | .hbm, ⟨0, _⟩ => ⟨S4x4096x512, .bf16⟩
  | .hbm, ⟨1, _⟩ => ⟨S4x4096x1024, .bf16⟩
  | .hbm, ⟨2, _⟩ => ⟨S4x4096x1024, .bf16⟩
  | .hbm, ⟨3, _⟩ => ⟨S4x4096x1024, .bf16⟩
  | .hbm, ⟨4, _⟩ => ⟨S4x4096x1024, .f32⟩
  | .hbm, ⟨5, _⟩ => ⟨S4x1x6144, .f32⟩
  | .hbm, ⟨6, _⟩ => ⟨S512x1024, .f32⟩
  | .hbm, ⟨7, _⟩ => ⟨S1024x1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S1024x2816, .f32⟩
  | .hbm, ⟨12, _⟩ => ⟨S1024x2816, .f32⟩
  | .hbm, ⟨13, _⟩ => ⟨S3x2816, .f32⟩
  | .hbm, ⟨14, _⟩ => ⟨S2816, .f32⟩
  | .hbm, ⟨15, _⟩ => ⟨S2816x1024, .f32⟩
  | .hbm, ⟨16, _⟩ => ⟨S1024, .f32⟩
  | .hbm, ⟨17, _⟩ => ⟨S1024, .f32⟩
  | .hbm, ⟨18, _⟩ => ⟨S1024x2816, .bf16⟩
  | .hbm, ⟨19, _⟩ => ⟨S1024x2816, .bf16⟩
  | .hbm, ⟨20, _⟩ => ⟨S1x1024, .f32⟩
  | .hbm, ⟨21, _⟩ => ⟨S1x1024, .f32⟩
  | .hbm, ⟨22, _⟩ => ⟨S1x2816, .f32⟩
  | .hbm, ⟨23, _⟩ => ⟨S1x1024, .f32⟩
  | .hbm, ⟨24, _⟩ => ⟨S1x1024, .f32⟩
  | .hbm, ⟨25, _⟩ => ⟨S4x4096x1024, .f32⟩
  | .local _ .vmem, ⟨0, _⟩ => ⟨S1x512x512, .bf16⟩
  | .local _ .vmem, ⟨1, _⟩ => ⟨S1x512x512, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .f32⟩
  | .local _ .vmem, ⟨9, _⟩ => ⟨S1x512x1024, .f32⟩
  | .local _ .vmem, ⟨10, _⟩ => ⟨S1x1x6144, .f32⟩
  | .local _ .vmem, ⟨11, _⟩ => ⟨S1x1x6144, .f32⟩
  | .local _ .vmem, ⟨12, _⟩ => ⟨S512x1024, .f32⟩
  | .local _ .vmem, ⟨13, _⟩ => ⟨S1024x1024, .f32⟩
  | .local _ .vmem, ⟨14, _⟩ => ⟨S1024x1024, .f32⟩
  | .local _ .vmem, ⟨15, _⟩ => ⟨S1x1024, .f32⟩
  | .local _ .vmem, ⟨16, _⟩ => ⟨S1x1024, .f32⟩
  | .local _ .vmem, ⟨17, _⟩ => ⟨S1024x2816, .bf16⟩
  | .local _ .vmem, ⟨18, _⟩ => ⟨S1024x2816, .bf16⟩
  | .local _ .vmem, ⟨19, _⟩ => ⟨S2816x1024, .f32⟩
  | .local _ .vmem, ⟨20, _⟩ => ⟨S3x2816, .f32⟩
  | .local _ .vmem, ⟨21, _⟩ => ⟨S1x2816, .f32⟩
  | .local _ .vmem, ⟨22, _⟩ => ⟨S1x1024, .f32⟩
  | .local _ .vmem, ⟨23, _⟩ => ⟨S1x1024, .f32⟩
  | .local _ .vmem, ⟨24, _⟩ => ⟨S1x512x1024, .f32⟩
  | .local _ .vmem, ⟨25, _⟩ => ⟨S1x512x1024, .f32⟩
  | .local _ .vmem, ⟨26, _⟩ => ⟨S11x8x256, .f32⟩
  | .local _ .vmem, ⟨27, _⟩ => ⟨S512x1024, .f32⟩
  | .local _ .vmem, ⟨28, _⟩ => ⟨S512x1024, .bf16⟩
  | .local _ .vmem, ⟨29, _⟩ => ⟨S512x2816, .bf16⟩
  | _, _ => ⟨S4x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_stg18_0 : Ref sig .tc := ⟨.vmem, 24, rfl⟩
abbrev cc0_stg18_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem17_0 : DmaSem sig := 23
abbrev cc0_sem18_0 : DmaSem sig := 24
abbrev cc0_sem18_1 : DmaSem sig := 25

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x6144 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x2816 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x2816 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S2816x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S3x2816 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x2816 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 2 → Memref sig .tc .vmem S1x512x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== Reference2Ideal.lean ====
abbrev S4x4096x512 : Shape := ⟨3, ![4, 4096, 512]⟩
abbrev S4x4096x1024 : Shape := ⟨3, ![4, 4096, 1024]⟩
abbrev S4x1x6144 : Shape := ⟨3, ![4, 1, 6144]⟩
abbrev S512x1024 : Shape := ⟨2, ![512, 1024]⟩
abbrev S1024x1024 : Shape := ⟨2, ![1024, 1024]⟩
abbrev S1024 : Shape := ⟨1, ![1024]⟩
abbrev S1024x2816 : Shape := ⟨2, ![1024, 2816]⟩
abbrev S3x2816 : Shape := ⟨2, ![3, 2816]⟩
abbrev S2816 : Shape := ⟨1, ![2816]⟩
abbrev S2816x1024 : Shape := ⟨2, ![2816, 1024]⟩
abbrev S4x1x1024 : Shape := ⟨3, ![4, 1, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x2816 : Shape := ⟨3, ![4, 4096, 2816]⟩
abbrev S4x4098x2816 : Shape := ⟨3, ![4, 4098, 2816]⟩
abbrev S1x2816 : Shape := ⟨2, ![1, 2816]⟩
abbrev S1x1x2816 : Shape := ⟨3, ![1, 1, 2816]⟩

abbrev nBuf : Space → Nat
  | .hbm => 153
  | .vmem => 0
  | .smem => 0
  | _ => 0

abbrev hbmTy0_0 (i : Nat) : BufTy := match i % 128 with
  | 0 => ⟨S4x4096x512, .bf16⟩
  | 1 => ⟨S4x4096x1024, .bf16⟩
  | 2 => ⟨S4x4096x1024, .bf16⟩
  | 3 => ⟨S4x4096x1024, .bf16⟩
  | 4 => ⟨S4x4096x1024, .f32⟩
  | 5 => ⟨S4x1x6144, .f32⟩
  | 6 => ⟨S512x1024, .f32⟩
  | 7 => ⟨S1024x1024, .f32⟩
  | 8 => ⟨S1024x1024, .f32⟩
  | 9 => ⟨S1024, .f32⟩
  | 10 => ⟨S1024, .f32⟩
  | 11 => ⟨S1024x2816, .f32⟩
  | 12 => ⟨S1024x2816, .f32⟩
  | 13 => ⟨S3x2816, .f32⟩
  | 14 => ⟨S2816, .f32⟩
  | 15 => ⟨S2816x1024, .f32⟩
  | 16 => ⟨S1024, .f32⟩
  | 17 => ⟨S1024, .f32⟩
  | 18 => ⟨S4x1x1024, .f32⟩
  | 19 => ⟨S4x1x1024, .f32⟩
  | 20 => ⟨S4x1x1024, .f32⟩
  | 21 => ⟨S4x1x1024, .f32⟩
  | 22 => ⟨S4x1x1024, .f32⟩
  | 23 => ⟨S4x1x1024, .f32⟩
  | 24 => ⟨S4x4096x1024, .f32⟩
  | 25 => ⟨S4x4096x512, .f32⟩
  | 26 => ⟨S4x4096x1024, .f32⟩
  | 27 => ⟨S4x4096x1024, .f32⟩
  | 28 => ⟨S4x4096x1024, .f32⟩
  | 29 => ⟨S4x4096x1024, .f32⟩
  | 30 => ⟨S4x4096x1024, .f32⟩
  | 31 => ⟨S4x4096x1024, .f32⟩
  | 32 => ⟨S4x4096x1024, .f32⟩
  | 33 => ⟨S4x4096x1024, .f32⟩
  | 34 => ⟨S_, .f32⟩
  | 35 => ⟨S4x4096x1024, .f32⟩
  | 36 => ⟨S4x4096x1024, .f32⟩
  | 37 => ⟨S4x4096x1024, .f32⟩
  | 38 => ⟨S4x4096x1024, .f32⟩
  | 39 => ⟨S4x4096x1024, .f32⟩
  | 40 => ⟨S_, .f32⟩
  | 41 => ⟨S4x4096, .f32⟩
  | 42 => ⟨S4x4096x1, .f32⟩
  | 43 => ⟨S_, .f32⟩
  | 44 => ⟨S4x4096x1, .f32⟩
  | 45 => ⟨S4x4096x1, .f32⟩
  | 46 => ⟨S4x4096x1024, .f32⟩
  | 47 => ⟨S4x4096x1024, .f32⟩
  | 48 => ⟨S4x4096x1024, .f32⟩
  | 49 => ⟨S_, .f32⟩
  | 50 => ⟨S4x4096, .f32⟩
  | 51 => ⟨S4x4096x1, .f32⟩
  | 52 => ⟨S_, .f32⟩
  | 53 => ⟨S4x4096x1, .f32⟩
  | 54 => ⟨S4x4096x1, .f32⟩
  | 55 => ⟨S4x4096x1024, .f32⟩
  | 56 => ⟨S4x4096x1024, .f32⟩
  | 57 => ⟨S_, .f32⟩
  | 58 => ⟨S4x4096x1, .f32⟩
  | 59 => ⟨S4x4096x1, .f32⟩
  | 60 => ⟨S4x4096x1, .f32⟩
  | 61 => ⟨S4x4096x1024, .f32⟩
  | 62 => ⟨S4x4096x1024, .f32⟩
  | 63 => ⟨S1x1x1024, .f32⟩
  | 64 => ⟨S4x4096x1024, .f32⟩
  | 65 => ⟨S4x4096x1024, .f32⟩
  | 66 => ⟨S1x1x1024, .f32⟩
  | 67 => ⟨S4x4096x1024, .f32⟩
  | 68 => ⟨S4x4096x1024, .f32⟩
  | 69 => ⟨S_, .f32⟩
  | 70 => ⟨S4x1x1024, .f32⟩
  | 71 => ⟨S4x1x1024, .f32⟩
  | 72 => ⟨S4x4096x1024, .f32⟩
  | 73 => ⟨S4x4096x1024, .f32⟩
  | 74 => ⟨S4x4096x1024, .f32⟩
  | 75 => ⟨S4x4096x1024, .f32⟩
  | 76 => ⟨S4x4096x2816, .f32⟩
  | 77 => ⟨S4x4096x2816, .f32⟩
  | 78 => ⟨S_, .i32⟩
  | 79 => ⟨S_, .f32⟩
  | 80 => ⟨S4x4098x2816, .f32⟩
  | 81 => ⟨S4x4096x2816, .f32⟩
  | 82 => ⟨S1x2816, .f32⟩
  | 83 => ⟨S2816, .f32⟩
  | 84 => ⟨S1x1x2816, .f32⟩
  | 85 => ⟨S4x4096x2816, .f32⟩
  | 86 => ⟨S4x4096x2816, .f32⟩
  | 87 => ⟨S_, .f32⟩
  | 88 => ⟨S4x4096x2816, .f32⟩
  | 89 => ⟨S4x4096x2816, .f32⟩
  | 90 => ⟨S4x4096x2816, .f32⟩
  | 91 => ⟨S1x2816, .f32⟩
  | 92 => ⟨S2816, .f32⟩
  | 93 => ⟨S1x1x2816, .f32⟩
  | 94 => ⟨S4x4096x2816, .f32⟩
  | 95 => ⟨S4x4096x2816, .f32⟩
  | 96 => ⟨S4x4096x2816, .f32⟩
  | 97 => ⟨S4x4096x2816, .f32⟩
  | 98 => ⟨S1x2816, .f32⟩
  | 99 => ⟨S2816, .f32⟩
  | 100 => ⟨S1x1x2816, .f32⟩
  | 101 => ⟨S4x4096x2816, .f32⟩
  | 102 => ⟨S4x4096x2816, .f32⟩
  | 103 => ⟨S4x4096x2816, .f32⟩
  | 104 => ⟨S1x1x2816, .f32⟩
  | 105 => ⟨S4x4096x2816, .f32⟩
  | 106 => ⟨S4x4096x2816, .f32⟩
  | 107 => ⟨S_, .f32⟩
  | 108 => ⟨S4x4096x2816, .f32⟩
  | 109 => ⟨S4x4096x2816, .f32⟩
  | 110 => ⟨S4x4096x2816, .f32⟩
  | 111 => ⟨S_, .f32⟩
  | 112 => ⟨S4x4096x2816, .f32⟩
  | 113 => ⟨S4x4096x2816, .f32⟩
  | 114 => ⟨S4x4096x2816, .f32⟩
  | 115 => ⟨S4x4096x2816, .f32⟩
  | 116 => ⟨S4x4096x2816, .f32⟩
  | 117 => ⟨S4x4096x1024, .f32⟩
  | 118 => ⟨S_, .f32⟩
  | 119 => ⟨S4x4096x1024, .f32⟩
  | 120 => ⟨S4x4096x1024, .f32⟩
  | 121 => ⟨S4x4096x1024, .f32⟩
  | 122 => ⟨S4x4096x1024, .f32⟩
  | 123 => ⟨S4x4096x1024, .f32⟩
  | 124 => ⟨S_, .f32⟩
  | 125 => ⟨S4x4096, .f32⟩
  | 126 => ⟨S4x4096x1, .f32⟩
  | 127 => ⟨S_, .f32⟩
  | _ => ⟨S4x4096x512, .bf16⟩

abbrev hbmTy0_1 (i : Nat) : BufTy := match i % 128 with
  | 0 => ⟨S4x4096x1, .f32⟩
  | 1 => ⟨S4x4096x1, .f32⟩
  | 2 => ⟨S4x4096x1024, .f32⟩
  | 3 => ⟨S4x4096x1024, .f32⟩
  | 4 => ⟨S4x4096x1024, .f32⟩
  | 5 => ⟨S_, .f32⟩
  | 6 => ⟨S4x4096, .f32⟩
  | 7 => ⟨S4x4096x1, .f32⟩
  | 8 => ⟨S_, .f32⟩
  | 9 => ⟨S4x4096x1, .f32⟩
  | 10 => ⟨S4x4096x1, .f32⟩
  | 11 => ⟨S4x4096x1024, .f32⟩
  | 12 => ⟨S4x4096x1024, .f32⟩
  | 13 => ⟨S_, .f32⟩
  | 14 => ⟨S4x4096x1, .f32⟩
  | 15 => ⟨S4x4096x1, .f32⟩
  | 16 => ⟨S4x4096x1, .f32⟩
  | 17 => ⟨S4x4096x1024, .f32⟩
  | 18 => ⟨S4x4096x1024, .f32⟩
  | 19 => ⟨S1x1x1024, .f32⟩
  | 20 => ⟨S4x4096x1024, .f32⟩
  | 21 => ⟨S4x4096x1024, .f32⟩
  | 22 => ⟨S1x1x1024, .f32⟩
  | 23 => ⟨S4x4096x1024, .f32⟩
  | 24 => ⟨S4x4096x1024, .f32⟩
  | _ => ⟨S4x4096x512, .bf16⟩

abbrev hbmTy (i : Nat) : BufTy := match i / 128 with
  | 0 => hbmTy0_0 i
  | 1 => hbmTy0_1 i
  | _ => ⟨S4x4096x512, .bf16⟩

abbrev bufTy : (tb : Table) → Fin (tcTables nBuf tb) → BufTy
  | .hbm, ⟨i, _⟩ => hbmTy i
  | _, _ => ⟨S4x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_0 : Ref sig .tc := ⟨.hbm, 40, rfl⟩
abbrev main_v21 : Ref sig .tc := ⟨.hbm, 41, rfl⟩
abbrev main_v22 : Ref sig .tc := ⟨.hbm, 42, rfl⟩
abbrev main_cst_1 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_2 : Ref sig .tc := ⟨.hbm, 49, rfl⟩
abbrev main_v28 : Ref sig .tc := ⟨.hbm, 50, rfl⟩
abbrev main_v29 : Ref sig .tc := ⟨.hbm, 51, rfl⟩
abbrev main_cst_3 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_4 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_5 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_c : Ref sig .tc := ⟨.hbm, 78, rfl⟩
abbrev main_call0_v0 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_6 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_cst_7 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_8 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_cst_9 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_cst_10 : Ref sig .tc := ⟨.hbm, 124, rfl⟩
abbrev main_v93 : Ref sig .tc := ⟨.hbm, 125, rfl⟩
abbrev main_v94 : Ref sig .tc := ⟨.hbm, 126, rfl⟩
abbrev main_cst_11 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_cst_12 : Ref sig .tc := ⟨.hbm, 133, rfl⟩
abbrev main_v100 : Ref sig .tc := ⟨.hbm, 134, rfl⟩
abbrev main_v101 : Ref sig .tc := ⟨.hbm, 135, rfl⟩
abbrev main_cst_13 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_cst_14 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩

abbrev nD : Nat := 1
abbrev τ : Topo := Topo.v7x

variable {F : FTy → Type} [FloatOps F]
-- ==== Kernel3.lean ====
abbrev S4x4096x1024 : Shape := ⟨3, ![4, 4096, 1024]⟩
abbrev S4x1x6144 : Shape := ⟨3, ![4, 1, 6144]⟩
abbrev S1024x6656 : Shape := ⟨2, ![1024, 6656]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S1x4096x4x32 : Shape := ⟨4, ![1, 4096, 4, 32]⟩
abbrev S4096x128 : Shape := ⟨2, ![4096, 128]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S63 : Shape := ⟨1, ![63]⟩
abbrev S1 : Shape := ⟨1, ![1]⟩
abbrev S64 : Shape := ⟨1, ![64]⟩
abbrev S1x64 : Shape := ⟨2, ![1, 64]⟩
abbrev S4096x64x2 : Shape := ⟨3, ![4096, 64, 2]⟩
abbrev S4096x64x1 : Shape := ⟨3, ![4096, 64, 1]⟩
abbrev S4x16x512x256 : Shape := ⟨4, ![4, 16, 512, 256]⟩
abbrev S4x16x256x512 : Shape := ⟨4, ![4, 16, 256, 512]⟩
abbrev S4x4096x512 : Shape := ⟨3, ![4, 4096, 512]⟩
abbrev S1x512x1024 : Shape := ⟨3, ![1, 512, 1024]⟩
abbrev S1x1x6144 : Shape := ⟨3, ![1, 1, 6144]⟩
abbrev S512x128 : Shape := ⟨2, ![512, 128]⟩
abbrev S1x2x512x256 : Shape := ⟨4, ![1, 2, 512, 256]⟩
abbrev S1x2x256x512 : Shape := ⟨4, ![1, 2, 256, 512]⟩
abbrev S1x512x512 : Shape := ⟨3, ![1, 512, 512]⟩
abbrev S1x1x1024 : Shape := ⟨3, ![1, 1, 1024]⟩
abbrev S1x1024 : Shape := ⟨2, ![1, 1024]⟩
abbrev S512x1024 : Shape := ⟨2, ![512, 1024]⟩
abbrev S1024x512 : Shape := ⟨2, ![1024, 512]⟩
abbrev S512x512 : Shape := ⟨2, ![512, 512]⟩
abbrev S512x256 : Shape := ⟨2, ![512, 256]⟩
abbrev S1x1x512x256 : Shape := ⟨4, ![1, 1, 512, 256]⟩
abbrev S256x128 : Shape := ⟨2, ![256, 128]⟩
abbrev S1x1x256x128 : Shape := ⟨4, ![1, 1, 256, 128]⟩
abbrev S1024x256 : Shape := ⟨2, ![1024, 256]⟩
abbrev S256x256 : Shape := ⟨2, ![256, 256]⟩
abbrev S1x1x256x256 : Shape := ⟨4, ![1, 1, 256, 256]⟩
abbrev S1x512x128 : Shape := ⟨3, ![1, 512, 128]⟩

abbrev nBuf : Space → Nat
  | .hbm => 85
  | .vmem => 31
  | .smem => 0
  | _ => 0

abbrev bufTy : (tb : Table) → Fin (tcTables nBuf tb) → BufTy
  | .hbm, ⟨0, _⟩ => ⟨S4x4096x1024, .f32⟩
  | .hbm, ⟨1, _⟩ => ⟨S4x1x6144, .f32⟩
  | .hbm, ⟨2, _⟩ => ⟨S1024x6656, .f32⟩
  | .hbm, ⟨3, _⟩ => ⟨S4096, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S4096x1, .f32⟩
  | .hbm, ⟨19, _⟩ => ⟨S1x32, .f32⟩
  | .hbm, ⟨20, _⟩ => ⟨S4096x32, .f32⟩
  | .hbm, ⟨21, _⟩ => ⟨S4096x32, .f32⟩
  | .hbm, ⟨22, _⟩ => ⟨S4096x32, .f32⟩
  | .hbm, ⟨23, _⟩ => ⟨S4096x32, .f32⟩
  | .hbm, ⟨24, _⟩ => ⟨S4096x32, .f32⟩
  | .hbm, ⟨25, _⟩ => ⟨S1x4096x1x32, .f32⟩
  | .hbm, ⟨26, _⟩ => ⟨S1x4096x4x32, .f32⟩
  | .hbm, ⟨27, _⟩ => ⟨S4096x128, .f32⟩
  | .hbm, ⟨28, _⟩ => ⟨S4096x32, .f32⟩
  | .hbm, ⟨29, _⟩ => ⟨S4096x64, .f32⟩
  | .hbm, ⟨30, _⟩ => ⟨S1x4096x1x64, .f32⟩
  | .hbm, ⟨31, _⟩ => ⟨S1x4096x2x64, .f32⟩
  | .hbm, ⟨32, _⟩ => ⟨S4096x128, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S63, .f32⟩
  | .hbm, ⟨41, _⟩ => ⟨S_, .f32⟩
  | .hbm, ⟨42, _⟩ => ⟨S63, .f32⟩
  | .hbm, ⟨43, _⟩ => ⟨S63, .f32⟩
  | .hbm, ⟨44, _⟩ => ⟨S1, .f32⟩
  | .hbm, ⟨45, _⟩ => ⟨S_, .f32⟩
  | .hbm, ⟨46, _⟩ => ⟨S63, .f32⟩
  | .hbm, ⟨47, _⟩ => ⟨S63, .f32⟩
  | .hbm, ⟨48, _⟩ => ⟨S63, .f32⟩
  | .hbm, ⟨49, _⟩ => ⟨S63, .f32⟩
  | .hbm, ⟨50, _⟩ => ⟨S1, .f32⟩
  | .hbm, ⟨51, _⟩ => ⟨S63, .f32⟩
  | .hbm, ⟨52, _⟩ => ⟨S63, .f32⟩
  | .hbm, ⟨53, _⟩ => ⟨S63, .f32⟩
  | .hbm, ⟨54, _⟩ => ⟨S1, .f32⟩
  | .hbm, ⟨55, _⟩ => ⟨S64, .f32⟩
  | .hbm, ⟨56, _⟩ => ⟨S_, .f32⟩
  | .hbm, ⟨57, _⟩ => ⟨S64, .f32⟩
  | .hbm, ⟨58, _⟩ => ⟨S64, .f32⟩
  | .hbm, ⟨59, _⟩ => ⟨S_, .f32⟩
  | .hbm, ⟨60, _⟩ => ⟨S64, .f32⟩
  | .hbm, ⟨61, _⟩ => ⟨S64, .f32⟩
  | .hbm, ⟨62, _⟩ => ⟨S4096x1, .f32⟩
  | .hbm, ⟨63, _⟩ => ⟨S1x64, .f32⟩
  | .hbm, ⟨64, _⟩ => ⟨S4096x64, .f32⟩
  | .hbm, ⟨65, _⟩ => ⟨S4096x64, .f32⟩
  | .hbm, ⟨66, _⟩ => ⟨S4096x64, .f32⟩
  | .hbm, ⟨67, _⟩ => ⟨S4096x64, .f32⟩
  | .hbm, ⟨68, _⟩ => ⟨S4096x64, .f32⟩
  | .hbm, ⟨69, _⟩ => ⟨S4096x64x2, .f32⟩
  | .hbm, ⟨70, _⟩ => ⟨S4096x128, .f32⟩
  | .hbm, ⟨71, _⟩ => ⟨S4096x64, .f32⟩
  | .hbm, ⟨72, _⟩ => ⟨S4096x64x1, .f32⟩
  | .hbm, ⟨73, _⟩ => ⟨S4096x64x1, .f32⟩
  | .hbm, ⟨74, _⟩ => ⟨S4096x64x2, .f32⟩
  | .hbm, ⟨75, _⟩ => ⟨S4096x128, .f32⟩
  | .hbm, ⟨76, _⟩ => ⟨S4x16x512x256, .bf16⟩
  | .hbm, ⟨77, _⟩ => ⟨S4x16x256x512, .bf16⟩
  | .hbm, ⟨78, _⟩ => ⟨S4x16x256x512, .bf16⟩
  | .hbm, ⟨79, _⟩ => ⟨S4x4096x512, .bf16⟩
  | .hbm, ⟨80, _⟩ => ⟨S4x4096x512, .bf16⟩
  | .hbm, ⟨81, _⟩ => ⟨S4x4096x1024, .bf16⟩
  | .hbm, ⟨82, _⟩ => ⟨S4x4096x1024, .bf16⟩
  | .hbm, ⟨83, _⟩ => ⟨S4x4096x1024, .bf16⟩
  | .hbm, ⟨84, _⟩ => ⟨S4x4096x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x1x6144, .f32⟩
  | .local _ .vmem, ⟨3, _⟩ => ⟨S1x1x6144, .f32⟩
  | .local _ .vmem, ⟨4, _⟩ => ⟨S1024x6656, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S1x2x512x256, .bf16⟩
  | .local _ .vmem, ⟨14, _⟩ => ⟨S1x2x512x256, .bf16⟩
  | .local _ .vmem, ⟨15, _⟩ => ⟨S1x2x256x512, .bf16⟩
  | .local _ .vmem, ⟨16, _⟩ => ⟨S1x2x256x512, .bf16⟩
  | .local _ .vmem, ⟨17, _⟩ => ⟨S1x2x256x512, .bf16⟩
  | .local _ .vmem, ⟨18, _⟩ => ⟨S1x2x256x512, .bf16⟩
  | .local _ .vmem, ⟨19, _⟩ => ⟨S1x512x512, .bf16⟩
  | .local _ .vmem, ⟨20, _⟩ => ⟨S1x512x512, .bf16⟩
  | .local _ .vmem, ⟨21, _⟩ => ⟨S1x512x512, .bf16⟩
  | .local _ .vmem, ⟨22, _⟩ => ⟨S1x512x512, .bf16⟩
  | .local _ .vmem, ⟨23, _⟩ => ⟨S1x512x1024, .bf16⟩
  | .local _ .vmem, ⟨24, _⟩ => ⟨S1x512x1024, .bf16⟩
  | .local _ .vmem, ⟨25, _⟩ => ⟨S1x512x1024, .bf16⟩
  | .local _ .vmem, ⟨26, _⟩ => ⟨S1x512x1024, .bf16⟩
  | .local _ .vmem, ⟨27, _⟩ => ⟨S1x512x1024, .bf16⟩
  | .local _ .vmem, ⟨28, _⟩ => ⟨S1x512x1024, .bf16⟩
  | .local _ .vmem, ⟨29, _⟩ => ⟨S1x512x1024, .bf16⟩
  | .local _ .vmem, ⟨30, _⟩ => ⟨S1x512x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_3 : Ref sig .tc := ⟨.hbm, 33, rfl⟩
abbrev main_cst_4 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_call0_cst : Ref sig .tc := ⟨.hbm, 38, rfl⟩
abbrev main_call0_v3 : Ref sig .tc := ⟨.hbm, 39, rfl⟩
abbrev main_call0_v4 : Ref sig .tc := ⟨.hbm, 40, rfl⟩
abbrev main_call0_cst_0 : Ref sig .tc := ⟨.hbm, 41, rfl⟩
abbrev main_call0_v5 : Ref sig .tc := ⟨.hbm, 42, rfl⟩
abbrev main_call0_v6 : Ref sig .tc := ⟨.hbm, 43, rfl⟩
abbrev main_call0_v7 : Ref sig .tc := ⟨.hbm, 44, rfl⟩
abbrev main_call0_cst_1 : Ref sig .tc := ⟨.hbm, 45, rfl⟩
abbrev main_call0_v8 : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_call0_v12 : Ref sig .tc := ⟨.hbm, 50, rfl⟩
abbrev main_call0_v13 : Ref sig .tc := ⟨.hbm, 51, rfl⟩
abbrev main_call0_v14 : Ref sig .tc := ⟨.hbm, 52, rfl⟩
abbrev main_call0_v15 : Ref sig .tc := ⟨.hbm, 53, rfl⟩
abbrev main_call0_v16 : Ref sig .tc := ⟨.hbm, 54, rfl⟩
abbrev main_v26 : Ref sig .tc := ⟨.hbm, 55, rfl⟩
abbrev main_cst_5 : Ref sig .tc := ⟨.hbm, 56, rfl⟩
abbrev main_v27 : Ref sig .tc := ⟨.hbm, 57, rfl⟩
abbrev main_v28 : Ref sig .tc := ⟨.hbm, 58, rfl⟩
abbrev main_cst_6 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45_0 : Ref sig .tc := ⟨.hbm, 76, rfl⟩
abbrev main_v45_1 : Ref sig .tc := ⟨.hbm, 77, rfl⟩
abbrev main_v45_2 : Ref sig .tc := ⟨.hbm, 78, rfl⟩
abbrev main_v45_3 : Ref sig .tc := ⟨.hbm, 79, rfl⟩
abbrev main_v45_4 : Ref sig .tc := ⟨.hbm, 80, rfl⟩
abbrev main_v45_5 : Ref sig .tc := ⟨.hbm, 81, rfl⟩
abbrev main_v45_6 : Ref sig .tc := ⟨.hbm, 82, rfl⟩
abbrev main_v45_7 : Ref sig .tc := ⟨.hbm, 83, rfl⟩
abbrev main_v45_8 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x6656 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x2x512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2x256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Reference3Ideal.lean ====
abbrev S4x4096x1024 : Shape := ⟨3, ![4, 4096, 1024]⟩
abbrev S4x1x6144 : Shape := ⟨3, ![4, 1, 6144]⟩
abbrev S1024x6656 : Shape := ⟨2, ![1024, 6656]⟩
abbrev S4x1x1024 : Shape := ⟨3, ![4, 1, 1024]⟩
abbrev S_ : Shape := ⟨0, ![]⟩
abbrev S4x4096x6656 : Shape := ⟨3, ![4, 4096, 6656]⟩
abbrev S4x4096x512 : Shape := ⟨3, ![4, 4096, 512]⟩
abbrev S4096 : Shape := ⟨1, ![4096]⟩
abbrev S4x4096x8x64 : Shape := ⟨4, ![4, 4096, 8, 64]⟩
abbrev S4x8x4096x64 : Shape := ⟨4, ![4, 8, 4096, 64]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4x8x4096x32 : Shape := ⟨4, ![4, 8, 4096, 32]⟩
abbrev S1x1x4096x32 : Shape := ⟨4, ![1, 1, 4096, 32]⟩
abbrev S4x4096x4x128 : Shape := ⟨4, ![4, 4096, 4, 128]⟩
abbrev S4x4x4096x128 : Shape := ⟨4, ![4, 4, 4096, 128]⟩
abbrev S63 : Shape := ⟨1, ![63]⟩
abbrev S1 : Shape := ⟨1, ![1]⟩
abbrev S64 : Shape := ⟨1, ![64]⟩
abbrev S1x64 : Shape := ⟨2, ![1, 64]⟩
abbrev S4096x64 : Shape := ⟨2, ![4096, 64]⟩
abbrev S4x4x4096x64x2 : Shape := ⟨5, ![4, 4, 4096, 64, 2]⟩
abbrev S4x4x4096x64x1 : Shape := ⟨5, ![4, 4, 4096, 64, 1]⟩
abbrev S4x4x4096x64 : Shape := ⟨4, ![4, 4, 4096, 64]⟩
abbrev S1x1x4096x64 : Shape := ⟨4, ![1, 1, 4096, 64]⟩
abbrev S4x16x256x512 : Shape := ⟨4, ![4, 16, 256, 512]⟩
abbrev S4x16x512x256 : Shape := ⟨4, ![4, 16, 512, 256]⟩

abbrev nBuf : Space → Nat
  | .hbm => 277
  | .vmem => 0
  | .smem => 0
  | _ => 0

abbrev hbmTy0_0 (i : Nat) : BufTy := match i % 128 with
  | 0 => ⟨S4x4096x1024, .f32⟩
  | 1 => ⟨S4x1x6144, .f32⟩
  | 2 => ⟨S1024x6656, .f32⟩
  | 3 => ⟨S4x1x1024, .f32⟩
  | 4 => ⟨S4x1x1024, .f32⟩
  | 5 => ⟨S_, .f32⟩
  | 6 => ⟨S4x1x1024, .f32⟩
  | 7 => ⟨S4x1x1024, .f32⟩
  | 8 => ⟨S4x4096x1024, .f32⟩
  | 9 => ⟨S4x4096x1024, .f32⟩
  | 10 => ⟨S4x4096x1024, .f32⟩
  | 11 => ⟨S4x4096x1024, .f32⟩
  | 12 => ⟨S4x4096x6656, .f32⟩
  | 13 => ⟨S4x4096x512, .f32⟩
  | 14 => ⟨S4x4096x512, .f32⟩
  | 15 => ⟨S4x4096x512, .f32⟩
  | 16 => ⟨S4x4096x512, .f32⟩
  | 17 => ⟨S4x4096x512, .f32⟩
  | 18 => ⟨S4x4096x1024, .f32⟩
  | 19 => ⟨S4x4096x1024, .f32⟩
  | 20 => ⟨S4x4096x1024, .f32⟩
  | 21 => ⟨S4x4096x1024, .f32⟩
  | 22 => ⟨S4096, .f32⟩
  | 23 => ⟨S4x4096x8x64, .f32⟩
  | 24 => ⟨S4x8x4096x64, .f32⟩
  | 25 => ⟨S32, .f32⟩
  | 26 => ⟨S_, .f32⟩
  | 27 => ⟨S32, .f32⟩
  | 28 => ⟨S32, .f32⟩
  | 29 => ⟨S_, .f32⟩
  | 30 => ⟨S32, .f32⟩
  | 31 => ⟨S32, .f32⟩
  | 32 => ⟨S32, .f32⟩
  | 33 => ⟨S_, .f32⟩
  | 34 => ⟨S32, .f32⟩
  | 35 => ⟨S32, .f32⟩
  | 36 => ⟨S_, .f32⟩
  | 37 => ⟨S32, .f32⟩
  | 38 => ⟨S32, .f32⟩
  | 39 => ⟨S4096x1, .f32⟩
  | 40 => ⟨S1x32, .f32⟩
  | 41 => ⟨S4096x32, .f32⟩
  | 42 => ⟨S4096x32, .f32⟩
  | 43 => ⟨S4096x32, .f32⟩
  | 44 => ⟨S4096x32, .f32⟩
  | 45 => ⟨S4096x32, .f32⟩
  | 46 => ⟨S4x8x4096x32, .f32⟩
  | 47 => ⟨S4x8x4096x32, .f32⟩
  | 48 => ⟨S1x1x4096x32, .f32⟩
  | 49 => ⟨S4x8x4096x32, .f32⟩
  | 50 => ⟨S4x8x4096x32, .f32⟩
  | 51 => ⟨S1x1x4096x32, .f32⟩
  | 52 => ⟨S4x8x4096x32, .f32⟩
  | 53 => ⟨S4x8x4096x32, .f32⟩
  | 54 => ⟨S4x8x4096x32, .f32⟩
  | 55 => ⟨S1x1x4096x32, .f32⟩
  | 56 => ⟨S4x8x4096x32, .f32⟩
  | 57 => ⟨S4x8x4096x32, .f32⟩
  | 58 => ⟨S1x1x4096x32, .f32⟩
  | 59 => ⟨S4x8x4096x32, .f32⟩
  | 60 => ⟨S4x8x4096x32, .f32⟩
  | 61 => ⟨S4x8x4096x32, .f32⟩
  | 62 => ⟨S4x8x4096x64, .f32⟩
  | 63 => ⟨S4x4096x8x64, .f32⟩
  | 64 => ⟨S4x4096x512, .f32⟩
  | 65 => ⟨S4x4096x8x64, .f32⟩
  | 66 => ⟨S4x8x4096x64, .f32⟩
  | 67 => ⟨S32, .f32⟩
  | 68 => ⟨S_, .f32⟩
  | 69 => ⟨S32, .f32⟩
  | 70 => ⟨S32, .f32⟩
  | 71 => ⟨S_, .f32⟩
  | 72 => ⟨S32, .f32⟩
  | 73 => ⟨S32, .f32⟩
  | 74 => ⟨S32, .f32⟩
  | 75 => ⟨S_, .f32⟩
  | 76 => ⟨S32, .f32⟩
  | 77 => ⟨S32, .f32⟩
  | 78 => ⟨S_, .f32⟩
  | 79 => ⟨S32, .f32⟩
  | 80 => ⟨S32, .f32⟩
  | 81 => ⟨S4096x1, .f32⟩
  | 82 => ⟨S1x32, .f32⟩
  | 83 => ⟨S4096x32, .f32⟩
  | 84 => ⟨S4096x32, .f32⟩
  | 85 => ⟨S4096x32, .f32⟩
  | 86 => ⟨S4096x32, .f32⟩
  | 87 => ⟨S4096x32, .f32⟩
  | 88 => ⟨S4x8x4096x32, .f32⟩
  | 89 => ⟨S4x8x4096x32, .f32⟩
  | 90 => ⟨S1x1x4096x32, .f32⟩
  | 91 => ⟨S4x8x4096x32, .f32⟩
  | 92 => ⟨S4x8x4096x32, .f32⟩
  | 93 => ⟨S1x1x4096x32, .f32⟩
  | 94 => ⟨S4x8x4096x32, .f32⟩
  | 95 => ⟨S4x8x4096x32, .f32⟩
  | 96 => ⟨S4x8x4096x32, .f32⟩
  | 97 => ⟨S1x1x4096x32, .f32⟩
  | 98 => ⟨S4x8x4096x32, .f32⟩
  | 99 => ⟨S4x8x4096x32, .f32⟩
  | 100 => ⟨S1x1x4096x32, .f32⟩
  | 101 => ⟨S4x8x4096x32, .f32⟩
  | 102 => ⟨S4x8x4096x32, .f32⟩
  | 103 => ⟨S4x8x4096x32, .f32⟩
  | 104 => ⟨S4x8x4096x64, .f32⟩
  | 105 => ⟨S4x4096x8x64, .f32⟩
  | 106 => ⟨S4x4096x512, .f32⟩
  | 107 => ⟨S4x4096x4x128, .f32⟩
  | 108 => ⟨S4x4x4096x128, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S63, .f32⟩
  | 117 => ⟨S_, .f32⟩
  | 118 => ⟨S63, .f32⟩
  | 119 => ⟨S63, .f32⟩
  | 120 => ⟨S1, .f32⟩
  | 121 => ⟨S_, .f32⟩
  | 122 => ⟨S63, .f32⟩
  | 123 => ⟨S63, .f32⟩
  | 124 => ⟨S63, .f32⟩
  | 125 => ⟨S63, .f32⟩
  | 126 => ⟨S1, .f32⟩
  | 127 => ⟨S63, .f32⟩
  | _ => ⟨S4x4096x1024, .f32⟩

abbrev hbmTy0_1 (i : Nat) : BufTy := match i % 128 with
  | 0 => ⟨S63, .f32⟩
  | 1 => ⟨S63, .f32⟩
  | 2 => ⟨S1, .f32⟩
  | 3 => ⟨S64, .f32⟩
  | 4 => ⟨S_, .f32⟩
  | 5 => ⟨S64, .f32⟩
  | 6 => ⟨S64, .f32⟩
  | 7 => ⟨S_, .f32⟩
  | 8 => ⟨S64, .f32⟩
  | 9 => ⟨S64, .f32⟩
  | 10 => ⟨S4096x1, .f32⟩
  | 11 => ⟨S1x64, .f32⟩
  | 12 => ⟨S4096x64, .f32⟩
  | 13 => ⟨S4096x64, .f32⟩
  | 14 => ⟨S4096x64, .f32⟩
  | 15 => ⟨S4096x64, .f32⟩
  | 16 => ⟨S4096x64, .f32⟩
  | 17 => ⟨S4x4x4096x64x2, .f32⟩
  | 18 => ⟨S4x4x4096x64x1, .f32⟩
  | 19 => ⟨S4x4x4096x64, .f32⟩
  | 20 => ⟨S4x4x4096x64x1, .f32⟩
  | 21 => ⟨S4x4x4096x64, .f32⟩
  | 22 => ⟨S1x1x4096x64, .f32⟩
  | 23 => ⟨S4x4x4096x64, .f32⟩
  | 24 => ⟨S4x4x4096x64, .f32⟩
  | 25 => ⟨S1x1x4096x64, .f32⟩
  | 26 => ⟨S4x4x4096x64, .f32⟩
  | 27 => ⟨S4x4x4096x64, .f32⟩
  | 28 => ⟨S4x4x4096x64, .f32⟩
  | 29 => ⟨S1x1x4096x64, .f32⟩
  | 30 => ⟨S4x4x4096x64, .f32⟩
  | 31 => ⟨S4x4x4096x64, .f32⟩
  | 32 => ⟨S1x1x4096x64, .f32⟩
  | 33 => ⟨S4x4x4096x64, .f32⟩
  | 34 => ⟨S4x4x4096x64, .f32⟩
  | 35 => ⟨S4x4x4096x64, .f32⟩
  | 36 => ⟨S4x4x4096x64x1, .f32⟩
  | 37 => ⟨S4x4x4096x64x1, .f32⟩
  | 38 => ⟨S4x4x4096x64x2, .f32⟩
  | 39 => ⟨S4x4x4096x128, .f32⟩
  | 40 => ⟨S4x4096x4x128, .f32⟩
  | 41 => ⟨S4x4096x512, .f32⟩
  | 42 => ⟨S4x4096x4x128, .f32⟩
  | 43 => ⟨S4x4x4096x128, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S63, .f32⟩
  | 52 => ⟨S_, .f32⟩
  | 53 => ⟨S63, .f32⟩
  | 54 => ⟨S63, .f32⟩
  | 55 => ⟨S1, .f32⟩
  | 56 => ⟨S_, .f32⟩
  | 57 => ⟨S63, .f32⟩
  | 58 => ⟨S63, .f32⟩
  | 59 => ⟨S63, .f32⟩
  | 60 => ⟨S63, .f32⟩
  | 61 => ⟨S1, .f32⟩
  | 62 => ⟨S63, .f32⟩
  | 63 => ⟨S63, .f32⟩
  | 64 => ⟨S63, .f32⟩
  | 65 => ⟨S1, .f32⟩
  | 66 => ⟨S64, .f32⟩
  | 67 => ⟨S_, .f32⟩
  | 68 => ⟨S64, .f32⟩
  | 69 => ⟨S64, .f32⟩
  | 70 => ⟨S_, .f32⟩
  | 71 => ⟨S64, .f32⟩
  | 72 => ⟨S64, .f32⟩
  | 73 => ⟨S4096x1, .f32⟩
  | 74 => ⟨S1x64, .f32⟩
  | 75 => ⟨S4096x64, .f32⟩
  | 76 => ⟨S4096x64, .f32⟩
  | 77 => ⟨S4096x64, .f32⟩
  | 78 => ⟨S4096x64, .f32⟩
  | 79 => ⟨S4096x64, .f32⟩
  | 80 => ⟨S4x4x4096x64x2, .f32⟩
  | 81 => ⟨S4x4x4096x64x1, .f32⟩
  | 82 => ⟨S4x4x4096x64, .f32⟩
  | 83 => ⟨S4x4x4096x64x1, .f32⟩
  | 84 => ⟨S4x4x4096x64, .f32⟩
  | 85 => ⟨S1x1x4096x64, .f32⟩
  | 86 => ⟨S4x4x4096x64, .f32⟩
  | 87 => ⟨S4x4x4096x64, .f32⟩
  | 88 => ⟨S1x1x4096x64, .f32⟩
  | 89 => ⟨S4x4x4096x64, .f32⟩
  | 90 => ⟨S4x4x4096x64, .f32⟩
  | 91 => ⟨S4x4x4096x64, .f32⟩
  | 92 => ⟨S1x1x4096x64, .f32⟩
  | 93 => ⟨S4x4x4096x64, .f32⟩
  | 94 => ⟨S4x4x4096x64, .f32⟩
  | 95 => ⟨S1x1x4096x64, .f32⟩
  | 96 => ⟨S4x4x4096x64, .f32⟩
  | 97 => ⟨S4x4x4096x64, .f32⟩
  | 98 => ⟨S4x4x4096x64, .f32⟩
  | 99 => ⟨S4x4x4096x64x1, .f32⟩
  | 100 => ⟨S4x4x4096x64x1, .f32⟩
  | 101 => ⟨S4x4x4096x64x2, .f32⟩
  | 102 => ⟨S4x4x4096x128, .f32⟩
  | 103 => ⟨S_, .f32⟩
  | 104 => ⟨S4x4x4096x128, .f32⟩
  | 105 => ⟨S4x4x4096x128, .f32⟩
  | 106 => ⟨S4x4096x4x128, .f32⟩
  | 107 => ⟨S4x4096x512, .f32⟩
  | 108 => ⟨S_, .f32⟩
  | 109 => ⟨S4x4096x512, .f32⟩
  | 110 => ⟨S4x4096x512, .f32⟩
  | 111 => ⟨S4x16x256x512, .f32⟩
  | 112 => ⟨S4x16x512x256, .f32⟩
  | 113 => ⟨S4x16x512x256, .bf16⟩
  | 114 => ⟨S4x16x256x512, .f32⟩
  | 115 => ⟨S4x16x256x512, .bf16⟩
  | 116 => ⟨S4x16x256x512, .f32⟩
  | 117 => ⟨S4x16x256x512, .bf16⟩
  | 118 => ⟨S4x4096x512, .bf16⟩
  | 119 => ⟨S4x4096x512, .bf16⟩
  | 120 => ⟨S4x4096x1024, .bf16⟩
  | 121 => ⟨S4x4096x1024, .f32⟩
  | 122 => ⟨S4x4096x1024, .f32⟩
  | 123 => ⟨S_, .f32⟩
  | 124 => ⟨S4x4096x1024, .f32⟩
  | 125 => ⟨S4x4096x1024, .f32⟩
  | 126 => ⟨S_, .f32⟩
  | 127 => ⟨S4x4096x1024, .f32⟩
  | _ => ⟨S4x4096x1024, .f32⟩

abbrev hbmTy0_2 (i : Nat) : BufTy := match i % 128 with
  | 0 => ⟨S4x4096x1024, .f32⟩
  | 1 => ⟨S4x4096x1024, .f32⟩
  | 2 => ⟨S4x4096x1024, .bf16⟩
  | 3 => ⟨S4x4096x1024, .f32⟩
  | 4 => ⟨S4x4096x1024, .f32⟩
  | 5 => ⟨S_, .f32⟩
  | 6 => ⟨S4x4096x1024, .f32⟩
  | 7 => ⟨S4x4096x1024, .f32⟩
  | 8 => ⟨S_, .f32⟩
  | 9 => ⟨S4x4096x1024, .f32⟩
  | 10 => ⟨S4x4096x1024, .f32⟩
  | 11 => ⟨S4x4096x1024, .bf16⟩
  | 12 => ⟨S4x4096x1024, .f32⟩
  | 13 => ⟨S4x4096x1024, .f32⟩
  | 14 => ⟨S_, .f32⟩
  | 15 => ⟨S4x4096x1024, .f32⟩
  | 16 => ⟨S4x4096x1024, .f32⟩
  | 17 => ⟨S_, .f32⟩
  | 18 => ⟨S4x4096x1024, .f32⟩
  | 19 => ⟨S4x4096x1024, .f32⟩
  | 20 => ⟨S4x4096x1024, .bf16⟩
  | _ => ⟨S4x4096x1024, .f32⟩

abbrev hbmTy (i : Nat) : BufTy := match i / 128 with
  | 0 => hbmTy0_0 i
  | 1 => hbmTy0_1 i
  | 2 => hbmTy0_2 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst_0 : Ref sig .tc := ⟨.hbm, 26, rfl⟩
abbrev main_v22 : Ref sig .tc := ⟨.hbm, 27, rfl⟩
abbrev main_v23 : Ref sig .tc := ⟨.hbm, 28, rfl⟩
abbrev main_cst_1 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_v28 : Ref sig .tc := ⟨.hbm, 35, rfl⟩
abbrev main_cst_3 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_cst_4 : Ref sig .tc := ⟨.hbm, 68, rfl⟩
abbrev main_v60 : Ref sig .tc := ⟨.hbm, 69, rfl⟩
abbrev main_v61 : Ref sig .tc := ⟨.hbm, 70, rfl⟩
abbrev main_cst_5 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_cst_6 : Ref sig .tc := ⟨.hbm, 75, rfl⟩
abbrev main_v65 : Ref sig .tc := ⟨.hbm, 76, rfl⟩
abbrev main_v66 : Ref sig .tc := ⟨.hbm, 77, rfl⟩
abbrev main_cst_7 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_cst_8 : Ref sig .tc := ⟨.hbm, 109, rfl⟩
abbrev main_cst_9 : Ref sig .tc := ⟨.hbm, 110, rfl⟩
abbrev main_call0_v0 : Ref sig .tc := ⟨.hbm, 111, rfl⟩
abbrev main_call0_v1 : Ref sig .tc := ⟨.hbm, 112, rfl⟩
abbrev main_call0_v2 : Ref sig .tc := ⟨.hbm, 113, rfl⟩
abbrev main_call0_cst : Ref sig .tc := ⟨.hbm, 114, rfl⟩
abbrev main_call0_v3 : Ref sig .tc := ⟨.hbm, 115, rfl⟩
abbrev main_call0_v4 : Ref sig .tc := ⟨.hbm, 116, rfl⟩
abbrev main_call0_cst_0 : Ref sig .tc := ⟨.hbm, 117, rfl⟩
abbrev main_call0_v5 : Ref sig .tc := ⟨.hbm, 118, rfl⟩
abbrev main_call0_v6 : Ref sig .tc := ⟨.hbm, 119, rfl⟩
abbrev main_call0_v7 : Ref sig .tc := ⟨.hbm, 120, rfl⟩
abbrev main_call0_cst_1 : Ref sig .tc := ⟨.hbm, 121, rfl⟩
abbrev main_call0_v8 : Ref sig .tc := ⟨.hbm, 122, rfl⟩
abbrev main_call0_v9 : Ref sig .tc := ⟨.hbm, 123, rfl⟩
abbrev main_call0_v10 : Ref sig .tc := ⟨.hbm, 124, rfl⟩
abbrev main_call0_v11 : Ref sig .tc := ⟨.hbm, 125, rfl⟩
abbrev main_call0_v12 : Ref sig .tc := ⟨.hbm, 126, rfl⟩
abbrev main_call0_v13 : Ref sig .tc := ⟨.hbm, 127, rfl⟩
abbrev main_call0_v14 : Ref sig .tc := ⟨.hbm, 128, rfl⟩
abbrev main_call0_v15 : Ref sig .tc := ⟨.hbm, 129, rfl⟩
abbrev main_call0_v16 : Ref sig .tc := ⟨.hbm, 130, rfl⟩
abbrev main_v97 : Ref sig .tc := ⟨.hbm, 131, rfl⟩
abbrev main_cst_10 : Ref sig .tc := ⟨.hbm, 132, rfl⟩
abbrev main_v98 : Ref sig .tc := ⟨.hbm, 133, rfl⟩
abbrev main_v99 : Ref sig .tc := ⟨.hbm, 134, rfl⟩
abbrev main_cst_11 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_cst_12 : Ref sig .tc := ⟨.hbm, 172, rfl⟩
abbrev main_cst_13 : Ref sig .tc := ⟨.hbm, 173, rfl⟩
abbrev main_call1_v0 : Ref sig .tc := ⟨.hbm, 174, rfl⟩
abbrev main_call1_v1 : Ref sig .tc := ⟨.hbm, 175, rfl⟩
abbrev main_call1_v2 : Ref sig .tc := ⟨.hbm, 176, rfl⟩
abbrev main_call1_cst : Ref sig .tc := ⟨.hbm, 177, rfl⟩
abbrev main_call1_v3 : Ref sig .tc := ⟨.hbm, 178, rfl⟩
abbrev main_call1_v4 : Ref sig .tc := ⟨.hbm, 179, rfl⟩
abbrev main_call1_cst_0 : Ref sig .tc := ⟨.hbm, 180, rfl⟩
abbrev main_call1_v5 : Ref sig .tc := ⟨.hbm, 181, rfl⟩
abbrev main_call1_v6 : Ref sig .tc := ⟨.hbm, 182, rfl⟩
abbrev main_call1_v7 : Ref sig .tc := ⟨.hbm, 183, rfl⟩
abbrev main_call1_cst_1 : Ref sig .tc := ⟨.hbm, 184, rfl⟩
abbrev main_call1_v8 : Ref sig .tc := ⟨.hbm, 185, rfl⟩
abbrev main_call1_v9 : Ref sig .tc := ⟨.hbm, 186, rfl⟩
abbrev main_call1_v10 : Ref sig .tc := ⟨.hbm, 187, rfl⟩
abbrev main_call1_v11 : Ref sig .tc := ⟨.hbm, 188, rfl⟩
abbrev main_call1_v12 : Ref sig .tc := ⟨.hbm, 189, rfl⟩
abbrev main_call1_v13 : Ref sig .tc := ⟨.hbm, 190, rfl⟩
abbrev main_call1_v14 : Ref sig .tc := ⟨.hbm, 191, rfl⟩
abbrev main_call1_v15 : Ref sig .tc := ⟨.hbm, 192, rfl⟩
abbrev main_call1_v16 : Ref sig .tc := ⟨.hbm, 193, rfl⟩
abbrev main_v136 : Ref sig .tc := ⟨.hbm, 194, rfl⟩
abbrev main_cst_14 : Ref sig .tc := ⟨.hbm, 195, rfl⟩
abbrev main_v137 : Ref sig .tc := ⟨.hbm, 196, rfl⟩
abbrev main_v138 : Ref sig .tc := ⟨.hbm, 197, rfl⟩
abbrev main_cst_15 : Ref sig .tc := ⟨.hbm, 198, rfl⟩
abbrev main_v139 : Ref sig .tc := ⟨.hbm, 199, rfl⟩
abbrev main_v140 : Ref sig .tc := ⟨.hbm, 200, rfl⟩
abbrev main_v141 : Ref sig .tc := ⟨.hbm, 201, rfl⟩
abbrev main_v142 : Ref sig .tc := ⟨.hbm, 202, rfl⟩
abbrev main_v143 : Ref sig .tc := ⟨.hbm, 203, rfl⟩
abbrev main_v144 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_v148 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩
abbrev main_v152 : Ref sig .tc := ⟨.hbm, 212, rfl⟩
abbrev main_v153 : Ref sig .tc := ⟨.hbm, 213, rfl⟩
abbrev main_v154 : Ref sig .tc := ⟨.hbm, 214, rfl⟩
abbrev main_v155 : Ref sig .tc := ⟨.hbm, 215, rfl⟩
abbrev main_v156 : Ref sig .tc := ⟨.hbm, 216, rfl⟩
abbrev main_v157 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩
abbrev main_v161 : Ref sig .tc := ⟨.hbm, 221, rfl⟩
abbrev main_v162 : Ref sig .tc := ⟨.hbm, 222, rfl⟩
abbrev main_v163 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_v170 : Ref sig .tc := ⟨.hbm, 230, rfl⟩
abbrev main_cst_16 : Ref sig .tc := ⟨.hbm, 231, rfl⟩
abbrev main_v171 : Ref sig .tc := ⟨.hbm, 232, rfl⟩
abbrev main_v172 : Ref sig .tc := ⟨.hbm, 233, rfl⟩
abbrev main_v173 : Ref sig .tc := ⟨.hbm, 234, rfl⟩
abbrev main_v174 : Ref sig .tc := ⟨.hbm, 235, rfl⟩
abbrev main_cst_17 : Ref sig .tc := ⟨.hbm, 236, rfl⟩
abbrev main_v175 : Ref sig .tc := ⟨.hbm, 237, rfl⟩
abbrev main_v176 : Ref sig .tc := ⟨.hbm, 238, rfl⟩
abbrev main_v177 : Ref sig .tc := ⟨.hbm, 239, rfl⟩
abbrev main_v178 : Ref sig .tc := ⟨.hbm, 240, rfl⟩
abbrev main_v179 : Ref sig .tc := ⟨.hbm, 241, rfl⟩
abbrev main_v180 : Ref sig .tc := ⟨.hbm, 242, rfl⟩
abbrev main_v181 : Ref sig .tc := ⟨.hbm, 243, rfl⟩
abbrev main_v182 : Ref sig .tc := ⟨.hbm, 244, rfl⟩
abbrev main_v183 : Ref sig .tc := ⟨.hbm, 245, rfl⟩
abbrev main_v184 : Ref sig .tc := ⟨.hbm, 246, rfl⟩
abbrev main_v185 : Ref sig .tc := ⟨.hbm, 247, rfl⟩
abbrev main_v186 : Ref sig .tc := ⟨.hbm, 248, rfl⟩
abbrev main_call2_v0 : Ref sig .tc := ⟨.hbm, 249, rfl⟩
abbrev main_call2_v1 : Ref sig .tc := ⟨.hbm, 250, rfl⟩
abbrev main_call2_cst : Ref sig .tc := ⟨.hbm, 251, rfl⟩
abbrev main_call2_v2 : Ref sig .tc := ⟨.hbm, 252, rfl⟩
abbrev main_call2_v3 : Ref sig .tc := ⟨.hbm, 253, rfl⟩
abbrev main_call2_cst_0 : Ref sig .tc := ⟨.hbm, 254, rfl⟩
abbrev main_call2_v4 : Ref sig .tc := ⟨.hbm, 255, rfl⟩
abbrev main_call2_v5 : Ref sig .tc := ⟨.hbm, 256, rfl⟩
abbrev main_v187 : Ref sig .tc := ⟨.hbm, 257, rfl⟩
abbrev main_v188 : Ref sig .tc := ⟨.hbm, 258, rfl⟩
abbrev main_v189 : Ref sig .tc := ⟨.hbm, 259, rfl⟩
abbrev main_v190 : Ref sig .tc := ⟨.hbm, 260, rfl⟩
abbrev main_cst_18 : Ref sig .tc := ⟨.hbm, 261, rfl⟩
abbrev main_v191 : Ref sig .tc := ⟨.hbm, 262, rfl⟩
abbrev main_v192 : Ref sig .tc := ⟨.hbm, 263, rfl⟩
abbrev main_cst_19 : Ref sig .tc := ⟨.hbm, 264, rfl⟩
abbrev main_v193 : Ref sig .tc := ⟨.hbm, 265, rfl⟩
abbrev main_v194 : Ref sig .tc := ⟨.hbm, 266, rfl⟩
abbrev main_v195 : Ref sig .tc := ⟨.hbm, 267, rfl⟩
abbrev main_v196 : Ref sig .tc := ⟨.hbm, 268, rfl⟩
abbrev main_v197 : Ref sig .tc := ⟨.hbm, 269, rfl⟩
abbrev main_cst_20 : Ref sig .tc := ⟨.hbm, 270, rfl⟩
abbrev main_v198 : Ref sig .tc := ⟨.hbm, 271, rfl⟩
abbrev main_v199 : Ref sig .tc := ⟨.hbm, 272, rfl⟩
abbrev main_cst_21 : Ref sig .tc := ⟨.hbm, 273, rfl⟩
abbrev main_v200 : Ref sig .tc := ⟨.hbm, 274, rfl⟩
abbrev main_v201 : Ref sig .tc := ⟨.hbm, 275, rfl⟩
abbrev main_v202 : Ref sig .tc := ⟨.hbm, 276, rfl⟩

abbrev nD : Nat := 1
abbrev τ : Topo := Topo.v7x

variable {F : FTy → Type} [FloatOps F]
-- ==== Kernel4.lean ====
abbrev S4x1024 : Shape := ⟨2, ![4, 1024]⟩
abbrev S1024x6144 : Shape := ⟨2, ![1024, 6144]⟩
abbrev S6144 : Shape := ⟨1, ![6144]⟩
abbrev S_ : Shape := ⟨0, ![]⟩
abbrev S16x1024 : Shape := ⟨2, ![16, 1024]⟩
abbrev S1x6144 : Shape := ⟨2, ![1, 6144]⟩
abbrev S16x6144 : Shape := ⟨2, ![16, 6144]⟩
abbrev S1024x1536 : Shape := ⟨2, ![1024, 1536]⟩
abbrev S1x1536 : Shape := ⟨2, ![1, 1536]⟩
abbrev S16x1536 : Shape := ⟨2, ![16, 1536]⟩
abbrev S32x1024 : Shape := ⟨2, ![32, 1024]⟩
abbrev S32x1536 : Shape := ⟨2, ![32, 1536]⟩

abbrev nBuf : Space → Nat
  | .hbm => 8
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S1024x6144, .f32⟩
  | .hbm, ⟨2, _⟩ => ⟨S6144, .f32⟩
  | .hbm, ⟨3, _⟩ => ⟨S_, .i32⟩
  | .hbm, ⟨4, _⟩ => ⟨S_, .f32⟩
  | .hbm, ⟨5, _⟩ => ⟨S16x1024, .f32⟩
  | .hbm, ⟨6, _⟩ => ⟨S1x6144, .f32⟩
  | .hbm, ⟨7, _⟩ => ⟨S16x6144, .f32⟩
  | .local _ .vmem, ⟨0, _⟩ => ⟨S16x1024, .f32⟩
  | .local _ .vmem, ⟨1, _⟩ => ⟨S1024x1536, .f32⟩
  | .local _ .vmem, ⟨2, _⟩ => ⟨S1024x1536, .f32⟩
  | .local _ .vmem, ⟨3, _⟩ => ⟨S1x1536, .f32⟩
  | .local _ .vmem, ⟨4, _⟩ => ⟨S1x1536, .f32⟩
  | .local _ .vmem, ⟨5, _⟩ => ⟨S16x1536, .f32⟩
  | .local _ .vmem, ⟨6, _⟩ => ⟨S16x1536, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S4x1024 : Shape := ⟨2, ![4, 1024]⟩
abbrev S1024x6144 : Shape := ⟨2, ![1024, 6144]⟩
abbrev S6144 : Shape := ⟨1, ![6144]⟩
abbrev S_ : Shape := ⟨0, ![]⟩
abbrev S16x1024 : Shape := ⟨2, ![16, 1024]⟩
abbrev S16x6144 : Shape := ⟨2, ![16, 6144]⟩
abbrev S1x6144 : Shape := ⟨2, ![1, 6144]⟩

abbrev nBuf : Space → Nat
  | .hbm => 19
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S1024x6144, .f32⟩
  | .hbm, ⟨2, _⟩ => ⟨S6144, .f32⟩
  | .hbm, ⟨3, _⟩ => ⟨S_, .i32⟩
  | .hbm, ⟨4, _⟩ => ⟨S_, .f32⟩
  | .hbm, ⟨5, _⟩ => ⟨S16x1024, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S_, .f32⟩
  | .hbm, ⟨12, _⟩ => ⟨S16x1024, .f32⟩
  | .hbm, ⟨13, _⟩ => ⟨S16x1024, .f32⟩
  | .hbm, ⟨14, _⟩ => ⟨S16x1024, .f32⟩
  | .hbm, ⟨15, _⟩ => ⟨S16x6144, .f32⟩
  | .hbm, ⟨16, _⟩ => ⟨S1x6144, .f32⟩
  | .hbm, ⟨17, _⟩ => ⟨S16x6144, .f32⟩
  | .hbm, ⟨18, _⟩ => ⟨S16x6144, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_call1_v0 : Ref sig .tc := ⟨.hbm, 6, rfl⟩
abbrev main_call1_v1 : Ref sig .tc := ⟨.hbm, 7, rfl⟩
abbrev main_call1_cst : Ref sig .tc := ⟨.hbm, 8, rfl⟩
abbrev main_call1_v2 : Ref sig .tc := ⟨.hbm, 9, rfl⟩
abbrev main_call1_v3 : Ref sig .tc := ⟨.hbm, 10, rfl⟩
abbrev main_call1_cst_0 : Ref sig .tc := ⟨.hbm, 11, rfl⟩
abbrev main_call1_v4 : Ref sig .tc := ⟨.hbm, 12, rfl⟩
abbrev main_call1_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩

abbrev nD : Nat := 1
abbrev τ : Topo := Topo.v7x

variable {F : FTy → Type} [FloatOps F]
-- ==== Proof.Ret.Chunk.lean ====
/- The retention kernel's body as one recursion over its 32 chunks of 128 positions: the state before a chunk, the
   scores, the two products, the normalised and gated rows, and that a grid point's stores are exactly these rows. -/
module

public import proofs.«01_k».proof.Proof.Gen.KernelIdeal.Value
public import Idealize.ShloMosaic.Lib.Pipeline.ValueKit

@[expose] public section

set_option maxRecDepth 16384

noncomputable section

namespace Cert.KernelIdeal.Ret

open Cert.KernelIdeal Cert.KernelIdeal.Gen Idealize.ShloMosaic Idealize.ShloMosaic.TcCoe Idealize.SL.Sem
open Idealize.ShloMosaic.Pipeline (Dat)

variable {F : FTy → Type} [FloatOps F]

/-- Rows `128 n` to `128 n + 127` of a block of queries or keys. -/
theorem inbK (n : Nat) (a : Fin 3) : (![0, 128 * (n % 32), 0] : Fin 3 → Nat) a + S1x128x128.size a ≤ S1x4096x128.size a := by
  fin_cases a <;> simp [S1x128x128, S1x4096x128] <;> omega

/-- Rows `128 n` to `128 n + 127` of a block of values, gates or outputs. -/
theorem inbV (n : Nat) (a : Fin 3) : (![0, 128 * (n % 32), 0] : Fin 3 → Nat) a + S1x128x256.size a ≤ S1x4096x256.size a := by
  fin_cases a <;> simp [S1x128x256, S1x4096x256] <;> omega

/-- The rectangle of chunk `n` in a block 128 wide. -/
def rectK (n : Nat) : Rect S1x4096x128 := Rect.unit ![0, 128 * (n % 32), 0] S1x128x128.size (inbK n)

/-- The rectangle of chunk `n` in a block 256 wide. -/
def rectV (n : Nat) : Rect S1x4096x256 := Rect.unit ![0, 128 * (n % 32), 0] S1x128x256.size (inbV n)

/-- Chunk `n` of a block 128 wide, as a matrix. -/
def rowsK (x : Vec F S1x4096x128 .bf16) (n : Nat) : FVec F S128x128 .bf16 :=
  shapeCast S128x128 (View.ld x (rectK n)) shapeCasts_S1x128x128_S128x128

/-- Chunk `n` of a block 256 wide, as a matrix. -/
def rowsV (x : Vec F S1x4096x256 .bf16) (n : Nat) : FVec F S128x256 .bf16 :=
  shapeCast S128x256 (View.ld x (rectV n)) shapeCasts_S1x128x256_S128x256

/-- A decay table under its unit axis, as a matrix. -/
def table (x : Vec F S1x128x128 .f32) : FVec F S128x128 .f32 := shapeCast S128x128 x shapeCasts_S1x128x128_S128x128

/-- What chunk `n` adds to the state: its decayed keys, transposed, times its values. -/
def kvOf (k : Vec F S1x4096x128 .bf16) (v : Vec F S1x4096x256 .bf16) (kdec : Vec F S1x128x128 .f32) (n : Nat) :
    FVec F S128x256 .f32 :=
  matmul dot_S128x128_S128x256_S128x256_0_0_1_1_n_n none
    (truncf .bf16 (mulf (extf .f32 (rowsK k n) bitsLt_bf16_f32) (table kdec)) bitsLt_bf16_f32) (rowsV v n)
    (constant S128x256 .f32 0x00000000#32)

/-- The state before chunk `n`. -/
def stateAt (cd : Elt F .f32) (k : Vec F S1x4096x128 .bf16) (v : Vec F S1x4096x256 .bf16) (kdec : Vec F S1x128x128 .f32) :
    Nat → FVec F S128x256 .f32
  | 0 => k0_pay3
  | n + 1 => addf (mulf (broadcast S128x256 cd) (stateAt cd k v kdec n)) (kvOf k v kdec n)

/-- Chunk `n`'s scores times the decay inside a chunk. -/
def scoresOf (q k : Vec F S1x4096x128 .bf16) (dint : Vec F S1x128x128 .f32) (n : Nat) : FVec F S128x128 .bf16 :=
  truncf .bf16 (mulf (matmul dot_S128x128_S128x128_S128x128_1_1_0_0_n_n none (rowsK q n) (rowsK k n)
    (constant S128x128 .f32 0x00000000#32)) (table dint)) bitsLt_bf16_f32

/-- Chunk `n`'s rows before the normalisation: the part inside the chunk and the part through the state `s`. -/
def innerOf (q k : Vec F S1x4096x128 .bf16) (v : Vec F S1x4096x256 .bf16) (dint qdec : Vec F S1x128x128 .f32)
    (s : FVec F S128x256 .f32) (n : Nat) : FVec F S128x256 .f32 :=
  addf (matmul dot_S128x128_S128x256_S128x256_1_0_0_1_n_n none (scoresOf q k dint n) (rowsV v n)
      (constant S128x256 .f32 0x00000000#32))
    (matmul dot_S128x128_S128x256_S128x256_1_0_0_1_n_n none
      (truncf .bf16 (mulf (extf .f32 (rowsK q n) bitsLt_bf16_f32) (table qdec)) bitsLt_bf16_f32)
      (truncf .bf16 s bitsLt_bf16_f32) (constant S128x256 .f32 0x00000000#32))

/-- A row's mean, under a unit axis. -/
def meanOf (x : FVec F S128x256 .f32) : FVec F S128x1 .f32 :=
  divf (shapeCast S128x1 (multiReduction .add [1] S128 x 0x00000000#32 reduces_S128x256_S128 (.inl rfl) rfl)
    shapeCasts_S128_S128x1) (broadcast S128x1 (Scalar.ofBits .f32 0x43800000#32))

/-- Rows less their means. -/
def centred (x : FVec F S128x256 .f32) : FVec F S128x256 .f32 :=
  subf x (broadcastTo S128x256 (meanOf x) broadcasts_S128x1_S128x256)

/-- Rows normalised and gated, as they are stored. -/
def gated (x : FVec F S128x256 .f32) (g : FVec F S128x256 .bf16) : FVec F S1x128x256 .bf16 :=
  shapeCast S1x128x256 (truncf .bf16 (mulf (mulf (centred x) (broadcastTo S128x256 (rsqrt (addf
      (meanOf (mulf (centred x) (centred x))) (broadcast S128x1 (Scalar.ofBits .f32 0x3727C5AC#32))))
      broadcasts_S128x1_S128x256)) (extf .f32 g bitsLt_bf16_f32)) bitsLt_bf16_f32) shapeCasts_S128x256_S1x128x256

/-- What a grid point stores for chunk `n`. -/
def chunkOut (cd : Elt F .f32) (q k : Vec F S1x4096x128 .bf16) (v sg : Vec F S1x4096x256 .bf16)
    (dint kdec qdec : Vec F S1x128x128 .f32) (n : Nat) : FVec F S1x128x256 .bf16 :=
  gated (innerOf q k v dint qdec (stateAt cd k v kdec n) n) (rowsV sg n)

/-- A grid point's decay from chunk to chunk. -/
def cdOf (m : (ℓ : Loc nD τ sig) → Buf (Elt F) ℓ) (c : Dev nD) (t : Fin cfg0.N) : Elt F .f32 :=
  View.ld (iblk m c 0 t) (Rect.unit (s := S4) (k0_off1 (grid0.coords t)) S1.size (k0_off1_inb (grid0.coords t)))
    (Shape.Idx.first (numel1_S1.symm ▸ Nat.one_pos : 0 < S1.numel))

/-- The piece a grid point stores for chunk `n`. -/
def pieceAt (m : (ℓ : Loc nD τ sig) → Buf (Elt F) ℓ) (c : Dev nD) (t : Fin cfg0.N) (n : Nat) :
    View.Piece (Elt F) S1x4096x256 .bf16 :=
  ⟨rectV n, chunkOut (cdOf m c t) (iblk m c 1 t) (iblk m c 2 t) (iblk m c 3 t) (iblk m c 4 t) (iblk m c 5 t)
    (iblk m c 6 t) (iblk m c 7 t) n⟩

set_option maxHeartbeats 4000000 in
/-- A grid point's stores, last first: one piece per chunk. -/
theorem outs_pieces (m : (ℓ : Loc nD τ sig) → Buf (Elt F) ℓ) (c : Dev nD) (t : Fin cfg0.N) :
    outsAt0 m c t = View.canon ((List.range 32).reverse.map (pieceAt m c t)) := by
  unfold outsAt0 out0_A_8
  rw [View.read_writes_junk_eq_canon]
  unfold kernelRun0_A
  dsimp only
  sl_unfold_words
  have hz2 : (![0, 0] : Fin 2 → Nat) = fun _ => 0 := by decide
  have hz3 : (![0, 0, 0] : Fin 3 → Nat) = fun _ => 0 := by decide
  simp only [View.readAt_eq_ld, (hs0_0 t).read_unread, (hs0_1 t).read_unread, (hs0_2 t).read_unread,
    (hs0_3 t).read_unread, (hs0_4 t).read_unread, (hs0_5 t).read_unread, (hs0_6 t).read_unread,
    (hs0_7 t).read_unread, View.ld_unit_zero (S := S1x128x128) hz3, View.readCov_unit_zero (S := S128x256) _ hz2]
  rfl

end Cert.KernelIdeal.Ret
-- ==== Proof.Ret.Spec.lean ====
/- Retention over the extended reals, at one row of one head: the state before a chunk, the row before the normalisation, and
   the normalised row. -/
module

public import Idealize.ShloMosaic.Lib.Pointwise

@[expose] public section

noncomputable section

namespace Cert.Ret

open Idealize.ShloMosaic

/-- Row `r` of chunk `n`. -/
def row (n : Nat) (r : Fin 128) : Fin 4096 := ⟨128 * (n % 32) + r, by omega⟩

/-- A row, from its chunk and its place in it. -/
theorem row_div_mod (s : Fin 4096) : row (s.val / 128) ⟨s.val % 128, Nat.mod_lt _ (by omega)⟩ = s := by
  apply Fin.ext
  simp only [row]
  omega

/-- A value carried from chunk to chunk: decayed by `cd`, plus what the chunk adds. -/
def carried (cd : EReal) (kv : Nat → EReal) : Nat → EReal
  | 0 => 0
  | n + 1 => cd * carried cd kv n + kv n

/-- What chunk `n` adds to the state at key component `d` and value component `e`. -/
def added (k : Fin 4096 → Fin 128 → EReal) (v : Fin 4096 → Fin 256 → EReal) (kdec : Fin 128 → EReal) (d : Fin 128) (e : Fin 256)
    (n : Nat) : EReal :=
  ∑ x : Fin 128, k (row n x) d * kdec x * v (row n x) e

/-- The state before chunk `n`. -/
def state (cd : EReal) (k : Fin 4096 → Fin 128 → EReal) (v : Fin 4096 → Fin 256 → EReal) (kdec : Fin 128 → EReal) (n : Nat)
    (d : Fin 128) (e : Fin 256) : EReal :=
  carried cd (added k v kdec d e) n

/-- Row `r` of chunk `n` before the normalisation, from the state `S`. -/
def inner (q k : Fin 4096 → Fin 128 → EReal) (v : Fin 4096 → Fin 256 → EReal) (dint : Fin 128 → Fin 128 → EReal)
    (qdec : Fin 128 → EReal) (S : Fin 128 → Fin 256 → EReal) (n : Nat) (r : Fin 128) (e : Fin 256) : EReal :=
  ∑ x : Fin 128, (∑ y : Fin 128, q (row n r) y * k (row n x) y) * dint r x * v (row n x) e
    + ∑ x : Fin 128, q (row n r) x * qdec r * S x e

/-- A row less its mean. -/
def centred (x : Fin 256 → EReal) (e : Fin 256) : EReal :=
  x e - Ideal.div (∑ a : Fin 256, x a) (Ideal.ofBits .f32 0x43800000#32)

/-- A row normalised. -/
def normed (x : Fin 256 → EReal) (e : Fin 256) : EReal :=
  centred x e * Ideal.rsqrt (Ideal.div (∑ a : Fin 256, centred x a * centred x a) (Ideal.ofBits .f32 0x43800000#32)
    + Ideal.ofBits .f32 0x3727C5AC#32)

/-- A head's normalised row `s`. -/
def headRow (cd : EReal) (q k : Fin 4096 → Fin 128 → EReal) (v : Fin 4096 → Fin 256 → EReal) (dint : Fin 128 → Fin 128 → EReal)
    (kdec qdec : Fin 128 → EReal) (s : Fin 4096) (e : Fin 256) : EReal :=
  normed (inner q k v dint qdec (state cd k v kdec (s.val / 128)) (s.val / 128) ⟨s.val % 128, Nat.mod_lt _ (by omega)⟩) e

end Cert.Ret
-- ==== Proof.Ret.KernelRead.lean ====
/- The retention kernel read at one index: a chunk's rows, what it adds to the state, the state before it, its rows before the
   normalisation and as they are stored. -/
module

public import proofs.«01_k».proof.Proof.Ret.Chunk
public import proofs.«01_k».proof.Proof.Ret.Spec

@[expose] public section

set_option maxRecDepth 16384

noncomputable section

namespace Cert.KernelIdeal.Ret

open Cert.KernelIdeal Cert.KernelIdeal.Gen Idealize.ShloMosaic Idealize.ShloMosaic.TcCoe Idealize.SL.Sem
open Idealize.ShloMosaic.Pipeline (Dat)
open Cert.Ret (row)

/-- A block of queries or keys by position. -/
def blkK (x : Vec Ideal S1x4096x128 .bf16) (s : Fin 4096) (d : Fin 128) : EReal := x (ix3 0 s d)

/-- A block of values or gates by position. -/
def blkV (x : Vec Ideal S1x4096x256 .bf16) (s : Fin 4096) (e : Fin 256) : EReal := x (ix3 0 s e)

/-- A decay table by position and lane. -/
def tab (x : Vec Ideal S1x128x128 .f32) (r d : Fin 128) : EReal := x (ix3 0 r d)

theorem rowsK_apply (x : Vec Ideal S1x4096x128 .bf16) (n : Nat) (r d : Fin 128) : rowsK x n (ix2 r d) = blkK x (row n r) d := by
  have hc : ∀ y : FVec Ideal S1x128x128 .bf16, shapeCast S128x128 y shapeCasts_S1x128x128_S128x128 (ix2 r d) = y (ix3 0 r d) := by
    intro y
    pointwise
  refine (hc _).trans ?_
  exact View.ld_unit_apply_of x _ _ (inbK n) _ _ (fun a => by fin_cases a <;> simp [row])

theorem rowsV_apply (x : Vec Ideal S1x4096x256 .bf16) (n : Nat) (r : Fin 128) (d : Fin 256) :
    rowsV x n (ix2 r d) = blkV x (row n r) d := by
  have hc : ∀ y : FVec Ideal S1x128x256 .bf16, shapeCast S128x256 y shapeCasts_S1x128x256_S128x256 (ix2 r d) = y (ix3 0 r d) := by
    intro y
    pointwise
  refine (hc _).trans ?_
  exact View.ld_unit_apply_of x _ _ (inbV n) _ _ (fun a => by fin_cases a <;> simp [row])

theorem table_apply (x : Vec Ideal S1x128x128 .f32) (r d : Fin 128) : table x (ix2 r d) = tab x r d := by
  unfold table tab
  pointwise

theorem kvOf_apply (k : Vec Ideal S1x4096x128 .bf16) (v : Vec Ideal S1x4096x256 .bf16) (kdec : Vec Ideal S1x128x128 .f32)
    (n : Nat) (d : Fin 128) (e : Fin 256) :
    kvOf k v kdec n (ix2 d e) = Cert.Ret.added (blkK k) (blkV v) (fun r => tab kdec r d) d e n := by
  unfold kvOf Cert.Ret.added
  pointwise [rowsK_apply, rowsV_apply, table_apply]

theorem innerOf_apply (q k : Vec Ideal S1x4096x128 .bf16) (v : Vec Ideal S1x4096x256 .bf16)
    (dint qdec : Vec Ideal S1x128x128 .f32) (f : Fin 128 → EReal) (hf : ∀ r d, tab qdec r d = f r) (s : FVec Ideal S128x256 .f32)
    (n : Nat) (r : Fin 128) (e : Fin 256) :
    innerOf q k v dint qdec s n (ix2 r e)
      = Cert.Ret.inner (blkK q) (blkK k) (blkV v) (tab dint) f (fun x e => s (ix2 x e)) n r e := by
  unfold innerOf scoresOf Cert.Ret.inner
  pointwise [rowsK_apply, rowsV_apply, table_apply, hf]

theorem gated_apply (x : FVec Ideal S128x256 .f32) (g : FVec Ideal S128x256 .bf16) (r : Fin 128) (e : Fin 256) :
    gated x g (ix3 0 r e) = Cert.Ret.normed (fun e => x (ix2 r e)) e * g (ix2 r e) := by
  unfold gated centred meanOf Cert.Ret.normed Cert.Ret.centred
  pointwise

theorem stateAt_apply (cd : EReal) (k : Vec Ideal S1x4096x128 .bf16) (v : Vec Ideal S1x4096x256 .bf16)
    (kdec : Vec Ideal S1x128x128 .f32) (f : Fin 128 → EReal) (hf : ∀ r d, tab kdec r d = f r) (n : Nat) (d : Fin 128) (e : Fin 256) :
    stateAt (F := Ideal) cd k v kdec n (ix2 d e) = Cert.Ret.state cd (blkK k) (blkV v) f n d e := by
  induction n with
  | zero =>
    unfold stateAt
    pointwise [k0_pay3]
    rfl
  | succ n ih =>
    unfold stateAt
    pointwise [ih, kvOf_apply, hf]
    rfl

/-- A chunk's stored rows at one index. -/
theorem chunkOut_apply (cd : EReal) (q k : Vec Ideal S1x4096x128 .bf16) (v sg : Vec Ideal S1x4096x256 .bf16)
    (dint kdec qdec : Vec Ideal S1x128x128 .f32) (fk fq : Fin 128 → EReal) (hk : ∀ r d, tab kdec r d = fk r)
    (hq : ∀ r d, tab qdec r d = fq r) (n : Nat) (r : Fin 128) (e : Fin 256) :
    chunkOut (F := Ideal) cd q k v sg dint kdec qdec n (ix3 0 r e)
      = Cert.Ret.normed (Cert.Ret.inner (blkK q) (blkK k) (blkV v) (tab dint) fq (Cert.Ret.state cd (blkK k) (blkV v) fk n) n r) e
        * blkV sg (row n r) e := by
  unfold chunkOut
  rw [gated_apply, rowsV_apply]
  congr 2
  funext e
  rw [innerOf_apply _ _ _ _ _ fq hq]
  congr 1
  funext x e
  exact stateAt_apply _ _ _ _ fk hk _ _ _

end Cert.KernelIdeal.Ret
-- ==== Proof.Ret.RefRead.lean ====
/- The reference's retention read at one index: the decay tables as arrays over heads and positions, the queries, keys and
   values of a chunk, the rows before the normalisation, and the result as a function of the state before each chunk. -/
module

public import proofs.«01_k».proof.Proof.Gen.ReferenceIdeal.StepRun
public import proofs.«01_k».proof.Proof.Ret.Spec

@[expose] public section

set_option maxRecDepth 16384

noncomputable section

namespace Cert.ReferenceIdeal.Ret

open Cert.ReferenceIdeal Cert.ReferenceIdeal.Gen Idealize.ShloMosaic Idealize.ShloMosaic.TcCoe Idealize.SL.Sem

/-- Per head, the logarithm of its decay. -/
def logGamma : FVec Ideal S4 .f32 :=
  Host.log (subf (broadcastInDim S4 ![] bcast_S_S4 (constant S_ .f32 0x3F800000#32))
    (Host.powf (broadcastInDim S4 ![] bcast_S_S4 (constant S_ .f32 0x40000000#32))
      (subf (broadcastInDim S4 ![] bcast_S_S4 (constant S_ .f32 0xC0A00000#32)) (sitofp .f32 (iotaInDim S4 32 0)))))

/-- How far position `i` lies behind position `j`, inside a chunk. -/
def lag : FVec Ideal S128x128 .f32 :=
  subf (broadcastInDim S128x128 ![0, 1] bcast_S128x1_S128x128_0_1 (broadcastInDim S128x1 ![0] bcast_S128_S128x1_0
      (sitofp .f32 (iotaInDim S128 32 0))))
    (broadcastInDim S128x128 ![0, 1] bcast_S1x128_S128x128_0_1 (broadcastInDim S1x128 ![1] bcast_S128_S1x128_1
      (sitofp .f32 (iotaInDim S128 32 0))))

/-- The decay between two positions of a chunk, as if the first were never ahead of the second. -/
def decayE : FVec Ideal S4x128x128 .f32 :=
  Host.exp (mulf (broadcastInDim S4x128x128 ![0, 1, 2] bcast_S4x1x1_S4x128x128_0_1_2
        (broadcastInDim S4x1x1 ![0] bcast_S4_S4x1x1_0 logGamma))
      (broadcastInDim S4x128x128 ![0, 1, 2] bcast_S1x128x128_S4x128x128_0_1_2
        (broadcastInDim S1x128x128 ![1, 2] bcast_S128x128_S1x128x128_1_2
          (maximumf lag (broadcastInDim S128x128 ![] bcast_S_S128x128 (constant S_ .f32 0x00000000#32))))))

/-- The decay between two positions of a chunk, zero ahead of the diagonal. -/
def decayIn : FVec Ideal S4x128x128 .f32 :=
  select (broadcastInDim S4x128x128 ![1, 2] bcast_S128x128_S4x128x128_1_2
      (cmpi .sge (broadcastInDim S128x128 ![0, 1] bcast_S128x1_S128x128_0_1 (broadcastInDim S128x1 ![0] bcast_S128_S128x1_0
          (iotaInDim S128 32 0))) (broadcastInDim S128x128 ![0, 1] bcast_S1x128_S128x128_0_1
        (broadcastInDim S1x128 ![1] bcast_S128_S1x128_1 (iotaInDim S128 32 0)))))
    decayE
    (broadcastInDim S4x128x128 ![] bcast_S_S4x128x128 (constant S_ .f32 0x00000000#32))

/-- The decay from a chunk's start up to and including each of its positions. -/
def decayQ : FVec Ideal S4x128 .f32 :=
  Host.exp (mulf (broadcastInDim S4x128 ![0, 1] bcast_S4x1_S4x128_0_1 (broadcastInDim S4x1 ![0] bcast_S4_S4x1_0 logGamma))
    (broadcastInDim S4x128 ![0, 1] bcast_S1x128_S4x128_0_1 (broadcastInDim S1x128 ![1] bcast_S128_S1x128_1
      (addf (sitofp .f32 (iotaInDim S128 32 0)) (broadcastInDim S128 ![] bcast_S_S128 (constant S_ .f32 0x3F800000#32))))))

/-- The decay from each position to its chunk's last. -/
def decayK : FVec Ideal S4x128 .f32 := Step.K_main_v22 (F := Ideal)

/-- The decay over a whole chunk. -/
def decayC : FVec Ideal S4 .f32 := Step.K_main_v25 (F := Ideal)

/-- Queries or keys by batch, head, chunk and position. -/
def headsK (x : FVec Ideal S4x4096x512 .bf16) : FVec Ideal S4x4x32x128x128 .f32 :=
  shapeCast _ (transpose S4x4x4096x128 [0, 2, 1, 3] (shapeCast _ (extf .f32 x bitsLt_bf16_f32)
    shapeCasts_S4x4096x512_S4x4096x4x128) transposes_S4x4096x4x128_S4x4x4096x128_0_2_1_3) shapeCasts_S4x4x4096x128_S4x4x32x128x128

/-- Values by batch, head, chunk and position. -/
def headsV (x : FVec Ideal S4x4096x1024 .bf16) : FVec Ideal S4x4x32x128x256 .f32 :=
  shapeCast _ (transpose S4x4x4096x256 [0, 2, 1, 3] (shapeCast _ (extf .f32 x bitsLt_bf16_f32)
    shapeCasts_S4x4096x1024_S4x4096x4x256) transposes_S4x4096x4x256_S4x4x4096x256_0_2_1_3) shapeCasts_S4x4x4096x256_S4x4x32x128x256

/-- The rows before the normalisation, by chunk: the part inside the chunk and the part through the states `S`. -/
def innerC (q k : FVec Ideal S4x4096x512 .bf16) (v : FVec Ideal S4x4096x1024 .bf16)
    (S : FVec Ideal S32x4x4x128x256 .f32) : FVec Ideal S4x4x32x128x256 .f32 :=
  addf (Host.dotGeneral (F := Ideal) (φ₁ := .f32) (φ₂ := .f32) dot_S4x4x32x128x128_S4x4x32x128x256_S4x4x32x128x256_4_3_3_4_012_012 none
      (mulf (Host.dotGeneral (F := Ideal) (φ₁ := .f32) (φ₂ := .f32) dot_S4x4x32x128x128_S4x4x32x128x128_S4x4x32x128x128_4_4_3_3_012_012 none (headsK q) (headsK k))
        (broadcastInDim S4x4x32x128x128 ![0, 1, 2, 3, 4] bcast_S1x4x1x128x128_S4x4x32x128x128_0_1_2_3_4
          (broadcastInDim S1x4x1x128x128 ![1, 3, 4] bcast_S4x128x128_S1x4x1x128x128_1_3_4 decayIn))) (headsV v))
    (Host.dotGeneral (F := Ideal) (φ₁ := .f32) (φ₂ := .f32) dot_S4x4x32x128x128_S32x4x4x128x256_S4x4x32x128x256_4_3_3_4_012_120 none
      (mulf (headsK q) (broadcastInDim S4x4x32x128x128 ![0, 1, 2, 3, 4] bcast_S1x4x1x128x1_S4x4x32x128x128_0_1_2_3_4
        (broadcastInDim S1x4x1x128x1 ![1, 3] bcast_S4x128_S1x4x1x128x1_1_3 decayQ))) S)

/-- A row's mean, under a unit axis. -/
def meanR (x : FVec Ideal S4x4x4096x256 .f32) : FVec Ideal S4x4x4096x1 .f32 :=
  Host.divf (broadcastInDim S4x4x4096x1 ![0, 1, 2] bcast_S4x4x4096_S4x4x4096x1_0_1_2
      (Host.reduceAdd x (constant S_ .f32 0x00000000#32) reducesTo_S4x4x4096x256_S4x4x4096_d3 h_S_))
    (broadcastInDim S4x4x4096x1 ![] bcast_S_S4x4x4096x1 (constant S_ .f32 0x43800000#32))

/-- Rows less their means. -/
def centredR (x : FVec Ideal S4x4x4096x256 .f32) : FVec Ideal S4x4x4096x256 .f32 :=
  subf x (broadcastInDim S4x4x4096x256 ![0, 1, 2, 3] bcast_S4x4x4096x1_S4x4x4096x256_0_1_2_3 (meanR x))

/-- Rows normalised. -/
def normR (x : FVec Ideal S4x4x4096x256 .f32) : FVec Ideal S4x4x4096x256 .f32 :=
  mulf (centredR x) (broadcastInDim S4x4x4096x256 ![0, 1, 2, 3] bcast_S4x4x4096x1_S4x4x4096x256_0_1_2_3
    (Host.rsqrt (addf (meanR (mulf (centredR x) (centredR x)))
      (broadcastInDim S4x4x4096x1 ![] bcast_S_S4x4x4096x1 (constant S_ .f32 0x3727C5AC#32)))))

/-- The result, of the states before the chunks. -/
def resultOf (q k : FVec Ideal S4x4096x512 .bf16) (v g : FVec Ideal S4x4096x1024 .bf16)
    (S : FVec Ideal S32x4x4x128x256 .f32) : FVec Ideal S4x4096x1024 .bf16 :=
  truncf .bf16 (mulf (extf .f32 g bitsLt_bf16_f32) (shapeCast _ (transpose S4x4096x4x256 [0, 2, 1, 3]
    (normR (shapeCast _ (innerC q k v S) shapeCasts_S4x4x32x128x256_S4x4x4096x256))
    transposes_S4x4x4096x256_S4x4096x4x256_0_2_1_3) shapeCasts_S4x4096x4x256_S4x4096x1024)) bitsLt_bf16_f32

theorem result_eq (s : Step.State Ideal) (q k : FVec Ideal S4x4096x512 .bf16) (v g : FVec Ideal S4x4096x1024 .bf16) :
    Step.R_main_v121 s q k v g = resultOf q k v g s.main_v37_6 := by
  unfold Step.R_main_v121
  rfl

/-- A head's queries or keys by position. -/
def atK (x : FVec Ideal S4x4096x512 .bf16) (b h : Fin 4) (s : Fin 4096) (d : Fin 128) : EReal :=
  x (ix3 b s ⟨128 * h + d, by omega⟩)

/-- A head's values or gates by position. -/
def atV (x : FVec Ideal S4x4096x1024 .bf16) (b h : Fin 4) (s : Fin 4096) (e : Fin 256) : EReal :=
  x (ix3 b s ⟨256 * h + e, by omega⟩)

theorem headsK_apply (x : FVec Ideal S4x4096x512 .bf16) (b h : Fin 4) (n : Fin 32) (r d : Fin 128) :
    headsK x (ix5 b h n r d) = atK x b h (Cert.Ret.row n r) d := by
  unfold headsK atK Cert.Ret.row
  pointwise
  congr 2 <;> (apply Fin.ext; simp only; omega)

theorem headsV_apply (x : FVec Ideal S4x4096x1024 .bf16) (b h : Fin 4) (n : Fin 32) (r : Fin 128) (d : Fin 256) :
    headsV x (ix5 b h n r d) = atV x b h (Cert.Ret.row n r) d := by
  unfold headsV atV Cert.Ret.row
  pointwise
  congr 2 <;> (apply Fin.ext; simp only; omega)

theorem innerC_apply (q k : FVec Ideal S4x4096x512 .bf16) (v : FVec Ideal S4x4096x1024 .bf16)
    (S : FVec Ideal S32x4x4x128x256 .f32) (b h : Fin 4) (n : Fin 32) (r : Fin 128) (e : Fin 256) :
    innerC q k v S (ix5 b h n r e) = Cert.Ret.inner (atK q b h) (atK k b h) (atV v b h) (fun r x => decayIn (ix3 h r x))
      (fun r => decayQ (ix2 h r)) (fun x e => S (ix5 n b h x e)) n r e := by
  unfold innerC Cert.Ret.inner
  pointwise [headsK_apply, headsV_apply]

theorem normR_apply (x : FVec Ideal S4x4x4096x256 .f32) (b h : Fin 4) (n : Fin 4096) (e : Fin 256) :
    normR x (ix4 b h n e) = Cert.Ret.normed (fun e => x (ix4 b h n e)) e := by
  unfold normR centredR meanR Cert.Ret.normed Cert.Ret.centred
  pointwise

theorem result_apply (q k : FVec Ideal S4x4096x512 .bf16) (v g : FVec Ideal S4x4096x1024 .bf16)
    (S : FVec Ideal S32x4x4x128x256 .f32) (b h : Fin 4) (s : Fin 4096) (e : Fin 256) :
    resultOf q k v g S (ix3 b s ⟨256 * h + e, by omega⟩) = atV g b h s e * Cert.Ret.normed (fun e =>
      innerC q k v S (ix5 b h ⟨s.val / 128, by omega⟩ ⟨s.val % 128, by omega⟩ e)) e := by
  unfold resultOf atV
  pointwise [normR_apply]

theorem kv_apply (k : FVec Ideal S4x4096x512 .bf16) (v : FVec Ideal S4x4096x1024 .bf16)
    (b h : Fin 4) (n : Fin 32) (d : Fin 128) (e : Fin 256) :
    Step.A_main_v31 (F := Ideal) k v (ix5 n b h d e)
      = Cert.Ret.added (atK k b h) (atV v b h) (fun r => decayK (ix2 h r)) d e n := by
  unfold Step.A_main_v31 Step.A_main_v30 Step.K_main_v29 Step.K_main_v28 Cert.Ret.added
  rw [show Step.A_main_v26 (F := Ideal) k v = headsK k from rfl, show Step.A_main_v27 (F := Ideal) k v = headsV v from rfl,
    show Step.K_main_v22 (F := Ideal) = decayK from rfl]
  pointwise [headsK_apply, headsV_apply]

theorem state_step (s : Step.State Ideal) (b h : Fin 4) (n : Fin 32) (d : Fin 128) (e : Fin 256) :
    (Step.step n s).main_v37_5 (ix4 b h d e)
      = decayC (ix1 h) * s.main_v37_5 (ix4 b h d e) + s.main_v37_0 (ix5 n b h d e) := by
  rw [Step.step_main_v37_5]
  unfold Step.b10 Step.b9 Step.b8 Step.b5 Step.b4 Step.b0 Step.b1 Step.b2 Step.b3 Step.K_main_v32
  rw [show Step.K_main_v25 (F := Ideal) = decayC from rfl]
  pointwise
  have hstart : ∀ a : Fin 5, Host.clampedStart S32x4x4x128x256 S1x4x4x128x256 sliceFits_S32x4x4x128x256_S1x4x4x128x256.1
      (fun k => BitVec.toInt (((![constantI S_ 32 (BitVec.ofNat 32 n.val), constantI S_ 32 0#32, constantI S_ 32 0#32,
        constantI S_ 32 0#32, constantI S_ 32 0#32] : Fin 5 → (⟨S_, .i32⟩ : BufTy).Contents (Elt Ideal))) k (Shape.Idx.first h_S_))) a
      = (![n.val, 0, 0, 0, 0] : Fin 5 → Nat) a := by
    revert n; decide +kernel
  congr 3 <;> (apply Fin.ext; simp only [hstart]; simp)

theorem before_step (s : Step.State Ideal) (b h : Fin 4) (n i : Fin 32) (d : Fin 128) (e : Fin 256) :
    (Step.step n s).main_v37_6 (ix5 i b h d e)
      = if i = n then s.main_v37_5 (ix4 b h d e) else s.main_v37_6 (ix5 i b h d e) := by
  rw [Step.step_main_v37_6]
  unfold Step.b17 Step.b16 Step.b15 Step.b14 Step.b13 Step.b12 Step.b11 Step.K_main_v34 Step.K_main_v33
  pointwise
  have hm : IntOp.cmpi CmpIPredicate.eq (BitVec.ofNat 32 i.val) (id (constantI S_ 32 (BitVec.ofNat 32 n.val)) ix0)
      = if i = n then 1#1 else 0#1 := by
    revert i n; decide +kernel
  rw [hm]
  split <;> rfl

/-- The loop's states: each chunk's, and those kept of the chunks before it. -/
theorem iter_apply (k : FVec Ideal S4x4096x512 .bf16) (v : FVec Ideal S4x4096x1024 .bf16) (it : Nat → Step.State Ideal)
    (h0 : it 0 = Step.init k v) (hs : ∀ n, it (n + 1) = Step.step n (it n)) (n : Nat) (hn : n ≤ 32) :
    (it n).main_v37_0 = Step.A_main_v31 (F := Ideal) k v
    ∧ (∀ b h d e, (it n).main_v37_5 (ix4 b h d e)
        = Cert.Ret.state (decayC (ix1 h)) (atK k b h) (atV v b h) (fun r => decayK (ix2 h r)) n d e)
    ∧ ∀ (i : Fin 32) b h d e, i.val < n → (it n).main_v37_6 (ix5 i b h d e)
        = Cert.Ret.state (decayC (ix1 h)) (atK k b h) (atV v b h) (fun r => decayK (ix2 h r)) i d e := by
  induction n with
  | zero =>
    rw [h0]
    refine ⟨rfl, fun b h d e => ?_, fun i b h d e hi => absurd hi (Nat.not_lt_zero _)⟩
    show Step.K_main_v35 (F := Ideal) (ix4 b h d e) = 0
    unfold Step.K_main_v35 Step.K_main_cst_4
    pointwise
  | succ n ih =>
    obtain ⟨h1, h2, h3⟩ := ih (by omega)
    rw [hs]
    have hstep := fun b h d e => state_step (it n) b h ⟨n, by omega⟩ d e
    have hbef := fun i b h d e => before_step (it n) b h ⟨n, by omega⟩ i d e
    refine ⟨h1, fun b h d e => ?_, fun i b h d e hi => ?_⟩
    · refine (hstep b h d e).trans ?_
      rw [h2, h1, kv_apply]
      rfl
    · refine (hbef i b h d e).trans ?_
      by_cases hin : i = ⟨n, by omega⟩
      · rw [if_pos hin, h2, hin]
      · rw [if_neg hin, h3 i b h d e (Nat.lt_of_le_of_ne (Nat.le_of_lt_succ hi) fun h => hin (Fin.ext h))]

/-- The reference's result at one index. -/
theorem reference_apply (q k : FVec Ideal S4x4096x512 .bf16) (v g : FVec Ideal S4x4096x1024 .bf16) (it : Nat → Step.State Ideal)
    (h0 : it 0 = Step.init k v) (hs : ∀ n, it (n + 1) = Step.step n (it n)) (b h : Fin 4) (s : Fin 4096) (e : Fin 256) :
    Step.R_main_v121 (it 32) q k v g (ix3 b s ⟨256 * h + e, by omega⟩)
      = Cert.Ret.headRow (decayC (ix1 h)) (atK q b h) (atK k b h) (atV v b h) (fun r x => decayIn (ix3 h r x))
          (fun r => decayK (ix2 h r)) (fun r => decayQ (ix2 h r)) s e * atV g b h s e := by
  rw [result_eq, result_apply, mul_comm]
  unfold Cert.Ret.headRow
  congr 2
  funext e
  rw [innerC_apply]
  congr 1
  funext x e
  exact (iter_apply k v it h0 hs 32 (le_refl _)).2.2 _ b h x e (by simp only; omega)

end Cert.ReferenceIdeal.Ret
-- ==== Proof.Ret.KernelOut.lean ====
/- What a grid point of the retention kernel stores, at one index, in terms of the four arrays and the decay tables. -/
module

public import proofs.«01_k».proof.Proof.Ret.KernelRead
public import proofs.«01_k».proof.Proof.Ret.RefRead
public import Idealize.ShloMosaic.Lib.Claim

@[expose] public section

set_option maxRecDepth 16384

noncomputable section

namespace Cert.KernelIdeal.Ret

open Cert.KernelIdeal Cert.KernelIdeal.Gen Idealize.ShloMosaic Idealize.ShloMosaic.TcCoe Idealize.SL.Sem
open Idealize.ShloMosaic.Pipeline (Dat)
open Cert.Ret (row)
open Cert.ReferenceIdeal.Ret (decayIn decayQ decayK decayC atK atV logGamma lag)

variable (m : (ℓ : Loc nD τ sig) → Buf (Elt Ideal) ℓ) (c : Dev nD)

/-- What a grid point stores at one index. -/
theorem outs_apply (t : Fin cfg0.N) (fk fq : Fin 128 → EReal) (hk : ∀ r d, tab (iblk m c 6 t) r d = fk r)
    (hq : ∀ r d, tab (iblk m c 7 t) r d = fq r) (s : Fin 4096) (e : Fin 256) :
    outsAt0 m c t (ix3 0 s e) = Cert.Ret.headRow (cdOf m c t) (blkK (iblk m c 1 t)) (blkK (iblk m c 2 t)) (blkV (iblk m c 3 t))
      (tab (iblk m c 5 t)) fk fq s e * blkV (iblk m c 4 t) s e := by
  rw [outs_pieces]
  have hall := View.canon_apply_of_pieces (Val := Elt Ideal) (S := S1x4096x256) (e := .bf16)
    (fun y => Cert.Ret.headRow (cdOf m c t) (blkK (iblk m c 1 t)) (blkK (iblk m c 2 t)) (blkV (iblk m c 3 t))
      (tab (iblk m c 5 t)) fk fq (y 1) (y 2) * blkV (iblk m c 4 t) (y 1) (y 2))
    ((List.range 32).reverse.map (pieceAt m c t)) ?_ (ix3 0 s e) ?_
  · exact hall
  · intro p hp x
    obtain ⟨n, hn, rfl⟩ := List.mem_map.mp hp
    have hn32 : n < 32 := by simpa using hn
    have hx : ∀ x : S1x128x256.Idx, chunkOut (cdOf m c t) (iblk m c 1 t) (iblk m c 2 t) (iblk m c 3 t) (iblk m c 4 t)
        (iblk m c 5 t) (iblk m c 6 t) (iblk m c 7 t) n x
        = Cert.Ret.headRow (cdOf m c t) (blkK (iblk m c 1 t)) (blkK (iblk m c 2 t)) (blkV (iblk m c 3 t))
          (tab (iblk m c 5 t)) fk fq (row n (x 1)) (x 2) * blkV (iblk m c 4 t) (row n (x 1)) (x 2) := by
      intro x
      idx_vars x
      rw [Subsingleton.elim x0 0]
      refine (chunkOut_apply _ _ _ _ _ _ _ _ fk fq hk hq n x1 x2).trans ?_
      have h1 : (row n x1).val / 128 = n := by simp only [row]; omega
      have h2 : (⟨(row n x1).val % 128, Nat.mod_lt _ (by omega)⟩ : Fin 128) = x1 := by
        apply Fin.ext; simp only [row]; omega
      show _ = Cert.Ret.headRow _ _ _ _ _ _ _ (row n x1) x2 * blkV _ (row n x1) x2
      unfold Cert.Ret.headRow
      rw [h1, h2]
    refine (hx x).trans ?_
    have e1 : row n (x 1) = (rectV n).emb x 1 := by
      apply Fin.ext
      exact ((Rect.idx_unit_val _ _ (inbV n) x 1).trans rfl).symm
    have e2 : (x 2 : Fin 256) = (rectV n).emb x 2 := by
      apply Fin.ext
      exact ((Rect.idx_unit_val _ _ (inbV n) x 2).trans (Nat.zero_add _)).symm
    show Cert.Ret.headRow _ _ _ _ _ _ _ (row n (x 1)) (x 2 : Fin 256) * blkV _ (row n (x 1)) (x 2 : Fin 256) = _
    rw [e1, e2]
    rfl
  · refine ⟨pieceAt m c t (s.val / 128), List.mem_map.mpr ⟨s.val / 128, by simp; omega, rfl⟩, ?_⟩
    show ix3 0 s e ∈ (rectV (s.val / 128)).set
    unfold rectV
    rw [Rect.mem_set_unit]
    intro a
    fin_cases a
    · exact ⟨Nat.zero_le _, Nat.one_pos⟩
    · exact ⟨show 128 * (s.val / 128 % 32) ≤ s.val by omega, show s.val < 128 * (s.val / 128 % 32) + 128 by omega⟩
    · exact ⟨Nat.zero_le _, by show e.val < 0 + 256; omega⟩

/-! ## The decay tables the host makes -/

/-- A whole number's comparison and its image's. -/
theorem mask_eq : ∀ r x : Fin 128, IntOp.cmpi CmpIPredicate.sge (BitVec.ofNat 32 r.val) (BitVec.ofNat 32 x.val)
    = BitVec.ofBool (decide (x.val ≤ r.val)) := by
  decide +kernel

/-- A position as an extended real. -/
theorem real_position : ∀ r : Fin 128, (BitVec.ofNat 32 r.val).toInt = (r.val : Int) := by
  decide +kernel

theorem V_dint (h : Fin 4) (r x : Fin 128) : V m c main_v24 (ix3 h r x) = decayIn (ix3 h r x) := by
  have hV : V m c main_v24 (ix3 h r x)
      = select (broadcastInDim Cert.ReferenceIdeal.S4x128x128 ![1, 2] Cert.ReferenceIdeal.Gen.bcast_S128x128_S4x128x128_1_2
          (cmpf .oge lag (broadcastInDim Cert.ReferenceIdeal.S128x128 ![] Cert.ReferenceIdeal.Gen.bcast_S_S128x128
            (constant Cert.ReferenceIdeal.S_ .f32 0x00000000#32)))) Cert.ReferenceIdeal.Ret.decayE
        (broadcastInDim Cert.ReferenceIdeal.S4x128x128 ![] Cert.ReferenceIdeal.Gen.bcast_S_S4x128x128
          (constant Cert.ReferenceIdeal.S_ .f32 0x00000000#32)) (ix3 h r x) := rfl
  rw [hV]
  unfold decayIn
  pointwise [lag]
  have hle : (0 : EReal) ≤ ((((BitVec.ofNat 32 r.val).toInt : ℝ) : EReal) - (((BitVec.ofNat 32 x.val).toInt : ℝ) : EReal))
      ↔ x.val ≤ r.val := by
    rw [real_position, real_position, ← EReal.coe_sub, ← EReal.coe_zero, EReal.coe_le_coe_iff, sub_nonneg]
    norm_cast
  rw [mask_eq]
  by_cases hxr : x.val ≤ r.val
  · refine (if_pos (hle.mpr hxr)).trans ?_
    rw [decide_eq_true hxr]
    rfl
  · refine (if_neg (fun hh => hxr (hle.mp hh))).trans ?_
    rw [decide_eq_false hxr]
    rfl

theorem V_kdec (h : Fin 4) (r x : Fin 128) : V m c main_v45 (ix3 h r x) = decayK (ix2 h r) := by
  entry_read
  unfold decayK Cert.ReferenceIdeal.Step.K_main_v22
  pointwise
  rfl

theorem V_qdec (h : Fin 4) (r x : Fin 128) : V m c main_v47 (ix3 h r x) = decayQ (ix2 h r) := by
  unfold decayQ logGamma
  rfl

theorem V_cdec (h : Fin 4) : V m c main_v43 (ix1 h) = decayC (ix1 h) := by
  entry_read
  unfold decayC Cert.ReferenceIdeal.Step.K_main_v25
  rfl

/-! ## The blocks -/

theorem index_facts : ∀ t : Fin cfg0.N, win0_0.index t = ![0] ∧ win0_1.index t = ![t.val / 4, 0, t.val % 4] ∧ win0_2.index t = ![t.val / 4, 0, t.val % 4]
    ∧ win0_3.index t = ![t.val / 4, 0, t.val % 4] ∧ win0_4.index t = ![t.val / 4, 0, t.val % 4]
    ∧ win0_5.index t = ![t.val % 4, 0, 0] ∧ win0_6.index t = ![t.val % 4, 0, 0] ∧ win0_7.index t = ![t.val % 4, 0, 0]
    ∧ win0_8.index t = ![t.val / 4, 0, t.val % 4] ∧ k0_off1 (grid0.coords t) = ![t.val % 4] := by
  show ∀ t : Fin grid0.N, _
  decide +kernel

/-- The batch of a grid point. -/
def batch (t : Fin cfg0.N) : Fin 4 := ⟨t.val / 4, by have := t.isLt; simp only [show cfg0.N = 16 from rfl] at this; omega⟩

/-- The head of a grid point. -/
def head (t : Fin cfg0.N) : Fin 4 := ⟨t.val % 4, by omega⟩

theorem q_blk (t : Fin cfg0.N) : blkK (iblk m c 1 t) = atK (m ((c : Thread nD τ).loc main_arg0)) (batch t) (head t) := by
  funext s d
  unfold blkK atK batch head
  blk_ext [iblk, V_main_arg0, index_facts t]

theorem k_blk (t : Fin cfg0.N) : blkK (iblk m c 2 t) = atK (m ((c : Thread nD τ).loc main_arg1)) (batch t) (head t) := by
  funext s d
  unfold blkK atK batch head
  blk_ext [iblk, V_main_arg1, index_facts t]

theorem v_blk (t : Fin cfg0.N) : blkV (iblk m c 3 t) = atV (m ((c : Thread nD τ).loc main_arg2)) (batch t) (head t) := by
  funext s d
  unfold blkV atV batch head
  blk_ext [iblk, V_main_arg2, index_facts t]

theorem g_blk (t : Fin cfg0.N) : blkV (iblk m c 4 t) = atV (m ((c : Thread nD τ).loc main_arg3)) (batch t) (head t) := by
  funext s d
  unfold blkV atV batch head
  blk_ext [iblk, V_main_arg3, index_facts t]

theorem dint_blk (t : Fin cfg0.N) : tab (iblk m c 5 t) = fun r x => decayIn (ix3 (head t) r x) := by
  funext r x
  refine Eq.trans ?_ (V_dint m c (head t) r x)
  unfold tab head
  blk_ext [iblk, index_facts t]

theorem kdec_blk (t : Fin cfg0.N) (r d : Fin 128) : tab (iblk m c 6 t) r d = decayK (ix2 (head t) r) := by
  refine Eq.trans ?_ (V_kdec m c (head t) r d)
  unfold tab head
  blk_ext [iblk, index_facts t]

theorem qdec_blk (t : Fin cfg0.N) (r d : Fin 128) : tab (iblk m c 7 t) r d = decayQ (ix2 (head t) r) := by
  refine Eq.trans ?_ (V_qdec m c (head t) r d)
  unfold tab head
  blk_ext [iblk, index_facts t]

theorem cdec_blk (t : Fin cfg0.N) : cdOf m c t = decayC (ix1 (head t)) := by
  refine Eq.trans ?_ (V_cdec m c (head t))
  unfold cdOf
  refine (View.ld_unit_apply_of (iblk m c 0 t) _ _ _ _ (ix1 (head t)) (fun a => ?_)).trans ?_
  · have hoff := congrFun (index_facts t).2.2.2.2.2.2.2.2.2 0
    fin_cases a
    show t.val % 4 = k0_off1 (grid0.coords t) 0 + 0
    rw [hoff]
    rfl
  · unfold head
    blk_ext [iblk, index_facts t]

/-- The kernel's result. -/
def result : FVec Ideal S4x4096x1024 .bf16 := fun i =>
  Cert.Ret.headRow (decayC (ix1 ⟨(i 2).val / 256, by have : (i 2).val < 1024 := (i 2).isLt; omega⟩))
      (atK (m ((c : Thread nD τ).loc main_arg0)) (i 0) ⟨(i 2).val / 256, by have : (i 2).val < 1024 := (i 2).isLt; omega⟩)
      (atK (m ((c : Thread nD τ).loc main_arg1)) (i 0) ⟨(i 2).val / 256, by have : (i 2).val < 1024 := (i 2).isLt; omega⟩)
      (atV (m ((c : Thread nD τ).loc main_arg2)) (i 0) ⟨(i 2).val / 256, by have : (i 2).val < 1024 := (i 2).isLt; omega⟩)
      (fun r x => decayIn (ix3 ⟨(i 2).val / 256, by have : (i 2).val < 1024 := (i 2).isLt; omega⟩ r x))
      (fun r => decayK (ix2 ⟨(i 2).val / 256, by have : (i 2).val < 1024 := (i 2).isLt; omega⟩ r))
      (fun r => decayQ (ix2 ⟨(i 2).val / 256, by have : (i 2).val < 1024 := (i 2).isLt; omega⟩ r))
      (i 1) ⟨(i 2).val % 256, by omega⟩
    * atV (m ((c : Thread nD τ).loc main_arg3)) (i 0) ⟨(i 2).val / 256, by have : (i 2).val < 1024 := (i 2).isLt; omega⟩ (i 1)
      ⟨(i 2).val % 256, by omega⟩

/-- The result at a head's lane. -/
theorem result_apply (b h : Fin 4) (s : Fin 4096) (e : Fin 256) : result m c (ix3 b s ⟨256 * h + e, by omega⟩)
    = Cert.Ret.headRow (decayC (ix1 h)) (atK (m ((c : Thread nD τ).loc main_arg0)) b h) (atK (m ((c : Thread nD τ).loc main_arg1)) b h)
        (atV (m ((c : Thread nD τ).loc main_arg2)) b h) (fun r x => decayIn (ix3 h r x)) (fun r => decayK (ix2 h r))
        (fun r => decayQ (ix2 h r)) s e * atV (m ((c : Thread nD τ).loc main_arg3)) b h s e := by
  have h1 : (⟨(256 * h.val + e.val) / 256, by omega⟩ : Fin 4) = h := by apply Fin.ext; simp only; omega
  have h2 : (⟨(256 * h.val + e.val) % 256, by omega⟩ : Fin 256) = e := by apply Fin.ext; simp only; omega
  unfold result
  show Cert.Ret.headRow (decayC (ix1 ⟨(256 * h.val + e.val) / 256, _⟩)) (atK _ b ⟨(256 * h.val + e.val) / 256, _⟩)
    (atK _ b ⟨(256 * h.val + e.val) / 256, _⟩) (atV _ b ⟨(256 * h.val + e.val) / 256, _⟩)
    (fun r x => decayIn (ix3 ⟨(256 * h.val + e.val) / 256, _⟩ r x)) (fun r => decayK (ix2 ⟨(256 * h.val + e.val) / 256, _⟩ r))
    (fun r => decayQ (ix2 ⟨(256 * h.val + e.val) / 256, _⟩ r)) s ⟨(256 * h.val + e.val) % 256, _⟩
    * atV _ b ⟨(256 * h.val + e.val) / 256, _⟩ s ⟨(256 * h.val + e.val) % 256, _⟩ = _
  rw [h1, h2]

/-- The output array after the run. -/
theorem final : (dats m 0 c).arrAt 8 cfg0.N = result m c := by
  refine (dats m 0 c).arrAt_eq_of_covers 8 _ (by decide +kernel) fun t hf y => ?_
  blk_simp
  rw [after0_8]
  idx_vars y
  rw [Subsingleton.elim y0 0]
  rw [show (((View.whole main_v48).slice (win0_8.rect t)).emb (ix3 0 y1 y2)) = ix3 (batch t) y1 ⟨256 * (head t) + y2, by omega⟩ by
    unfold batch head
    blk_ext [index_facts t]]
  rw [result_apply]
  refine (outs_apply m c t _ _ (kdec_blk m c t) (qdec_blk m c t) y1 y2).trans ?_
  rw [q_blk, k_blk, v_blk, g_blk, dint_blk, cdec_blk]

end Cert.KernelIdeal.Ret
-- ==== Proof.Ret.Claim.lean ====
/- Retention: the kernel's and the reference's results are one array. -/
module

public import proofs.«01_k».proof.Defs
public import proofs.«01_k».proof.Proof.Gen.ReferenceIdeal
public import proofs.«01_k».proof.Proof.Gen.KernelIdeal
public import proofs.«01_k».proof.Proof.Ret.KernelOut

@[expose] public section

set_option maxRecDepth 16384

noncomputable section

namespace Cert.Proof.Ret

open Idealize.ShloMosaic Idealize.SL.Sem

/-- The reference's states. -/
def states (m : (ℓ : Loc Cert.ReferenceIdeal.nD Cert.ReferenceIdeal.τ Cert.ReferenceIdeal.sig) → Buf (Elt Ideal) ℓ)
    (c : Dev Cert.ReferenceIdeal.nD) : Nat → Cert.ReferenceIdeal.Step.State Ideal
  | 0 => Cert.ReferenceIdeal.StepRun.initState m c
  | n + 1 => Cert.ReferenceIdeal.Step.step n (states m c n)

/-- Every index is a head's lane. -/
theorem index_cases (i : Cert.KernelIdeal.S4x4096x1024.Idx) :
    ∃ (b h : Fin 4) (s : Fin 4096) (e : Fin 256), i = ix3 b s ⟨256 * h + e, by omega⟩ := by
  idx_vars i
  refine ⟨i0, ⟨i2.val / 256, by omega⟩, i1, ⟨i2.val % 256, by omega⟩, ?_⟩
  congr 1
  apply Fin.ext
  simp only
  omega

theorem frame_r : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.StepRun.run_iter (F := Ideal) m g (states m) (fun _ => rfl) (fun _ _ => rfl))

theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => Cert.KernelIdeal.Ret.result m c, ?_, ?_⟩
  · refine (θ_run (Cert.KernelIdeal.defs (F := Ideal)) _ _).mono (fun r h c => ?_) (Cert.KernelIdeal.Value.run_blocks (F := Ideal) m g)
    exact ⟨(h c).1.trans (Cert.KernelIdeal.Ret.final m c), (h c).2⟩
  · refine (θ_run (Cert.ReferenceIdeal.defs (F := Ideal)) _ _).mono (fun r h c => ?_)
      (Cert.ReferenceIdeal.StepRun.run_iter (F := Ideal) m' g' (states m') (fun _ => rfl) (fun _ _ => rfl))
    refine ⟨(h c).1.trans ?_, (h c).2⟩
    obtain ⟨h0, h1, h2, h3⟩ := hargs c
    funext i
    obtain ⟨b, hd, s, e, rfl⟩ := index_cases i
    refine (Cert.ReferenceIdeal.Ret.reference_apply _ _ _ _ (states m' c) rfl (fun _ => rfl) b hd s e).trans ?_
    refine Eq.trans ?_ (Cert.KernelIdeal.Ret.result_apply m c b hd s e).symm
    rw [h0, h1, h2, h3]

end Cert.Proof.Ret
-- ==== Proof.Mix.Body.lean ====
/- The last call's body as functions of its blocks: the merged and normalised rows a half of the tile at a time, the
   gate and up products 256 columns at a time, the convolution over the rows before, and the rows stored; and that what a
   grid point leaves is exactly these. -/
module

public import proofs.«01_k».proof.Proof.Gen.Kernel2Ideal.Value
public import Idealize.ShloMosaic.Lib.Pipeline.ValueKit
public import Idealize.ShloMosaic.Lib.Pipeline.ReadBack

@[expose] public section

set_option maxRecDepth 16384

noncomputable section

namespace Cert.Kernel2Ideal.Mix

open Cert.Kernel2Ideal Cert.Kernel2Ideal.Gen Idealize.ShloMosaic Idealize.ShloMosaic.TcCoe Idealize.SL.Sem
open Idealize.ShloMosaic.Pipeline (Dat)

/-- The blocks a grid point reads. -/
structure Blocks (F : FTy → Type) where
  ya : Vec F S1x512x512 .bf16
  yr : Vec F S1x512x1024 .bf16
  ga : Vec F S1x512x1024 .bf16
  gr : Vec F S1x512x1024 .bf16
  x : Vec F S1x512x1024 .f32
  mod : Vec F S1x1x6144 .f32
  pa : Vec F S512x1024 .f32
  pr : Vec F S1024x1024 .f32
  wo : Vec F S1024x1024 .f32
  g1 : Vec F S1x1024 .f32
  b1 : Vec F S1x1024 .f32
  wg : Vec F S1024x2816 .bf16
  wu : Vec F S1024x2816 .bf16
  wd : Vec F S2816x1024 .f32
  cw : Vec F S3x2816 .f32
  cb : Vec F S1x2816 .f32
  g2 : Vec F S1x1024 .f32
  b2 : Vec F S1x1024 .f32

variable {F : FTy → Type} [FloatOps F]

/-! ## Rectangles -/

theorem inbRows (i : Nat) (a : Fin 3) : (![0, 256 * (i % 2), 0] : Fin 3 → Nat) a + S1x256x1024.size a ≤ S1x512x1024.size a := by
  fin_cases a <;> simp [S1x256x1024, S1x512x1024] <;> omega

theorem inbRowsY (i : Nat) (a : Fin 3) : (![0, 256 * (i % 2), 0] : Fin 3 → Nat) a + S1x256x512.size a ≤ S1x512x512.size a := by
  fin_cases a <;> simp [S1x256x512, S1x512x512] <;> omega

theorem inbHalf (i : Nat) (a : Fin 2) : (![256 * (i % 2), 0] : Fin 2 → Nat) a + S256x1024.size a ≤ S512x1024.size a := by
  fin_cases a <;> simp [S256x1024, S512x1024] <;> omega

theorem inbAct (i : Nat) (a : Fin 2) : (![256 * (i % 2), 0] : Fin 2 → Nat) a + S256x2816.size a ≤ S512x2816.size a := by
  fin_cases a <;> simp [S256x2816, S512x2816] <;> omega

theorem inbCols (n : Nat) (a : Fin 2) : (![0, 256 * (n % 11)] : Fin 2 → Nat) a + S1024x256.size a ≤ S1024x2816.size a := by
  fin_cases a <;> simp [S1024x256, S1024x2816] <;> omega

theorem inbActCols (n : Nat) (a : Fin 2) : (![0, 256 * (n % 11)] : Fin 2 → Nat) a + S512x256.size a ≤ S512x2816.size a := by
  fin_cases a <;> simp [S512x256, S512x2816] <;> omega

theorem inbTap (k n : Nat) (a : Fin 2) : (![k % 3, 256 * (n % 11)] : Fin 2 → Nat) a + S1x256.size a ≤ S3x2816.size a := by
  fin_cases a <;> simp [S1x256, S3x2816] <;> omega

theorem inbBias (n : Nat) (a : Fin 2) : (![0, 256 * (n % 11)] : Fin 2 → Nat) a + S1x256.size a ≤ S1x2816.size a := by
  fin_cases a <;> simp [S1x256, S1x2816] <;> omega

theorem inbMod (k : Nat) (a : Fin 3) : (![0, 0, 1024 * (k % 6)] : Fin 3 → Nat) a + S1x1x1024.size a ≤ S1x1x6144.size a := by
  fin_cases a <;> simp [S1x1x1024, S1x1x6144] <;> omega

theorem inbTail (n : Nat) (a : Fin 3) : (![n % 11, 0, 0] : Fin 3 → Nat) a + S1x8x256.size a ≤ S11x8x256.size a := by
  fin_cases a <;> simp [S1x8x256, S11x8x256] <;> omega

theorem inbWhole (a : Fin 2) : (![0, 0] : Fin 2 → Nat) a + S512x1024.size a ≤ S512x1024.size a := by
  fin_cases a <;> simp [S512x1024]

/-- Rows `256 i` to `256 i + 255` of a tile. -/
def rectRows (i : Nat) : Rect S1x512x1024 := Rect.unit ![0, 256 * (i % 2), 0] S1x256x1024.size (inbRows i)
def rectRowsY (i : Nat) : Rect S1x512x512 := Rect.unit ![0, 256 * (i % 2), 0] S1x256x512.size (inbRowsY i)
def rectHalf (i : Nat) : Rect S512x1024 := Rect.unit ![256 * (i % 2), 0] S256x1024.size (inbHalf i)
def rectAct (i : Nat) : Rect S512x2816 := Rect.unit ![256 * (i % 2), 0] S256x2816.size (inbAct i)
/-- Columns `256 n` to `256 n + 255`. -/
def rectCols (n : Nat) : Rect S1024x2816 := Rect.unit ![0, 256 * (n % 11)] S1024x256.size (inbCols n)
def rectActCols (n : Nat) : Rect S512x2816 := Rect.unit ![0, 256 * (n % 11)] S512x256.size (inbActCols n)
def rectTap (k n : Nat) : Rect S3x2816 := Rect.unit ![k % 3, 256 * (n % 11)] S1x256.size (inbTap k n)
def rectBias (n : Nat) : Rect S1x2816 := Rect.unit ![0, 256 * (n % 11)] S1x256.size (inbBias n)
def rectMod (k : Nat) : Rect S1x1x6144 := Rect.unit ![0, 0, 1024 * (k % 6)] S1x1x1024.size (inbMod k)
def rectTail (n : Nat) : Rect S11x8x256 := Rect.unit ![n % 11, 0, 0] S1x8x256.size (inbTail n)
def rectWhole : Rect S512x1024 := Rect.unit ![0, 0] S512x1024.size inbWhole

/-! ## The first half of the layer: merge, output projection, normalisation -/

/-- A row's mean, under a unit axis. -/
def meanOf (x : FVec F S256x1024 .f32) : FVec F S256x1 .f32 :=
  divf (shapeCast S256x1 (multiReduction .add [1] S256 x 0x00000000#32 reduces_S256x1024_S256 (.inl rfl) rfl)
    shapeCasts_S256_S256x1) (broadcast S256x1 (Scalar.ofBits .f32 0x44800000#32))

/-- Rows less their means. -/
def centred (x : FVec F S256x1024 .f32) : FVec F S256x1024 .f32 :=
  subf x (broadcastTo S256x1024 (meanOf x) broadcasts_S256x1_S256x1024)

/-- Rows normalised, scaled and shifted. -/
def normed (x : FVec F S256x1024 .f32) (g b : FVec F S1x1024 .f32) : FVec F S256x1024 .f32 :=
  addf (mulf (mulf (centred x) (broadcastTo S256x1024 (rsqrt (addf (meanOf (mulf (centred x) (centred x)))
      (broadcast S256x1 (Scalar.ofBits .f32 0x3727C5AC#32)))) broadcasts_S256x1_S256x1024))
      (broadcastTo S256x1024 g broadcasts_S1x1024_S256x1024)) (broadcastTo S256x1024 b broadcasts_S1x1024_S256x1024)

/-- Part `k` of the modulation. -/
def modRow (B : Blocks F) (k : Nat) : FVec F S1x1024 .f32 :=
  shapeCast S1x1024 (View.ld B.mod (rectMod k)) shapeCasts_S1x1x1024_S1x1024

/-- The two branches' projections, gated and added. -/
def merged (B : Blocks F) (i : Nat) : FVec F S256x1024 .f32 :=
  addf (mulf (extf .f32 (shapeCast S256x1024 (View.ld B.ga (rectRows i)) shapeCasts_S1x256x1024_S256x1024) bitsLt_bf16_f32)
      (matmul dot_S256x512_S512x1024_S256x1024_1_0_0_1_n_n none
        (shapeCast S256x512 (View.ld B.ya (rectRowsY i)) shapeCasts_S1x256x512_S256x512)
        (truncf .bf16 B.pa bitsLt_bf16_f32) (constant S256x1024 .f32 0x00000000#32)))
    (mulf (extf .f32 (shapeCast S256x1024 (View.ld B.gr (rectRows i)) shapeCasts_S1x256x1024_S256x1024) bitsLt_bf16_f32)
      (matmul dot_S256x1024_S1024x1024_S256x1024_1_0_0_1_n_n none
        (shapeCast S256x1024 (View.ld B.yr (rectRows i)) shapeCasts_S1x256x1024_S256x1024)
        (truncf .bf16 B.pr bitsLt_bf16_f32) (constant S256x1024 .f32 0x00000000#32)))

/-- Half `i` of the tile before its normalisation. -/
def mixed (B : Blocks F) (i : Nat) : FVec F S256x1024 .f32 :=
  addf (mulf (broadcast S256x1024 (Scalar.ofBits .f32 0x3F9837F0#32))
      (shapeCast S256x1024 (View.ld B.x (rectRows i)) shapeCasts_S1x256x1024_S256x1024))
    (mulf (broadcastTo S256x1024 (modRow B 2) broadcasts_S1x1024_S256x1024)
      (matmul dot_S256x1024_S1024x1024_S256x1024_1_0_0_1_n_n none (truncf .bf16 (merged B i) bitsLt_bf16_f32)
        (truncf .bf16 B.wo bitsLt_bf16_f32) (constant S256x1024 .f32 0x00000000#32)))

/-- Half `i` of the tile, normalised. -/
def x1Half (B : Blocks F) (i : Nat) : FVec F S256x1024 .f32 :=
  normed (mixed B i) (shapeCast S1x1024 B.g1 shapeCasts_S1x1024_S1x1024) (shapeCast S1x1024 B.b1 shapeCasts_S1x1024_S1x1024)

/-- Half `i` of the feed-forward part's input. -/
def h2Half (B : Blocks F) (i : Nat) : FVec F S256x1024 .bf16 :=
  truncf .bf16 (addf (mulf (x1Half B i) (broadcastTo S256x1024
      (addf (broadcast S1x1024 (Scalar.ofBits .f32 0x3F800000#32)) (modRow B 4)) broadcasts_S1x1024_S256x1024))
      (broadcastTo S256x1024 (modRow B 3) broadcasts_S1x1024_S256x1024)) bitsLt_bf16_f32

def pieceX (B : Blocks F) (i : Nat) : View.Piece (Elt F) S512x1024 .f32 :=
  ⟨rectHalf i, shapeCast S256x1024 (x1Half B i) shapeCasts_S256x1024_S256x1024⟩

def pieceH (B : Blocks F) (i : Nat) : View.Piece (Elt F) S512x1024 .bf16 :=
  ⟨rectHalf i, shapeCast S256x1024 (h2Half B i) shapeCasts_S256x1024_S256x1024⟩

/-- The normalised tile. -/
def xFull (B : Blocks F) : Vec F S512x1024 .f32 := View.canon [pieceX B 1, pieceX B 0]

/-- The feed-forward part's input. -/
def hFull (B : Blocks F) : Vec F S512x1024 .bf16 := View.canon [pieceH B 1, pieceH B 0]

/-! ## The feed-forward part, 256 columns at a time -/

/-- Columns `256 n` on of a weight. -/
def wCols (w : Vec F S1024x2816 .bf16) (n : Nat) : FVec F S1024x256 .bf16 :=
  shapeCast S1024x256 (View.ld w (rectCols n)) shapeCasts_S1024x256_S1024x256

/-- One half of the tile times the columns. -/
def prodHalf (B : Blocks F) (w : Vec F S1024x2816 .bf16) (n i : Nat) : FVec F S256x256 .f32 :=
  matmul (φ₁ := .bf16) dot_S256x1024_S1024x256_S256x256_1_0_0_1_n_n none (View.ld (hFull B) (rectHalf i)) (wCols w n)
    (constant S256x256 .f32 0x00000000#32)

/-- The product by halves. -/
def prodEarly (B : Blocks F) (w : Vec F S1024x2816 .bf16) (n : Nat) : FVec F S512x256 .f32 :=
  concatenate S512x256 0 [⟨S256x256, prodHalf B w n 0⟩, ⟨S256x256, prodHalf B w n 1⟩] concatenates_S256x256_S256x256_S512x256_d0

/-- The product at once. -/
def prodLate (B : Blocks F) (w : Vec F S1024x2816 .bf16) (n : Nat) : FVec F S512x256 .f32 :=
  matmul (φ₁ := .bf16) dot_S512x1024_S1024x256_S512x256_1_0_0_1_n_n none (View.ld (hFull B) rectWhole) (wCols w n)
    (constant S512x256 .f32 0x00000000#32)

/-- The tile times columns `256 n` on: the first three by halves. -/
def prod (B : Blocks F) (w : Vec F S1024x2816 .bf16) : Nat → FVec F S512x256 .f32
  | 0 => prodEarly B w 0
  | 1 => prodEarly B w 1
  | 2 => prodEarly B w 2
  | n + 3 => prodLate B w (n + 3)

/-- Rows `k` earlier, the first `k` from the rows before the tile. -/
def shifted (k : BitVec 32) (g : FVec F S512x256 .f32) (prev : FVec F S8x256 .f32) : FVec F S512x256 .f32 :=
  concatenate S512x256 0 [⟨S8x256, select (cmpi .slt (iota .tc S8x256 32 [0] iota_S8x256_d0_w32) (broadcast S8x256 k))
      (dynamicRotate 0 k none prev rotates_S8x256_d0)
      (extractStridedSlice S8x256 ![0, 0] (dynamicRotate 0 k none g rotates_S512x256_d0) slices_S512x256_o0_0_S8x256)⟩,
    ⟨S504x256, extractStridedSlice S504x256 ![8, 0] (dynamicRotate 0 k none g rotates_S512x256_d0) slices_S512x256_o8_0_S504x256⟩]
    concatenates_S8x256_S504x256_S512x256_d0

/-- The convolution of three taps along the rows, with its bias. -/
def conv (B : Blocks F) (g : FVec F S512x256 .f32) (prev : FVec F S8x256 .f32) (n : Nat) : FVec F S512x256 .f32 :=
  addf (addf (addf (mulf (shifted 2#32 g prev) (broadcastTo S512x256 (View.ld B.cw (rectTap 0 n)) broadcasts_S1x256_S512x256))
      (mulf (shifted 1#32 g prev) (broadcastTo S512x256 (View.ld B.cw (rectTap 1 n)) broadcasts_S1x256_S512x256)))
      (mulf g (broadcastTo S512x256 (View.ld B.cw (rectTap 2 n)) broadcasts_S1x256_S512x256)))
    (broadcastTo S512x256 (shapeCast S1x256 (View.ld B.cb (rectBias n)) shapeCasts_S1x256_S1x256) broadcasts_S1x256_S512x256)

/-- Twice the gated unit: the convolved gate through the error function, times the up product. -/
def gateUp (z u : FVec F S512x256 .f32) : FVec F S512x256 .bf16 :=
  truncf .bf16 (mulf (mulf z (addf (broadcast S512x256 (Scalar.ofBits .f32 0x3F800000#32))
    (erf (mulf z (broadcast S512x256 (Scalar.ofBits .f32 0x3F3504F3#32)))))) u) bitsLt_bf16_f32

/-- The rows before the tile, columns `256 n` on. -/
def prevOf (p : Vec F S11x8x256 .f32) (n : Nat) : FVec F S8x256 .f32 :=
  shapeCast S8x256 (View.ld p (rectTail n)) shapeCasts_S1x8x256_S8x256

def pieceAct (B : Blocks F) (p : Vec F S11x8x256 .f32) (n : Nat) : View.Piece (Elt F) S512x2816 .bf16 :=
  ⟨rectActCols n, shapeCast S512x256 (gateUp (conv B (prod B B.wg n) (prevOf p n) n) (prod B B.wu n))
    shapeCasts_S512x256_S512x256⟩

def pieceTail (B : Blocks F) (n : Nat) : View.Piece (Elt F) S11x8x256 .f32 :=
  ⟨rectTail n, shapeCast S1x8x256 (extractStridedSlice S8x256 ![504, 0] (prod B B.wg n) slices_S512x256_o504_0_S8x256)
    shapeCasts_S8x256_S1x8x256⟩

/-- The activations. -/
def actFull (B : Blocks F) (p : Vec F S11x8x256 .f32) : Vec F S512x2816 .bf16 :=
  View.canon ((List.range 11).reverse.map (pieceAct B p))

/-- The last rows of the gate product, which the next tile reads. -/
def tailPieces (B : Blocks F) : List (View.Piece (Elt F) S11x8x256 .f32) := (List.range 11).reverse.map (pieceTail B)

/-- Half `i` of the tile before the last normalisation. -/
def outMixed (B : Blocks F) (p : Vec F S11x8x256 .f32) (i : Nat) : FVec F S256x1024 .f32 :=
  addf (mulf (broadcast S256x1024 (Scalar.ofBits .f32 0x3F9837F0#32)) (View.ld (xFull B) (rectHalf i)))
    (mulf (broadcastTo S256x1024 (mulf (broadcast S1x1024 (Scalar.ofBits .f32 0x3F000000#32)) (modRow B 5))
        broadcasts_S1x1024_S256x1024)
      (matmul (φ₁ := .bf16) dot_S256x2816_S2816x1024_S256x1024_1_0_0_1_n_n none (View.ld (actFull B p) (rectAct i))
        (truncf .bf16 B.wd bitsLt_bf16_f32) (constant S256x1024 .f32 0x00000000#32)))

def pieceOut (B : Blocks F) (p : Vec F S11x8x256 .f32) (i : Nat) : View.Piece (Elt F) S1x512x1024 .f32 :=
  ⟨rectRows i, shapeCast S1x256x1024 (normed (outMixed B p i) (shapeCast S1x1024 B.g2 shapeCasts_S1x1024_S1x1024)
    (shapeCast S1x1024 B.b2 shapeCasts_S1x1024_S1x1024)) shapeCasts_S256x1024_S1x256x1024⟩

/-- What a grid point stores. -/
def outBlock (B : Blocks F) (p : Vec F S11x8x256 .f32) : Vec F S1x512x1024 .f32 := View.canon [pieceOut B p 1, pieceOut B p 0]

/-- A grid point's blocks. -/
def blocks (m : (ℓ : Loc nD τ sig) → Buf (Elt F) ℓ) (c : Dev nD) (t : Fin cfg0.N) : Blocks F :=
  ⟨iblk m c 0 t, iblk m c 1 t, iblk m c 2 t, iblk m c 3 t, iblk m c 4 t, iblk m c 5 t, iblk m c 6 t, iblk m c 7 t,
    iblk m c 8 t, iblk m c 9 t, iblk m c 10 t, iblk m c 11 t, iblk m c 12 t, iblk m c 13 t, iblk m c 14 t, iblk m c 15 t,
    iblk m c 16 t, iblk m c 17 t⟩

end Cert.Kernel2Ideal.Mix
-- ==== Proof.Mix.OutsA.lean ====
/- What a grid point leaves when its tile is the first of its sequence. -/
module

public import proofs.«01_k».proof.Proof.Mix.Body

@[expose] public section

set_option maxRecDepth 16384

noncomputable section

namespace Cert.Kernel2Ideal.Mix

open Cert.Kernel2Ideal Cert.Kernel2Ideal.Gen Idealize.ShloMosaic Idealize.ShloMosaic.TcCoe Idealize.SL.Sem
open Idealize.ShloMosaic.Pipeline (Dat)

variable {F : FTy → Type} [FloatOps F]

set_option maxHeartbeats 4000000 in
/-- The rows the first tile stores last for the next one, over the zeros it starts from. -/
theorem tail_first (m : (ℓ : Loc nD τ sig) → Buf (Elt F) ℓ) (c : Dev nD) (t : Fin cfg0.N) (h0 : t.val % 8 = 0) :
    (outsAt0 m c t.val t.isLt).2 = View.canon (tailPieces (blocks m c t) ++
      [⟨Rect.unit ![0, 0, 0] S11x8x256.size inb_S11x8x256_S11x8x256_0_0_0, k0_pay2⟩]) := by
  rw [outsAt0_A m c t h0]
  dsimp only
  unfold sout0_A_0
  rw [View.read_writes_junk_eq_canon]
  unfold kernelRun0_A
  dsimp only
  sl_unfold_words
  have hz2 : (![0, 0] : Fin 2 → Nat) = fun _ => 0 := by decide
  simp (disch := decide) only [View.readAt_eq_ld, (hs0_0 t).read_unread, (hs0_1 t).read_unread, (hs0_2 t).read_unread,
    (hs0_3 t).read_unread, (hs0_4 t).read_unread, (hs0_5 t).read_unread, (hs0_6 t).read_unread,
    (hs0_7 t).read_unread, (hs0_8 t).read_unread, (hs0_9 t).read_unread, (hs0_10 t).read_unread,
    (hs0_11 t).read_unread, (hs0_12 t).read_unread, (hs0_13 t).read_unread, (hs0_14 t).read_unread,
    (hs0_15 t).read_unread, (hs0_16 t).read_unread, (hs0_17 t).read_unread, (Memref.isWhole_whole _).read_unread,
    View.ld_unit_zero (S := S512x1024) hz2, View.ld_unit_zero (S := S1024x1024) hz2, View.ld_unit_zero (S := S1x1024) hz2,
    View.ld_unit_zero (S := S2816x1024) hz2, View.readCov_skip (s := S11x8x256), View.readCov_fill (s := S11x8x256),
    View.readCov_eq_canon' (s := S512x1024), View.readCov_eq_canon' (s := S512x2816)]
  rfl

end Cert.Kernel2Ideal.Mix
-- ==== Proof.Mix.OutsB.lean ====
/- What a grid point leaves when it reads the rows before its tile. -/
module

public import proofs.«01_k».proof.Proof.Mix.Body

@[expose] public section

set_option maxRecDepth 16384

noncomputable section

namespace Cert.Kernel2Ideal.Mix

open Cert.Kernel2Ideal Cert.Kernel2Ideal.Gen Idealize.ShloMosaic Idealize.ShloMosaic.TcCoe Idealize.SL.Sem
open Idealize.ShloMosaic.Pipeline (Dat)

variable {F : FTy → Type} [FloatOps F]

set_option maxHeartbeats 4000000 in
/-- The rows a later tile stores last for the next one. -/
theorem tail_later (m : (ℓ : Loc nD τ sig) → Buf (Elt F) ℓ) (c : Dev nD) (t : Fin cfg0.N) (h0 : ¬t.val % 8 = 0) :
    (outsAt0 m c t.val t.isLt).2 = View.canon (tailPieces (blocks m c t)) := by
  rw [outsAt0_B m c t h0]
  dsimp only
  unfold sout0_B_0
  rw [View.read_writes_junk_eq_canon]
  unfold kernelRun0_B
  dsimp only
  sl_unfold_words
  have hz2 : (![0, 0] : Fin 2 → Nat) = fun _ => 0 := by decide
  simp only [View.readAt_eq_ld, (hs0_0 t).read_unread, (hs0_1 t).read_unread, (hs0_2 t).read_unread,
    (hs0_3 t).read_unread, (hs0_4 t).read_unread, (hs0_5 t).read_unread, (hs0_6 t).read_unread,
    (hs0_7 t).read_unread, (hs0_8 t).read_unread, (hs0_9 t).read_unread, (hs0_10 t).read_unread,
    (hs0_11 t).read_unread, (hs0_12 t).read_unread, (hs0_13 t).read_unread, (hs0_14 t).read_unread,
    (hs0_15 t).read_unread, (hs0_16 t).read_unread, (hs0_17 t).read_unread, (Memref.isWhole_whole _).read_unread,
    View.ld_unit_zero (S := S512x1024) hz2, View.ld_unit_zero (S := S1024x1024) hz2, View.ld_unit_zero (S := S1x1024) hz2,
    View.ld_unit_zero (S := S2816x1024) hz2, View.readCov_eq_canon']
  rfl

end Cert.Kernel2Ideal.Mix
-- ==== Proof.Mix.StoreA.lean ====
/- What a grid point keeps and stores when its tile is the first one of its sequence. -/
module

public import proofs.«01_k».proof.Proof.Mix.Body

@[expose] public section

set_option maxRecDepth 16384

noncomputable section

namespace Cert.Kernel2Ideal.Mix

open Cert.Kernel2Ideal Cert.Kernel2Ideal.Gen Idealize.ShloMosaic Idealize.ShloMosaic.TcCoe Idealize.SL.Sem
open Idealize.ShloMosaic.Pipeline (Dat)

variable {F : FTy → Type} [FloatOps F]

set_option maxHeartbeats 4000000 in
/-- The normalised rows the first tile keeps. -/
theorem xs_first (m : (ℓ : Loc nD τ sig) → Buf (Elt F) ℓ) (c : Dev nD) (t : Fin cfg0.N) :
    kernelRun0_A.sl.HS1_2 (F := F) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t)
      (iblk m c 0 t) (iblk m c 1 t) (iblk m c 2 t) (iblk m c 3 t) (iblk m c 4 t) (iblk m c 5 t) (iblk m c 6 t) (iblk m c 7 t) (iblk m c 8 t) (iblk m c 9 t) (iblk m c 10 t) = [pieceX (blocks m c t) 1, pieceX (blocks m c t) 0] := by
  sl_unfold_words
  have hz2 : (![0, 0] : Fin 2 → Nat) = fun _ => 0 := by decide
  simp only [View.readAt_eq_ld, (hs0_0 t).read_unread, (hs0_1 t).read_unread, (hs0_2 t).read_unread,
    (hs0_3 t).read_unread, (hs0_4 t).read_unread, (hs0_5 t).read_unread, (hs0_6 t).read_unread,
    (hs0_7 t).read_unread, (hs0_8 t).read_unread, (hs0_9 t).read_unread, (hs0_10 t).read_unread,
    (hs0_11 t).read_unread, (hs0_12 t).read_unread, (hs0_13 t).read_unread, (hs0_14 t).read_unread,
    (hs0_15 t).read_unread, (hs0_16 t).read_unread, (hs0_17 t).read_unread, (Memref.isWhole_whole _).read_unread,
    View.ld_unit_zero (S := S512x1024) hz2, View.ld_unit_zero (S := S1024x1024) hz2, View.ld_unit_zero (S := S1x1024) hz2,
    View.ld_unit_zero (S := S2816x1024) hz2, View.readCov_eq_canon']
  rfl

set_option maxHeartbeats 4000000 in
/-- The feed-forward part's input the first tile keeps. -/
theorem hs_first (m : (ℓ : Loc nD τ sig) → Buf (Elt F) ℓ) (c : Dev nD) (t : Fin cfg0.N) :
    kernelRun0_A.sl.HS2_2 (F := F) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t)
      (iblk m c 0 t) (iblk m c 1 t) (iblk m c 2 t) (iblk m c 3 t) (iblk m c 4 t) (iblk m c 5 t) (iblk m c 6 t) (iblk m c 7 t) (iblk m c 8 t) (iblk m c 9 t) (iblk m c 10 t) = [pieceH (blocks m c t) 1, pieceH (blocks m c t) 0] := by
  sl_unfold_words
  have hz2 : (![0, 0] : Fin 2 → Nat) = fun _ => 0 := by decide
  simp only [View.readAt_eq_ld, (hs0_0 t).read_unread, (hs0_1 t).read_unread, (hs0_2 t).read_unread,
    (hs0_3 t).read_unread, (hs0_4 t).read_unread, (hs0_5 t).read_unread, (hs0_6 t).read_unread,
    (hs0_7 t).read_unread, (hs0_8 t).read_unread, (hs0_9 t).read_unread, (hs0_10 t).read_unread,
    (hs0_11 t).read_unread, (hs0_12 t).read_unread, (hs0_13 t).read_unread, (hs0_14 t).read_unread,
    (hs0_15 t).read_unread, (hs0_16 t).read_unread, (hs0_17 t).read_unread, (Memref.isWhole_whole _).read_unread,
    View.ld_unit_zero (S := S512x1024) hz2, View.ld_unit_zero (S := S1024x1024) hz2, View.ld_unit_zero (S := S1x1024) hz2,
    View.ld_unit_zero (S := S2816x1024) hz2, View.readCov_eq_canon']
  rfl

theorem v143_first (m : (ℓ : Loc nD τ sig) → Buf (Elt F) ℓ) (c : Dev nD) (t : Fin cfg0.N) :
    kernelRun0_A.sl.v143 (F := F) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t)
      scM0_2 (iblk m c 0 t) (iblk m c 1 t) (iblk m c 2 t) (iblk m c 3 t) (iblk m c 4 t) (iblk m c 5 t) (iblk m c 6 t) (iblk m c 7 t) (iblk m c 8 t) (iblk m c 9 t) (iblk m c 10 t)
      = View.ld (hFull (blocks m c t)) (rectHalf 0) := by
  unfold kernelRun0_A.sl.v143
  rw [hs_first m c t, View.readCov_eq_canon']
  rfl

theorem v167_first (m : (ℓ : Loc nD τ sig) → Buf (Elt F) ℓ) (c : Dev nD) (t : Fin cfg0.N) :
    kernelRun0_A.sl.v167 (F := F) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t)
      scM0_2 (iblk m c 0 t) (iblk m c 1 t) (iblk m c 2 t) (iblk m c 3 t) (iblk m c 4 t) (iblk m c 5 t) (iblk m c 6 t) (iblk m c 7 t) (iblk m c 8 t) (iblk m c 9 t) (iblk m c 10 t)
      = View.ld (hFull (blocks m c t)) (rectHalf 1) := by
  unfold kernelRun0_A.sl.v167
  rw [hs_first m c t, View.readCov_eq_canon']
  rfl

theorem v191_first (m : (ℓ : Loc nD τ sig) → Buf (Elt F) ℓ) (c : Dev nD) (t : Fin cfg0.N) :
    kernelRun0_A.sl.v191 (F := F) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t)
      scM0_2 (iblk m c 0 t) (iblk m c 1 t) (iblk m c 2 t) (iblk m c 3 t) (iblk m c 4 t) (iblk m c 5 t) (iblk m c 6 t) (iblk m c 7 t) (iblk m c 8 t) (iblk m c 9 t) (iblk m c 10 t)
      = View.ld (hFull (blocks m c t)) rectWhole := by
  unfold kernelRun0_A.sl.v191
  rw [hs_first m c t, View.readCov_eq_canon']
  rfl

set_option maxHeartbeats 4000000 in
/-- The activations the first tile keeps. -/
theorem acts_first (m : (ℓ : Loc nD τ sig) → Buf (Elt F) ℓ) (c : Dev nD) (t : Fin cfg0.N) :
    (kernelRun0_A.sl.HS3_11 (F := F) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_14 t) (hs0_14 t) (ms0_15 t) (hs0_15 t)
      scM0_0 scM0_2 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 14 t) (iblk m c 15 t)) = (List.range 11).reverse.map (pieceAct (blocks m c t) k0_pay2) := by
  have hz2 : (![0, 0] : Fin 2 → Nat) = fun _ => 0 := by decide
  simp only [kernelRun0_A.sl.HS3_11, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.v246, kernelRun0_A.sl.v298, kernelRun0_A.sl.v354, kernelRun0_A.sl.v410, kernelRun0_A.sl.v466, kernelRun0_A.sl.v522, kernelRun0_A.sl.v578, kernelRun0_A.sl.v634, kernelRun0_A.sl.v690, kernelRun0_A.sl.v697, kernelRun0_A.sl.v746, kernelRun0_A.sl.v194, kernelRun0_A.sl.HS0_1, kernelRun0_A.sl.HS0_2, kernelRun0_A.sl.HS0_3, kernelRun0_A.sl.HS0_4, kernelRun0_A.sl.HS0_5, kernelRun0_A.sl.HS0_6, kernelRun0_A.sl.HS0_7, kernelRun0_A.sl.HS0_8, kernelRun0_A.sl.HS0_9, kernelRun0_A.sl.HS0_10, kernelRun0_A.sl.HS0_11]
  simp (disch := decide) only [v143_first m c t, v167_first m c t, v191_first m c t, View.readAt_eq_ld, (hs0_0 t).read_unread, (hs0_1 t).read_unread, (hs0_2 t).read_unread,
    (hs0_3 t).read_unread, (hs0_4 t).read_unread, (hs0_5 t).read_unread, (hs0_6 t).read_unread,
    (hs0_7 t).read_unread, (hs0_8 t).read_unread, (hs0_9 t).read_unread, (hs0_10 t).read_unread,
    (hs0_11 t).read_unread, (hs0_12 t).read_unread, (hs0_13 t).read_unread, (hs0_14 t).read_unread,
    (hs0_15 t).read_unread, (hs0_16 t).read_unread, (hs0_17 t).read_unread, (Memref.isWhole_whole _).read_unread,
    View.ld_unit_zero (S := S1024x1024) hz2, View.ld_unit_zero (S := S1x1024) hz2,
    View.ld_unit_zero (S := S2816x1024) hz2, View.readCov_skip (s := S11x8x256), View.readCov_fill (s := S11x8x256)]
  rfl

theorem v804_first (m : (ℓ : Loc nD τ sig) → Buf (Elt F) ℓ) (c : Dev nD) (t : Fin cfg0.N) :
    kernelRun0_A.sl.v804 (F := F) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t)
      scM0_1 (iblk m c 0 t) (iblk m c 1 t) (iblk m c 2 t) (iblk m c 3 t) (iblk m c 4 t) (iblk m c 5 t) (iblk m c 6 t) (iblk m c 7 t) (iblk m c 8 t) (iblk m c 9 t) (iblk m c 10 t)
      = View.ld (xFull (blocks m c t)) (rectHalf 0) := by
  unfold kernelRun0_A.sl.v804
  rw [xs_first m c t, View.readCov_eq_canon']
  rfl

theorem v841_first (m : (ℓ : Loc nD τ sig) → Buf (Elt F) ℓ) (c : Dev nD) (t : Fin cfg0.N) :
    kernelRun0_A.sl.v841 (F := F) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t)
      scM0_1 (iblk m c 0 t) (iblk m c 1 t) (iblk m c 2 t) (iblk m c 3 t) (iblk m c 4 t) (iblk m c 5 t) (iblk m c 6 t) (iblk m c 7 t) (iblk m c 8 t) (iblk m c 9 t) (iblk m c 10 t)
      = View.ld (xFull (blocks m c t)) (rectHalf 1) := by
  unfold kernelRun0_A.sl.v841
  rw [xs_first m c t, View.readCov_eq_canon']
  rfl

theorem v800_first (m : (ℓ : Loc nD τ sig) → Buf (Elt F) ℓ) (c : Dev nD) (t : Fin cfg0.N) :
    kernelRun0_A.sl.v800 (F := F) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_14 t) (hs0_14 t) (ms0_15 t) (hs0_15 t)
      scM0_0 scM0_2 scM0_3 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 14 t) (iblk m c 15 t)
      = View.ld (actFull (blocks m c t) k0_pay2) (rectAct 0) := by
  unfold kernelRun0_A.sl.v800
  rw [acts_first m c t, View.readCov_eq_canon']
  rfl

theorem v837_first (m : (ℓ : Loc nD τ sig) → Buf (Elt F) ℓ) (c : Dev nD) (t : Fin cfg0.N) :
    kernelRun0_A.sl.v837 (F := F) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_14 t) (hs0_14 t) (ms0_15 t) (hs0_15 t)
      scM0_0 scM0_2 scM0_3 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 14 t) (iblk m c 15 t)
      = View.ld (actFull (blocks m c t) k0_pay2) (rectAct 1) := by
  unfold kernelRun0_A.sl.v837
  rw [acts_first m c t, View.readCov_eq_canon']
  rfl

set_option maxHeartbeats 4000000 in
/-- What the first tile stores. -/
theorem out_first (m : (ℓ : Loc nD τ sig) → Buf (Elt F) ℓ) (c : Dev nD) (t : Fin cfg0.N) (h0 : t.val % 8 = 0) :
    (outsAt0 m c t.val t.isLt).1 = outBlock (blocks m c t) k0_pay2 := by
  rw [outsAt0_A m c t h0]
  dsimp only
  unfold out0_A_18
  rw [View.read_writes_junk_eq_canon]
  unfold kernelRun0_A
  dsimp only
  have hx0 := v804_first m c t
  have hx1 := v841_first m c t
  have ha0 := v800_first m c t
  have ha1 := v837_first m c t
  have hz2 : (![0, 0] : Fin 2 → Nat) = fun _ => 0 := by decide
  simp only [hx0, hx1, ha0, ha1, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_67, kernelRun0_A.sl.r_68, kernelRun0_A.sl.r_69, kernelRun0_A.sl.r_70, kernelRun0_A.sl.r_71, kernelRun0_A.sl.r_72, kernelRun0_A.sl.v0, kernelRun0_A.sl.v1, kernelRun0_A.sl.v2, View.readAt_eq_ld, (hs0_0 t).read_unread, (hs0_1 t).read_unread, (hs0_2 t).read_unread,
    (hs0_3 t).read_unread, (hs0_4 t).read_unread, (hs0_5 t).read_unread, (hs0_6 t).read_unread,
    (hs0_7 t).read_unread, (hs0_8 t).read_unread, (hs0_9 t).read_unread, (hs0_10 t).read_unread,
    (hs0_11 t).read_unread, (hs0_12 t).read_unread, (hs0_13 t).read_unread, (hs0_14 t).read_unread,
    (hs0_15 t).read_unread, (hs0_16 t).read_unread, (hs0_17 t).read_unread, (Memref.isWhole_whole _).read_unread,
    View.ld_unit_zero (S := S1024x1024) hz2, View.ld_unit_zero (S := S1x1024) hz2,
    View.ld_unit_zero (S := S2816x1024) hz2, View.readCov_eq_canon']
  rfl

end Cert.Kernel2Ideal.Mix
-- ==== Proof.Mix.StoreB.lean ====
/- What a grid point keeps and stores when it reads the rows before its tile. -/
module

public import proofs.«01_k».proof.Proof.Mix.Body

@[expose] public section

set_option maxRecDepth 16384

noncomputable section

namespace Cert.Kernel2Ideal.Mix

open Cert.Kernel2Ideal Cert.Kernel2Ideal.Gen Idealize.ShloMosaic Idealize.ShloMosaic.TcCoe Idealize.SL.Sem
open Idealize.ShloMosaic.Pipeline (Dat)

variable {F : FTy → Type} [FloatOps F]

set_option maxHeartbeats 4000000 in
/-- The normalised rows a later tile keeps. -/
theorem xs_later (m : (ℓ : Loc nD τ sig) → Buf (Elt F) ℓ) (c : Dev nD) (t : Fin cfg0.N) :
    kernelRun0_B.sl.HS1_2 (F := F) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t)
      (iblk m c 0 t) (iblk m c 1 t) (iblk m c 2 t) (iblk m c 3 t) (iblk m c 4 t) (iblk m c 5 t) (iblk m c 6 t) (iblk m c 7 t) (iblk m c 8 t) (iblk m c 9 t) (iblk m c 10 t) = [pieceX (blocks m c t) 1, pieceX (blocks m c t) 0] := by
  sl_unfold_words
  have hz2 : (![0, 0] : Fin 2 → Nat) = fun _ => 0 := by decide
  simp only [View.readAt_eq_ld, (hs0_0 t).read_unread, (hs0_1 t).read_unread, (hs0_2 t).read_unread,
    (hs0_3 t).read_unread, (hs0_4 t).read_unread, (hs0_5 t).read_unread, (hs0_6 t).read_unread,
    (hs0_7 t).read_unread, (hs0_8 t).read_unread, (hs0_9 t).read_unread, (hs0_10 t).read_unread,
    (hs0_11 t).read_unread, (hs0_12 t).read_unread, (hs0_13 t).read_unread, (hs0_14 t).read_unread,
    (hs0_15 t).read_unread, (hs0_16 t).read_unread, (hs0_17 t).read_unread, (Memref.isWhole_whole _).read_unread,
    View.ld_unit_zero (S := S512x1024) hz2, View.ld_unit_zero (S := S1024x1024) hz2, View.ld_unit_zero (S := S1x1024) hz2,
    View.ld_unit_zero (S := S2816x1024) hz2, View.readCov_eq_canon']
  rfl

set_option maxHeartbeats 4000000 in
/-- The feed-forward part's input a later tile keeps. -/
theorem hs_later (m : (ℓ : Loc nD τ sig) → Buf (Elt F) ℓ) (c : Dev nD) (t : Fin cfg0.N) :
    kernelRun0_B.sl.HS2_2 (F := F) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t)
      (iblk m c 0 t) (iblk m c 1 t) (iblk m c 2 t) (iblk m c 3 t) (iblk m c 4 t) (iblk m c 5 t) (iblk m c 6 t) (iblk m c 7 t) (iblk m c 8 t) (iblk m c 9 t) (iblk m c 10 t) = [pieceH (blocks m c t) 1, pieceH (blocks m c t) 0] := by
  sl_unfold_words
  have hz2 : (![0, 0] : Fin 2 → Nat) = fun _ => 0 := by decide
  simp only [View.readAt_eq_ld, (hs0_0 t).read_unread, (hs0_1 t).read_unread, (hs0_2 t).read_unread,
    (hs0_3 t).read_unread, (hs0_4 t).read_unread, (hs0_5 t).read_unread, (hs0_6 t).read_unread,
    (hs0_7 t).read_unread, (hs0_8 t).read_unread, (hs0_9 t).read_unread, (hs0_10 t).read_unread,
    (hs0_11 t).read_unread, (hs0_12 t).read_unread, (hs0_13 t).read_unread, (hs0_14 t).read_unread,
    (hs0_15 t).read_unread, (hs0_16 t).read_unread, (hs0_17 t).read_unread, (Memref.isWhole_whole _).read_unread,
    View.ld_unit_zero (S := S512x1024) hz2, View.ld_unit_zero (S := S1024x1024) hz2, View.ld_unit_zero (S := S1x1024) hz2,
    View.ld_unit_zero (S := S2816x1024) hz2, View.readCov_eq_canon']
  rfl

theorem v143_later (m : (ℓ : Loc nD τ sig) → Buf (Elt F) ℓ) (c : Dev nD) (t : Fin cfg0.N) :
    kernelRun0_B.sl.v143 (F := F) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t)
      scM0_2 (iblk m c 0 t) (iblk m c 1 t) (iblk m c 2 t) (iblk m c 3 t) (iblk m c 4 t) (iblk m c 5 t) (iblk m c 6 t) (iblk m c 7 t) (iblk m c 8 t) (iblk m c 9 t) (iblk m c 10 t)
      = View.ld (hFull (blocks m c t)) (rectHalf 0) := by
  unfold kernelRun0_B.sl.v143
  rw [hs_later m c t, View.readCov_eq_canon']
  rfl

theorem v167_later (m : (ℓ : Loc nD τ sig) → Buf (Elt F) ℓ) (c : Dev nD) (t : Fin cfg0.N) :
    kernelRun0_B.sl.v167 (F := F) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t)
      scM0_2 (iblk m c 0 t) (iblk m c 1 t) (iblk m c 2 t) (iblk m c 3 t) (iblk m c 4 t) (iblk m c 5 t) (iblk m c 6 t) (iblk m c 7 t) (iblk m c 8 t) (iblk m c 9 t) (iblk m c 10 t)
      = View.ld (hFull (blocks m c t)) (rectHalf 1) := by
  unfold kernelRun0_B.sl.v167
  rw [hs_later m c t, View.readCov_eq_canon']
  rfl

theorem v191_later (m : (ℓ : Loc nD τ sig) → Buf (Elt F) ℓ) (c : Dev nD) (t : Fin cfg0.N) :
    kernelRun0_B.sl.v191 (F := F) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t)
      scM0_2 (iblk m c 0 t) (iblk m c 1 t) (iblk m c 2 t) (iblk m c 3 t) (iblk m c 4 t) (iblk m c 5 t) (iblk m c 6 t) (iblk m c 7 t) (iblk m c 8 t) (iblk m c 9 t) (iblk m c 10 t)
      = View.ld (hFull (blocks m c t)) rectWhole := by
  unfold kernelRun0_B.sl.v191
  rw [hs_later m c t, View.readCov_eq_canon']
  rfl

set_option maxHeartbeats 4000000 in
/-- The activations a later tile keeps. -/
theorem acts_later (m : (ℓ : Loc nD τ sig) → Buf (Elt F) ℓ) (c : Dev nD) (t : Fin cfg0.N) (p : Vec F S11x8x256 .f32) :
    (kernelRun0_B.sl.HS3_11 (F := F) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_14 t) (hs0_14 t) (ms0_15 t) (hs0_15 t)
      scM0_0 (Memref.isWhole_whole _) scM0_2 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 14 t) (iblk m c 15 t) p) = (List.range 11).reverse.map (pieceAct (blocks m c t) p) := by
  have hz2 : (![0, 0] : Fin 2 → Nat) = fun _ => 0 := by decide
  simp only [kernelRun0_B.sl.HS3_11, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, kernelRun0_B.sl.r_59, kernelRun0_B.sl.r_60, kernelRun0_B.sl.r_61, kernelRun0_B.sl.r_62, kernelRun0_B.sl.r_63, kernelRun0_B.sl.r_64, kernelRun0_B.sl.r_65, kernelRun0_B.sl.r_66, kernelRun0_B.sl.v246, kernelRun0_B.sl.v298, kernelRun0_B.sl.v354, kernelRun0_B.sl.v410, kernelRun0_B.sl.v466, kernelRun0_B.sl.v522, kernelRun0_B.sl.v578, kernelRun0_B.sl.v634, kernelRun0_B.sl.v690, kernelRun0_B.sl.v697, kernelRun0_B.sl.v746]
  simp only [v143_later m c t, v167_later m c t, v191_later m c t, View.readAt_eq_ld, (hs0_0 t).read_unread, (hs0_1 t).read_unread, (hs0_2 t).read_unread,
    (hs0_3 t).read_unread, (hs0_4 t).read_unread, (hs0_5 t).read_unread, (hs0_6 t).read_unread,
    (hs0_7 t).read_unread, (hs0_8 t).read_unread, (hs0_9 t).read_unread, (hs0_10 t).read_unread,
    (hs0_11 t).read_unread, (hs0_12 t).read_unread, (hs0_13 t).read_unread, (hs0_14 t).read_unread,
    (hs0_15 t).read_unread, (hs0_16 t).read_unread, (hs0_17 t).read_unread, (Memref.isWhole_whole _).read_unread,
    View.ld_unit_zero (S := S1024x1024) hz2, View.ld_unit_zero (S := S1x1024) hz2,
    View.ld_unit_zero (S := S2816x1024) hz2, View.readCov_eq_canon']
  rfl

theorem v804_later (m : (ℓ : Loc nD τ sig) → Buf (Elt F) ℓ) (c : Dev nD) (t : Fin cfg0.N) :
    kernelRun0_B.sl.v804 (F := F) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t)
      scM0_1 (iblk m c 0 t) (iblk m c 1 t) (iblk m c 2 t) (iblk m c 3 t) (iblk m c 4 t) (iblk m c 5 t) (iblk m c 6 t) (iblk m c 7 t) (iblk m c 8 t) (iblk m c 9 t) (iblk m c 10 t)
      = View.ld (xFull (blocks m c t)) (rectHalf 0) := by
  unfold kernelRun0_B.sl.v804
  rw [xs_later m c t, View.readCov_eq_canon']
  rfl

theorem v841_later (m : (ℓ : Loc nD τ sig) → Buf (Elt F) ℓ) (c : Dev nD) (t : Fin cfg0.N) :
    kernelRun0_B.sl.v841 (F := F) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t)
      scM0_1 (iblk m c 0 t) (iblk m c 1 t) (iblk m c 2 t) (iblk m c 3 t) (iblk m c 4 t) (iblk m c 5 t) (iblk m c 6 t) (iblk m c 7 t) (iblk m c 8 t) (iblk m c 9 t) (iblk m c 10 t)
      = View.ld (xFull (blocks m c t)) (rectHalf 1) := by
  unfold kernelRun0_B.sl.v841
  rw [xs_later m c t, View.readCov_eq_canon']
  rfl

theorem v800_later (m : (ℓ : Loc nD τ sig) → Buf (Elt F) ℓ) (c : Dev nD) (t : Fin cfg0.N) (p : Vec F S11x8x256 .f32) :
    kernelRun0_B.sl.v800 (F := F) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_14 t) (hs0_14 t) (ms0_15 t) (hs0_15 t)
      scM0_0 (Memref.isWhole_whole _) scM0_2 scM0_3 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 14 t) (iblk m c 15 t) p
      = View.ld (actFull (blocks m c t) p) (rectAct 0) := by
  unfold kernelRun0_B.sl.v800
  rw [acts_later m c t, View.readCov_eq_canon']
  rfl

theorem v837_later (m : (ℓ : Loc nD τ sig) → Buf (Elt F) ℓ) (c : Dev nD) (t : Fin cfg0.N) (p : Vec F S11x8x256 .f32) :
    kernelRun0_B.sl.v837 (F := F) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_14 t) (hs0_14 t) (ms0_15 t) (hs0_15 t)
      scM0_0 (Memref.isWhole_whole _) scM0_2 scM0_3 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 14 t) (iblk m c 15 t) p
      = View.ld (actFull (blocks m c t) p) (rectAct 1) := by
  unfold kernelRun0_B.sl.v837
  rw [acts_later m c t, View.readCov_eq_canon']
  rfl

set_option maxHeartbeats 4000000 in
/-- What a later tile stores. -/
theorem out_later (m : (ℓ : Loc nD τ sig) → Buf (Elt F) ℓ) (c : Dev nD) (t : Fin cfg0.N) (h0 : ¬t.val % 8 = 0) :
    (outsAt0 m c t.val t.isLt).1 = outBlock (blocks m c t) (outsAt0 m c (t.val - 1) (by have := t.isLt; omega)).2 := by
  rw [outsAt0_B m c t h0]
  dsimp only
  unfold out0_B_18
  rw [View.read_writes_junk_eq_canon]
  unfold kernelRun0_B
  dsimp only
  have hx0 := v804_later m c t
  have hx1 := v841_later m c t
  have ha0 := v800_later m c t
  have ha1 := v837_later m c t
  have hz2 : (![0, 0] : Fin 2 → Nat) = fun _ => 0 := by decide
  simp only [hx0, hx1, ha0, ha1, kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_67, kernelRun0_B.sl.r_68, kernelRun0_B.sl.r_69, kernelRun0_B.sl.r_70, kernelRun0_B.sl.r_71, kernelRun0_B.sl.r_72, kernelRun0_B.sl.v0, kernelRun0_B.sl.v1, kernelRun0_B.sl.v2, View.readAt_eq_ld, (hs0_0 t).read_unread, (hs0_1 t).read_unread, (hs0_2 t).read_unread,
    (hs0_3 t).read_unread, (hs0_4 t).read_unread, (hs0_5 t).read_unread, (hs0_6 t).read_unread,
    (hs0_7 t).read_unread, (hs0_8 t).read_unread, (hs0_9 t).read_unread, (hs0_10 t).read_unread,
    (hs0_11 t).read_unread, (hs0_12 t).read_unread, (hs0_13 t).read_unread, (hs0_14 t).read_unread,
    (hs0_15 t).read_unread, (hs0_16 t).read_unread, (hs0_17 t).read_unread, (Memref.isWhole_whole _).read_unread,
    View.ld_unit_zero (S := S1024x1024) hz2, View.ld_unit_zero (S := S1x1024) hz2,
    View.ld_unit_zero (S := S2816x1024) hz2, View.readCov_eq_canon']
  rfl

end Cert.Kernel2Ideal.Mix
-- ==== Proof.Mix.Spec.lean ====
/- The last part of the layer over the extended reals, row by row: the two branches merged, the first normalisation, the
   convolutional feed-forward part and the second normalisation. -/
module

public import Idealize.ShloMosaic.Lib.Pointwise

@[expose] public section

noncomputable section

namespace Cert.Mix

open Idealize.ShloMosaic

/-- `n` rows of one sequence, with the weights. -/
structure Seq (n : Nat) where
  ya : Fin n → Fin 512 → EReal
  yr : Fin n → Fin 1024 → EReal
  ga : Fin n → Fin 1024 → EReal
  gr : Fin n → Fin 1024 → EReal
  x : Fin n → Fin 1024 → EReal
  mod : Fin 6144 → EReal
  pa : Fin 512 → Fin 1024 → EReal
  pr : Fin 1024 → Fin 1024 → EReal
  wo : Fin 1024 → Fin 1024 → EReal
  g1 : Fin 1024 → EReal
  b1 : Fin 1024 → EReal
  wg : Fin 1024 → Fin 2816 → EReal
  wu : Fin 1024 → Fin 2816 → EReal
  wd : Fin 2816 → Fin 1024 → EReal
  cw : Fin 3 → Fin 2816 → EReal
  cb : Fin 2816 → EReal
  g2 : Fin 1024 → EReal
  b2 : Fin 1024 → EReal

/-- Row `r` of tile `j`. -/
def row (j : Nat) (r : Fin 512) : Fin 4096 := ⟨512 * (j % 8) + r, by omega⟩

/-- One tile of a sequence. -/
def Seq.tile (S : Seq 4096) (j : Nat) : Seq 512 :=
  { S with ya := fun r => S.ya (row j r), yr := fun r => S.yr (row j r), ga := fun r => S.ga (row j r),
           gr := fun r => S.gr (row j r), x := fun r => S.x (row j r) }

/-- A row less its mean. -/
def centred (x : Fin 1024 → EReal) (e : Fin 1024) : EReal :=
  x e - Ideal.div (∑ a : Fin 1024, x a) (Ideal.ofBits .f32 0x44800000#32)

/-- A row normalised, scaled and shifted. -/
def normed (x g b : Fin 1024 → EReal) (e : Fin 1024) : EReal :=
  centred x e * Ideal.rsqrt (Ideal.div (∑ a : Fin 1024, centred x a * centred x a) (Ideal.ofBits .f32 0x44800000#32)
    + Ideal.ofBits .f32 0x3727C5AC#32) * g e + b e

variable {n : Nat} (S : Seq n)

/-- Part `k` of the modulation. -/
def part (k : Fin 6) (e : Fin 1024) : EReal := S.mod ⟨1024 * k + e, by omega⟩

/-- The two branches' projections, gated and added. -/
def merged (r : Fin n) (e : Fin 1024) : EReal :=
  S.ga r e * (∑ k : Fin 512, S.ya r k * S.pa k e) + S.gr r e * (∑ k : Fin 1024, S.yr r k * S.pr k e)

/-- A row before the first normalisation. -/
def mixed (r : Fin n) (e : Fin 1024) : EReal :=
  Ideal.ofBits .f32 0x3F9837F0#32 * S.x r e + part S 2 e * (∑ k : Fin 1024, merged S r k * S.wo k e)

/-- A row after it. -/
def x1 (r : Fin n) (e : Fin 1024) : EReal := normed (mixed S r) S.g1 S.b1 e

/-- A row of the feed-forward part's input. -/
def h2 (r : Fin n) (e : Fin 1024) : EReal := x1 S r e * (1 + part S 4 e) + part S 3 e

/-- The gate product. -/
def gate (r : Fin n) (k : Fin 2816) : EReal := ∑ e : Fin 1024, h2 S r e * S.wg e k

/-- The up product. -/
def up (r : Fin n) (k : Fin 2816) : EReal := ∑ e : Fin 1024, h2 S r e * S.wu e k

/-- Three rows' gates through the convolution's taps. -/
def taps (z2 z1 z0 : EReal) (k : Fin 2816) : EReal := z2 * S.cw 0 k + z1 * S.cw 1 k + z0 * S.cw 2 k + S.cb k

/-- Twice the error-function unit of `z`, times `u`. -/
def act (z u : EReal) : EReal := z * (1 + Ideal.erf (z * Ideal.ofBits .f32 0x3F3504F3#32)) * u

/-- The feed-forward row, of its convolved gates. -/
def down (z : Fin 2816 → EReal) (r : Fin n) (e : Fin 1024) : EReal :=
  ∑ k : Fin 2816, act (z k) (up S r k) * S.wd k e

/-- The row stored, of its convolved gates. -/
def out (z : Fin 2816 → EReal) (r : Fin n) (e : Fin 1024) : EReal :=
  normed (fun e => Ideal.ofBits .f32 0x3F9837F0#32 * x1 S r e
    + Ideal.ofBits .f32 0x3F000000#32 * part S 5 e * down S z r e) S.g2 S.b2 e

/-- The gate `d` rows before, zero before the first row. -/
def lagged (S : Seq 4096) (d : Nat) (s : Fin 4096) (k : Fin 2816) : EReal :=
  if s.val < d then 0 else gate S ⟨s.val - d, by omega⟩ k

/-- The result at one row. -/
def result (S : Seq 4096) (s : Fin 4096) (e : Fin 1024) : EReal :=
  out S (fun k => taps S (lagged S 2 s k) (lagged S 1 s k) (gate S s k) k) s e

/-- The gate `d` rows before in a tile, from the rows before the tile's first. -/
def before (S : Seq 512) (P : Fin 8 → Fin 2816 → EReal) (d : Fin 8) (r : Fin 512) (k : Fin 2816) : EReal :=
  if h : r.val < d.val then P ⟨8 - d.val + r.val, by omega⟩ k else gate S ⟨r.val - d.val, by omega⟩ k

/-- The last eight rows' gates of a tile. -/
def tail (S : Seq 512) (q : Fin 8) (k : Fin 2816) : EReal := gate S ⟨504 + q.val, by omega⟩ k

/-- What a tile stores, of the gates of the rows before it. -/
def tileOut (S : Seq 512) (P : Fin 8 → Fin 2816 → EReal) (r : Fin 512) (e : Fin 1024) : EReal :=
  out S (fun k => taps S (before S P 2 r k) (before S P 1 r k) (gate S r k) k) r e

/-- The gates before tile `j`: zeros before the first. -/
def carried (S : Seq 4096) (j : Nat) (q : Fin 8) (k : Fin 2816) : EReal :=
  if j = 0 then 0 else tail (S.tile (j - 1)) q k

theorem before_tile (S : Seq 4096) (j : Nat) (hj : j < 8) (d : Fin 8) (hd : 0 < d.val) (r : Fin 512) (k : Fin 2816) :
    before (S.tile j) (carried S j) d r k = lagged S d.val (row j r) k := by
  have hg : ∀ (j : Nat) (r : Fin 512), gate (S.tile j) r k = gate S (row j r) k := fun _ _ => rfl
  unfold before lagged carried tail
  have hrow : (row j r).val = 512 * j + r.val := by simp only [row]; omega
  by_cases h : r.val < d.val
  · rw [dif_pos h]
    by_cases hz : j = 0
    · rw [if_pos hz, if_pos (by omega)]
    · rw [if_neg hz, if_neg (by omega), hg]
      congr 1
      apply Fin.ext
      simp only [row]
      omega
  · rw [dif_neg h, if_neg (by omega), hg]
    congr 1
    apply Fin.ext
    simp only [row]
    omega

/-- A tile's rows are the result's. -/
theorem tileOut_eq (S : Seq 4096) (j : Nat) (hj : j < 8) (r : Fin 512) (e : Fin 1024) :
    tileOut (S.tile j) (carried S j) r e = result S (row j r) e := by
  have h2 := before_tile S j hj 2 (by decide) r
  have h1 := before_tile S j hj 1 (by decide) r
  unfold tileOut result
  simp only [h2, h1]
  rfl

/-- A non-negative real factor goes through a sum. -/
theorem real_mul_sum {ι : Type} (s : Finset ι) (c : ℝ) (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha, ← ih]
    exact EReal.left_distrib_of_nonneg_of_ne_top (by exact_mod_cast hc) (EReal.coe_ne_top c) _ _

/-- The half of the error-function unit, taken out of the sum. -/
theorem half_down (m : EReal) (z : Fin 2816 → EReal) (r : Fin n) (e : Fin 1024) :
    m * (∑ k : Fin 2816, Ideal.ofBits .f32 0x3F000000#32 * z k
        * Ideal.erfc (-(z k) * Ideal.ofBits .f32 0x3F3504F3#32) * up S r k * S.wd k e)
      = Ideal.ofBits .f32 0x3F000000#32 * m * down S z r e := by
  obtain ⟨c, hc, h⟩ : ∃ c : ℝ, 0 ≤ c ∧ Ideal.ofBits .f32 0x3F000000#32 = (c : EReal) := by
    refine ⟨1 / 2, by norm_num, ?_⟩
    simp [Ideal.ofBits, Ideal.ieee, -EReal.coe_mul]
    norm_num
  unfold down act
  rw [h, mul_comm (c : EReal) m, mul_assoc, real_mul_sum _ c hc]
  congr 1
  refine Finset.sum_congr rfl fun k _ => ?_
  rw [EReal.neg_mul, Ideal.erfc_neg]
  simp only [mul_assoc, mul_comm, mul_left_comm]

end Cert.Mix
-- ==== Proof.Mix.KernelRead.lean ====
/- The last call's kernel read at one index: the halves' rows, the products 256 columns at a time, the convolution, and the
   block a grid point stores. -/
module

public import proofs.«01_k».proof.Proof.Mix.Body
public import proofs.«01_k».proof.Proof.Mix.Spec

@[expose] public section

set_option maxRecDepth 16384

noncomputable section

namespace Cert.Kernel2Ideal.Mix

open Cert.Kernel2Ideal Cert.Kernel2Ideal.Gen Idealize.ShloMosaic Idealize.ShloMosaic.TcCoe Idealize.SL.Sem
open Idealize.ShloMosaic.Pipeline (Dat)

/-- The tile of a grid point's blocks. -/
def tileOf (B : Blocks Ideal) : Cert.Mix.Seq 512 where
  ya s k := B.ya (ix3 0 s k)
  yr s k := B.yr (ix3 0 s k)
  ga s k := B.ga (ix3 0 s k)
  gr s k := B.gr (ix3 0 s k)
  x s k := B.x (ix3 0 s k)
  mod k := B.mod (ix3 0 0 k)
  pa i k := B.pa (ix2 i k)
  pr i k := B.pr (ix2 i k)
  wo i k := B.wo (ix2 i k)
  g1 k := B.g1 (ix2 0 k)
  b1 k := B.b1 (ix2 0 k)
  wg i k := B.wg (ix2 i k)
  wu i k := B.wu (ix2 i k)
  wd i k := B.wd (ix2 i k)
  cw i k := B.cw (ix2 i k)
  cb k := B.cb (ix2 0 k)
  g2 k := B.g2 (ix2 0 k)
  b2 k := B.b2 (ix2 0 k)

/-- Row `r` of half `i`. -/
def hrow (i : Nat) (r : Fin 256) : Fin 512 := ⟨256 * (i % 2) + r, by omega⟩

/-- Column `j` of chunk `n`. -/
def col (n : Nat) (j : Fin 256) : Fin 2816 := ⟨256 * (n % 11) + j, by omega⟩

theorem normed_apply (x : FVec Ideal S256x1024 .f32) (g b : FVec Ideal S1x1024 .f32) (r : Fin 256) (e : Fin 1024) :
    normed x g b (ix2 r e) = Cert.Mix.normed (fun e => x (ix2 r e)) (fun e => g (ix2 0 e)) (fun e => b (ix2 0 e)) e := by
  unfold normed centred meanOf Cert.Mix.normed Cert.Mix.centred
  pointwise

variable (B : Blocks Ideal)

theorem modRow_apply (k : Fin 6) (e : Fin 1024) : modRow B k (ix2 0 e) = Cert.Mix.part (tileOf B) k e := by
  have hc : ∀ y : FVec Ideal S1x1x1024 .f32, shapeCast S1x1024 y shapeCasts_S1x1x1024_S1x1024 (ix2 0 e) = y (ix3 0 0 e) := by
    intro y
    pointwise
  refine (hc _).trans ?_
  exact View.ld_unit_apply_of B.mod _ _ (inbMod k) _ _ (fun a => by fin_cases a <;> simp [Nat.mod_eq_of_lt k.isLt])

theorem rows_apply {t : EltTy} (x : Vec Ideal S1x512x1024 t) (i : Nat) (r : Fin 256) (e : Fin 1024) :
    shapeCast S256x1024 (View.ld x (rectRows i)) shapeCasts_S1x256x1024_S256x1024 (ix2 r e) = x (ix3 0 (hrow i r) e) := by
  have hc : ∀ y : Vec Ideal S1x256x1024 t, shapeCast S256x1024 y shapeCasts_S1x256x1024_S256x1024 (ix2 r e) = y (ix3 0 r e) := by
    intro y
    pointwise
  refine (hc _).trans ?_
  exact View.ld_unit_apply_of x _ _ (inbRows i) _ _ (fun a => by fin_cases a <;> simp [hrow])

theorem rowsY_apply (x : Vec Ideal S1x512x512 .bf16) (i : Nat) (r : Fin 256) (e : Fin 512) :
    shapeCast S256x512 (View.ld x (rectRowsY i)) shapeCasts_S1x256x512_S256x512 (ix2 r e) = x (ix3 0 (hrow i r) e) := by
  have hc : ∀ y : FVec Ideal S1x256x512 .bf16, shapeCast S256x512 y shapeCasts_S1x256x512_S256x512 (ix2 r e) = y (ix3 0 r e) := by
    intro y
    pointwise
  refine (hc _).trans ?_
  exact View.ld_unit_apply_of x _ _ (inbRowsY i) _ _ (fun a => by fin_cases a <;> simp [hrow])

theorem merge_apply (ga gr : FVec Ideal S256x1024 .bf16) (ya : FVec Ideal S256x512 .bf16) (yr : FVec Ideal S256x1024 .bf16)
    (pa : FVec Ideal S512x1024 .f32) (pr : FVec Ideal S1024x1024 .f32) (r : Fin 256) (e : Fin 1024) :
    addf (mulf (extf .f32 ga bitsLt_bf16_f32)
      (matmul dot_S256x512_S512x1024_S256x1024_1_0_0_1_n_n none ya (truncf .bf16 pa bitsLt_bf16_f32)
        (constant S256x1024 .f32 0x00000000#32)))
      (mulf (extf .f32 gr bitsLt_bf16_f32)
        (matmul dot_S256x1024_S1024x1024_S256x1024_1_0_0_1_n_n none yr (truncf .bf16 pr bitsLt_bf16_f32)
          (constant S256x1024 .f32 0x00000000#32))) (ix2 r e)
      = ga (ix2 r e) * (∑ k : Fin 512, ya (ix2 r k) * pa (ix2 k e))
        + gr (ix2 r e) * (∑ k : Fin 1024, yr (ix2 r k) * pr (ix2 k e)) := by
  pointwise

theorem merged_apply (i : Nat) (r : Fin 256) (e : Fin 1024) :
    merged B i (ix2 r e) = Cert.Mix.merged (tileOf B) (hrow i r) e := by
  unfold merged
  refine (merge_apply _ _ _ _ _ _ r e).trans ?_
  exact congrArg₂ (· + ·)
    (congrArg₂ (· * ·) (rows_apply (t := .bf16) B.ga i r e)
      (Finset.sum_congr rfl fun k _ => congrArg (· * B.pa (ix2 k e)) (rowsY_apply B.ya i r k)))
    (congrArg₂ (· * ·) (rows_apply (t := .bf16) B.gr i r e)
      (Finset.sum_congr rfl fun k _ => congrArg (· * B.pr (ix2 k e)) (rows_apply (t := .bf16) B.yr i r k)))

theorem mix_apply (x : FVec Ideal S256x1024 .f32) (g : FVec Ideal S1x1024 .f32) (y : FVec Ideal S256x1024 .f32)
    (wo : FVec Ideal S1024x1024 .f32) (r : Fin 256) (e : Fin 1024) :
    addf (mulf (broadcast S256x1024 (Scalar.ofBits .f32 0x3F9837F0#32)) x)
      (mulf (broadcastTo S256x1024 g broadcasts_S1x1024_S256x1024)
        (matmul dot_S256x1024_S1024x1024_S256x1024_1_0_0_1_n_n none (truncf .bf16 y bitsLt_bf16_f32)
          (truncf .bf16 wo bitsLt_bf16_f32) (constant S256x1024 .f32 0x00000000#32))) (ix2 r e)
      = Ideal.ofBits .f32 0x3F9837F0#32 * x (ix2 r e)
        + g (ix2 0 e) * (∑ k : Fin 1024, y (ix2 r k) * wo (ix2 k e)) := by
  pointwise

theorem mixed_apply (i : Nat) (r : Fin 256) (e : Fin 1024) :
    mixed B i (ix2 r e) = Cert.Mix.mixed (tileOf B) (hrow i r) e := by
  have hm := modRow_apply B 2 e
  unfold mixed Cert.Mix.mixed
  refine (mix_apply _ _ _ _ r e).trans ?_
  rw [← hm]
  exact congrArg₂ (· + ·) (congrArg (Ideal.ofBits .f32 0x3F9837F0#32 * ·) (rows_apply (t := .f32) B.x i r e))
    (congrArg (modRow B 2 (ix2 0 e) * ·)
      (Finset.sum_congr rfl fun k _ => congrArg (· * B.wo (ix2 k e)) (merged_apply B i r k)))

theorem x1Half_apply (i : Nat) (r : Fin 256) (e : Fin 1024) :
    x1Half B i (ix2 r e) = Cert.Mix.x1 (tileOf B) (hrow i r) e := by
  unfold x1Half Cert.Mix.x1
  rw [normed_apply]
  simp only [mixed_apply]
  have hc : ∀ (y : FVec Ideal S1x1024 .f32) (e : Fin 1024), shapeCast S1x1024 y shapeCasts_S1x1024_S1x1024 (ix2 0 e) = y (ix2 0 e) := by
    intro y e
    pointwise
  simp only [hc]
  rfl

theorem h2Half_apply (i : Nat) (r : Fin 256) (e : Fin 1024) :
    h2Half B i (ix2 r e) = Cert.Mix.h2 (tileOf B) (hrow i r) e := by
  have h4 := modRow_apply B 4 e
  have h3 := modRow_apply B 3 e
  have hp : ∀ (x : FVec Ideal S256x1024 .f32) (sc sh : FVec Ideal S1x1024 .f32),
      truncf .bf16 (addf (mulf x (broadcastTo S256x1024 (addf (broadcast S1x1024 (Scalar.ofBits .f32 0x3F800000#32)) sc)
        broadcasts_S1x1024_S256x1024)) (broadcastTo S256x1024 sh broadcasts_S1x1024_S256x1024)) bitsLt_bf16_f32 (ix2 r e)
      = x (ix2 r e) * (1 + sc (ix2 0 e)) + sh (ix2 0 e) := by
    intro x sc sh
    pointwise
  unfold h2Half Cert.Mix.h2
  refine (hp _ _ _).trans ?_
  rw [← h4, ← h3, x1Half_apply]
  rfl

/-- Two halves stored make the tile. -/
theorem halves_apply {t : EltTy} (f : Nat → Vec Ideal S256x1024 t) (G : S512x1024.Idx → Elt Ideal t)
    (h : ∀ i r e, f i (ix2 r e) = G (ix2 (hrow i r) e)) (r : Fin 512) (e : Fin 1024) :
    View.canon (Val := Elt Ideal) (s := S512x1024) (e := t) [⟨rectHalf 1, f 1⟩, ⟨rectHalf 0, f 0⟩] (ix2 r e) = G (ix2 r e) := by
  refine View.canon_apply_of_pieces (Val := Elt Ideal) (S := S512x1024) (e := t) G
    [⟨rectHalf 1, f 1⟩, ⟨rectHalf 0, f 0⟩] ?_ (ix2 r e) ?_
  · have key : ∀ (i : Nat) (x : S256x1024.Idx), f i x = G ((rectHalf i).emb x) := by
      intro i x
      idx_vars x
      refine (h i x0 x1).trans (congrArg G ?_)
      funext a
      apply Fin.ext
      refine Eq.trans ?_ (Rect.idx_unit_val (s := S512x1024) _ S256x1024.size (inbHalf i) (ix2 x0 x1) a).symm
      fin_cases a <;> simp [hrow]
    intro p hp x
    rcases List.mem_cons.mp hp with rfl | hp
    · exact key 1 x
    · rcases List.mem_cons.mp hp with rfl | hp
      · exact key 0 x
      · exact absurd hp List.not_mem_nil
  · by_cases hr : r.val < 256
    · refine ⟨⟨rectHalf 0, f 0⟩, by simp, ?_⟩
      show ix2 r e ∈ (rectHalf 0).set
      unfold rectHalf
      rw [Rect.mem_set_unit]
      intro a
      fin_cases a
      · exact ⟨Nat.zero_le _, by show r.val < 256 * (0 % 2) + 256; omega⟩
      · exact ⟨Nat.zero_le _, by show e.val < 0 + 1024; omega⟩
    · refine ⟨⟨rectHalf 1, f 1⟩, by simp, ?_⟩
      show ix2 r e ∈ (rectHalf 1).set
      unfold rectHalf
      rw [Rect.mem_set_unit]
      intro a
      fin_cases a
      · exact ⟨show 256 * (1 % 2) ≤ r.val by omega, by show r.val < 256 * (1 % 2) + 256; omega⟩
      · exact ⟨Nat.zero_le _, by show e.val < 0 + 1024; omega⟩

theorem same_cast {t : EltTy} (x : Vec Ideal S256x1024 t) (r : Fin 256) (e : Fin 1024) :
    shapeCast S256x1024 x shapeCasts_S256x1024_S256x1024 (ix2 r e) = x (ix2 r e) := by
  pointwise

theorem xFull_apply (r : Fin 512) (e : Fin 1024) : xFull B (ix2 r e) = Cert.Mix.x1 (tileOf B) r e :=
  halves_apply (t := .f32) (fun i => shapeCast S256x1024 (x1Half B i) shapeCasts_S256x1024_S256x1024)
    (fun y => Cert.Mix.x1 (tileOf B) (y 0) (y 1)) (fun i r e => (same_cast (t := .f32) (x1Half B i) r e).trans (x1Half_apply B i r e)) r e

theorem hFull_apply (r : Fin 512) (e : Fin 1024) : hFull B (ix2 r e) = Cert.Mix.h2 (tileOf B) r e :=
  halves_apply (t := .bf16) (fun i => shapeCast S256x1024 (h2Half B i) shapeCasts_S256x1024_S256x1024)
    (fun y => Cert.Mix.h2 (tileOf B) (y 0) (y 1)) (fun i r e => (same_cast (t := .bf16) (h2Half B i) r e).trans (h2Half_apply B i r e)) r e

theorem half_ld {e : EltTy} (x : Vec Ideal S512x1024 e) (i : Nat) (r : Fin 256) (j : Fin 1024) :
    View.ld x (rectHalf i) (ix2 r j) = x (ix2 (hrow i r) j) :=
  View.ld_unit_apply_of x _ _ (inbHalf i) _ _ (fun a => by fin_cases a <;> simp [hrow])

theorem whole_ld {e : EltTy} (x : Vec Ideal S512x1024 e) (r : Fin 512) (j : Fin 1024) :
    View.ld x rectWhole (ix2 r j) = x (ix2 r j) :=
  View.ld_unit_apply_of x _ _ inbWhole _ _ (fun a => by fin_cases a <;> simp)

theorem wCols_apply (w : Vec Ideal S1024x2816 .bf16) (n : Nat) (e : Fin 1024) (j : Fin 256) :
    wCols w n (ix2 e j) = w (ix2 e (col n j)) := by
  have hc : ∀ y : FVec Ideal S1024x256 .bf16, shapeCast S1024x256 y shapeCasts_S1024x256_S1024x256 (ix2 e j) = y (ix2 e j) := by
    intro y
    pointwise
  refine (hc _).trans ?_
  exact View.ld_unit_apply_of w _ _ (inbCols n) _ _ (fun a => by fin_cases a <;> simp [col])

theorem prodHalf_apply (w : Vec Ideal S1024x2816 .bf16) (n i : Nat) (r j : Fin 256) :
    prodHalf B w n i (ix2 r j) = ∑ e : Fin 1024, Cert.Mix.h2 (tileOf B) (hrow i r) e * w (ix2 e (col n j)) := by
  have hp : ∀ (h : FVec Ideal S256x1024 .bf16) (w : FVec Ideal S1024x256 .bf16),
      matmul dot_S256x1024_S1024x256_S256x256_1_0_0_1_n_n none h w (constant (F := Ideal) S256x256 .f32 0x00000000#32) (ix2 r j)
        = ∑ e : Fin 1024, h (ix2 r e) * w (ix2 e j) := by
    intro h w
    pointwise
  refine (hp _ _).trans (Finset.sum_congr rfl fun e _ => ?_)
  rw [wCols_apply, half_ld, hFull_apply]

theorem prodLate_apply (w : Vec Ideal S1024x2816 .bf16) (n : Nat) (r : Fin 512) (j : Fin 256) :
    prodLate B w n (ix2 r j) = ∑ e : Fin 1024, Cert.Mix.h2 (tileOf B) r e * w (ix2 e (col n j)) := by
  have hp : ∀ (h : FVec Ideal S512x1024 .bf16) (w : FVec Ideal S1024x256 .bf16),
      matmul dot_S512x1024_S1024x256_S512x256_1_0_0_1_n_n none h w (constant (F := Ideal) S512x256 .f32 0x00000000#32) (ix2 r j)
        = ∑ e : Fin 1024, h (ix2 r e) * w (ix2 e j) := by
    intro h w
    pointwise
  refine (hp _ _).trans (Finset.sum_congr rfl fun e _ => ?_)
  rw [wCols_apply, whole_ld, hFull_apply]

theorem prodEarly_apply (w : Vec Ideal S1024x2816 .bf16) (n : Nat) (r : Fin 512) (j : Fin 256) :
    prodEarly B w n (ix2 r j) = ∑ e : Fin 1024, Cert.Mix.h2 (tileOf B) r e * w (ix2 e (col n j)) := by
  unfold prodEarly
  pointwise
  by_cases h : r.val < 256
  · rw [dif_pos h, prodHalf_apply]
    have : hrow 0 ⟨r.val, h⟩ = r := by apply Fin.ext; simp only [hrow]; omega
    rw [this]
  · rw [dif_neg h, prodHalf_apply]
    have : hrow 1 ⟨r.val - 256, by omega⟩ = r := by apply Fin.ext; simp only [hrow]; omega
    rw [this]

theorem prod_apply (w : Vec Ideal S1024x2816 .bf16) (n : Nat) (r : Fin 512) (j : Fin 256) :
    prod B w n (ix2 r j) = ∑ e : Fin 1024, Cert.Mix.h2 (tileOf B) r e * w (ix2 e (col n j)) := by
  match n with
  | 0 => exact prodEarly_apply B w 0 r j
  | 1 => exact prodEarly_apply B w 1 r j
  | 2 => exact prodEarly_apply B w 2 r j
  | n + 3 => exact prodLate_apply B w (n + 3) r j

theorem gate_apply (n : Nat) (r : Fin 512) (j : Fin 256) :
    prod B B.wg n (ix2 r j) = Cert.Mix.gate (tileOf B) r (col n j) := prod_apply B B.wg n r j

theorem up_apply (n : Nat) (r : Fin 512) (j : Fin 256) :
    prod B B.wu n (ix2 r j) = Cert.Mix.up (tileOf B) r (col n j) := prod_apply B B.wu n r j

/-- A carried array by row and column: chunk, row, lane. -/
def prevRows (p : Vec Ideal S11x8x256 .f32) (q : Fin 8) (k : Fin 2816) : EReal :=
  p (ix3 ⟨k.val / 256, by omega⟩ q ⟨k.val % 256, by omega⟩)

theorem prevOf_apply (p : Vec Ideal S11x8x256 .f32) (n : Nat) (q : Fin 8) (j : Fin 256) :
    prevOf p n (ix2 q j) = prevRows p q (col n j) := by
  have hc : ∀ y : FVec Ideal S1x8x256 .f32, shapeCast S8x256 y shapeCasts_S1x8x256_S8x256 (ix2 q j) = y (ix3 0 q j) := by
    intro y
    pointwise
  refine (hc _).trans ?_
  refine View.ld_unit_apply_of p _ _ (inbTail n) _ _ (fun a => by fin_cases a <;> simp [col] <;> omega)

end Cert.Kernel2Ideal.Mix
-- ==== Proof.Mix.KernelOut.lean ====
/- What a grid point of the last call stores, at one index: the convolved gates, the activations and the second
   normalisation. -/
module

public import proofs.«01_k».proof.Proof.Mix.KernelRead

@[expose] public section

set_option maxRecDepth 16384

noncomputable section

namespace Cert.Kernel2Ideal.Mix

open Cert.Kernel2Ideal Cert.Kernel2Ideal.Gen Idealize.ShloMosaic Idealize.ShloMosaic.TcCoe Idealize.SL.Sem
open Idealize.ShloMosaic.Pipeline (Dat)

theorem mask_two : ∀ q : Fin 8, IntOp.cmpi CmpIPredicate.slt (BitVec.ofNat 32 q.val) 2#32 = BitVec.ofBool (decide (q.val < 2)) := by
  decide +kernel

theorem mask_one : ∀ q : Fin 8, IntOp.cmpi CmpIPredicate.slt (BitVec.ofNat 32 q.val) 1#32 = BitVec.ofBool (decide (q.val < 1)) := by
  decide +kernel

theorem select_true (a b : EReal) : Scalar.select (BitVec.ofBool true) a b = a := rfl

theorem select_false (a b : EReal) : Scalar.select (BitVec.ofBool false) a b = b := rfl

theorem shifted_two (g : FVec Ideal S512x256 .f32) (prev : FVec Ideal S8x256 .f32) (r : Fin 512) (j : Fin 256) :
    shifted 2#32 g prev (ix2 r j)
      = if h : r.val < 2 then prev (ix2 ⟨8 - 2 + r.val, by omega⟩ j) else g (ix2 ⟨r.val - 2, by omega⟩ j) := by
  unfold shifted
  pointwise
  by_cases h8 : r.val < 8
  · rw [dif_pos h8, mask_two ⟨r.val, h8⟩]
    by_cases h : r.val < 2
    · rw [dif_pos h, decide_eq_true h]
      refine (select_true _ _).trans ?_
      congr 2
      apply Fin.ext
      simp only
      omega
    · rw [dif_neg h, decide_eq_false h]
      refine (select_false _ _).trans ?_
      congr 2
      apply Fin.ext
      simp only
      omega
  · rw [dif_neg h8, dif_neg (by omega)]
    congr 2
    apply Fin.ext
    simp only
    omega

theorem shifted_one (g : FVec Ideal S512x256 .f32) (prev : FVec Ideal S8x256 .f32) (r : Fin 512) (j : Fin 256) :
    shifted 1#32 g prev (ix2 r j)
      = if h : r.val < 1 then prev (ix2 ⟨8 - 1 + r.val, by omega⟩ j) else g (ix2 ⟨r.val - 1, by omega⟩ j) := by
  unfold shifted
  pointwise
  by_cases h8 : r.val < 8
  · rw [dif_pos h8, mask_one ⟨r.val, h8⟩]
    by_cases h : r.val < 1
    · rw [dif_pos h, decide_eq_true h]
      refine (select_true _ _).trans ?_
      congr 2
      apply Fin.ext
      simp only
      omega
    · rw [dif_neg h, decide_eq_false h]
      refine (select_false _ _).trans ?_
      congr 2
      apply Fin.ext
      simp only
      omega
  · rw [dif_neg h8, dif_neg (by omega)]
    congr 2
    apply Fin.ext
    simp only
    omega

variable (B : Blocks Ideal)

theorem tap_apply (k : Fin 3) (n : Nat) (j : Fin 256) : View.ld B.cw (rectTap k n) (ix2 0 j) = (tileOf B).cw k (col n j) :=
  View.ld_unit_apply_of B.cw _ _ (inbTap k n) _ _ (fun a => by fin_cases a <;> simp [col, Nat.mod_eq_of_lt k.isLt])

theorem bias_apply (n : Nat) (j : Fin 256) :
    shapeCast S1x256 (View.ld B.cb (rectBias n)) shapeCasts_S1x256_S1x256 (ix2 0 j) = (tileOf B).cb (col n j) := by
  have hc : ∀ y : FVec Ideal S1x256 .f32, shapeCast S1x256 y shapeCasts_S1x256_S1x256 (ix2 0 j) = y (ix2 0 j) := by
    intro y
    pointwise
  refine (hc _).trans ?_
  exact View.ld_unit_apply_of B.cb _ _ (inbBias n) _ _ (fun a => by fin_cases a <;> simp [col])

theorem sum_apply (a b g : FVec Ideal S512x256 .f32) (w0 w1 w2 cb : FVec Ideal S1x256 .f32) (r : Fin 512) (j : Fin 256) :
    addf (addf (addf (mulf a (broadcastTo S512x256 w0 broadcasts_S1x256_S512x256))
      (mulf b (broadcastTo S512x256 w1 broadcasts_S1x256_S512x256)))
      (mulf g (broadcastTo S512x256 w2 broadcasts_S1x256_S512x256)))
      (broadcastTo S512x256 cb broadcasts_S1x256_S512x256) (ix2 r j)
      = a (ix2 r j) * w0 (ix2 0 j) + b (ix2 r j) * w1 (ix2 0 j) + g (ix2 r j) * w2 (ix2 0 j) + cb (ix2 0 j) := by
  pointwise

theorem gateUp_apply (z u : FVec Ideal S512x256 .f32) (r : Fin 512) (j : Fin 256) :
    shapeCast S512x256 (gateUp z u) shapeCasts_S512x256_S512x256 (ix2 r j) = Cert.Mix.act (z (ix2 r j)) (u (ix2 r j)) := by
  unfold gateUp Cert.Mix.act
  pointwise
  rfl

/-- The convolved gates of a chunk. -/
theorem conv_apply (p : Vec Ideal S11x8x256 .f32) (n : Nat) (r : Fin 512) (j : Fin 256) :
    conv B (prod B B.wg n) (prevOf p n) n (ix2 r j)
      = Cert.Mix.taps (tileOf B) (Cert.Mix.before (tileOf B) (prevRows p) 2 r (col n j))
          (Cert.Mix.before (tileOf B) (prevRows p) 1 r (col n j)) (Cert.Mix.gate (tileOf B) r (col n j)) (col n j) := by
  unfold conv
  refine (sum_apply _ _ _ _ _ _ _ r j).trans ?_
  rw [shifted_two, shifted_one, bias_apply]
  simp only [gate_apply, prevOf_apply]
  exact congrArg₂ (· + ·) (congrArg₂ (· + ·) (congrArg₂ (· + ·) (congrArg (_ * ·) (tap_apply B 0 n j))
    (congrArg (_ * ·) (tap_apply B 1 n j))) (congrArg (_ * ·) (tap_apply B 2 n j))) rfl

/-- The convolved gates of a tile's row. -/
def tileTaps (p : Vec Ideal S11x8x256 .f32) (r : Fin 512) (k : Fin 2816) : EReal :=
  Cert.Mix.taps (tileOf B) (Cert.Mix.before (tileOf B) (prevRows p) 2 r k)
    (Cert.Mix.before (tileOf B) (prevRows p) 1 r k) (Cert.Mix.gate (tileOf B) r k) k

/-- The activations at one index. -/
theorem actFull_apply (p : Vec Ideal S11x8x256 .f32) (r : Fin 512) (k : Fin 2816) :
    actFull B p (ix2 r k) = Cert.Mix.act (tileTaps B p r k) (Cert.Mix.up (tileOf B) r k) := by
  unfold actFull
  refine View.canon_apply_of_pieces (Val := Elt Ideal) (S := S512x2816) (e := .bf16)
    (fun y => Cert.Mix.act (tileTaps B p (y 0) (y 1)) (Cert.Mix.up (tileOf B) (y 0) (y 1)))
    ((List.range 11).reverse.map (pieceAct B p)) ?_ (ix2 r k) ?_
  · intro q hq x
    obtain ⟨n, hn, rfl⟩ := List.mem_map.mp hq
    have key : ∀ x : S512x256.Idx, shapeCast S512x256 (gateUp (conv B (prod B B.wg n) (prevOf p n) n) (prod B B.wu n))
          shapeCasts_S512x256_S512x256 x
        = Cert.Mix.act (tileTaps B p (x 0) (col n (x 1))) (Cert.Mix.up (tileOf B) (x 0) (col n (x 1))) := by
      intro x
      idx_vars x
      refine (gateUp_apply _ _ x0 x1).trans ?_
      rw [conv_apply, up_apply]
      rfl
    have e0 : (rectActCols n).emb x 0 = x 0 := by
      apply Fin.ext
      exact (Rect.idx_unit_val (s := S512x2816) _ S512x256.size (inbActCols n) x 0).trans (Nat.zero_add _)
    have e1 : (rectActCols n).emb x 1 = col n (x 1) := by
      apply Fin.ext
      exact (Rect.idx_unit_val (s := S512x2816) _ S512x256.size (inbActCols n) x 1).trans rfl
    refine (key x).trans ?_
    show _ = Cert.Mix.act (tileTaps B p ((rectActCols n).emb x 0) ((rectActCols n).emb x 1))
      (Cert.Mix.up (tileOf B) ((rectActCols n).emb x 0) ((rectActCols n).emb x 1))
    rw [e0, e1]
  · refine ⟨pieceAct B p (k.val / 256), List.mem_map.mpr ⟨k.val / 256, by simp; omega, rfl⟩, ?_⟩
    show ix2 r k ∈ (rectActCols (k.val / 256)).set
    unfold rectActCols
    rw [Rect.mem_set_unit]
    intro a
    fin_cases a
    · exact ⟨Nat.zero_le _, by show r.val < 0 + 512; omega⟩
    · exact ⟨show 256 * (k.val / 256 % 11) ≤ k.val by omega, show k.val < 256 * (k.val / 256 % 11) + 256 by omega⟩

theorem act_ld (x : Vec Ideal S512x2816 .bf16) (i : Nat) (r : Fin 256) (k : Fin 2816) :
    View.ld x (rectAct i) (ix2 r k) = x (ix2 (hrow i r) k) :=
  View.ld_unit_apply_of x _ _ (inbAct i) _ _ (fun a => by fin_cases a <;> simp [hrow])

theorem outMix_apply (x : FVec Ideal S256x1024 .f32) (g : FVec Ideal S1x1024 .f32) (a : FVec Ideal S256x2816 .bf16)
    (wd : FVec Ideal S2816x1024 .f32) (r : Fin 256) (e : Fin 1024) :
    addf (mulf (broadcast S256x1024 (Scalar.ofBits .f32 0x3F9837F0#32)) x)
      (mulf (broadcastTo S256x1024 (mulf (broadcast S1x1024 (Scalar.ofBits .f32 0x3F000000#32)) g) broadcasts_S1x1024_S256x1024)
        (matmul dot_S256x2816_S2816x1024_S256x1024_1_0_0_1_n_n none a (truncf .bf16 wd bitsLt_bf16_f32)
          (constant S256x1024 .f32 0x00000000#32))) (ix2 r e)
      = Ideal.ofBits .f32 0x3F9837F0#32 * x (ix2 r e)
        + Ideal.ofBits .f32 0x3F000000#32 * g (ix2 0 e) * (∑ k : Fin 2816, a (ix2 r k) * wd (ix2 k e)) := by
  pointwise

/-- A row before the second normalisation. -/
theorem outMixed_apply (p : Vec Ideal S11x8x256 .f32) (i : Nat) (r : Fin 256) (e : Fin 1024) :
    outMixed B p i (ix2 r e) = Ideal.ofBits .f32 0x3F9837F0#32 * Cert.Mix.x1 (tileOf B) (hrow i r) e
      + Ideal.ofBits .f32 0x3F000000#32 * Cert.Mix.part (tileOf B) 5 e
        * Cert.Mix.down (tileOf B) (tileTaps B p (hrow i r)) (hrow i r) e := by
  have hm := modRow_apply B 5 e
  unfold outMixed
  refine (outMix_apply _ _ _ _ r e).trans ?_
  rw [← hm]
  refine congrArg₂ (· + ·) (congrArg (Ideal.ofBits .f32 0x3F9837F0#32 * ·) ((half_ld (e := .f32) (xFull B) i r e).trans (xFull_apply B _ e)))
    (congrArg (Ideal.ofBits .f32 0x3F000000#32 * modRow B 5 (ix2 0 e) * ·) (Finset.sum_congr rfl fun k _ => ?_))
  exact congrArg (· * B.wd (ix2 k e)) ((act_ld (actFull B p) i r k).trans (actFull_apply B p _ k))

/-- A half's stored rows at one index. -/
theorem outHalf_apply (p : Vec Ideal S11x8x256 .f32) (i : Nat) (r : Fin 256) (e : Fin 1024) :
    shapeCast S1x256x1024 (normed (outMixed B p i) (shapeCast S1x1024 B.g2 shapeCasts_S1x1024_S1x1024)
      (shapeCast S1x1024 B.b2 shapeCasts_S1x1024_S1x1024)) shapeCasts_S256x1024_S1x256x1024 (ix3 0 r e)
      = Cert.Mix.tileOut (tileOf B) (prevRows p) (hrow i r) e := by
  have hc : ∀ y : FVec Ideal S256x1024 .f32, shapeCast S1x256x1024 y shapeCasts_S256x1024_S1x256x1024 (ix3 0 r e) = y (ix2 r e) := by
    intro y
    pointwise
  have hb : ∀ (y : FVec Ideal S1x1024 .f32) (e : Fin 1024), shapeCast S1x1024 y shapeCasts_S1x1024_S1x1024 (ix2 0 e) = y (ix2 0 e) := by
    intro y e
    pointwise
  refine (hc _).trans ?_
  rw [normed_apply]
  simp only [outMixed_apply, hb]
  rfl

/-- What a grid point stores at one index. -/
theorem outBlock_apply (p : Vec Ideal S11x8x256 .f32) (r : Fin 512) (e : Fin 1024) :
    outBlock B p (ix3 0 r e) = Cert.Mix.tileOut (tileOf B) (prevRows p) r e := by
  unfold outBlock
  refine View.canon_apply_of_pieces (Val := Elt Ideal) (S := S1x512x1024) (e := .f32)
    (fun y => Cert.Mix.tileOut (tileOf B) (prevRows p) (y 1) (y 2)) [pieceOut B p 1, pieceOut B p 0] ?_ (ix3 0 r e) ?_
  · have key : ∀ (i : Nat) (x : S1x256x1024.Idx), (pieceOut B p i).2 x
        = Cert.Mix.tileOut (tileOf B) (prevRows p) ((rectRows i).emb x 1) ((rectRows i).emb x 2) := by
      intro i x
      have e1 : (rectRows i).emb x 1 = hrow i (x 1) := by
        apply Fin.ext
        exact (Rect.idx_unit_val (s := S1x512x1024) _ S1x256x1024.size (inbRows i) x 1).trans rfl
      have e2 : (rectRows i).emb x 2 = (x 2 : Fin 1024) := by
        apply Fin.ext
        exact (Rect.idx_unit_val (s := S1x512x1024) _ S1x256x1024.size (inbRows i) x 2).trans (Nat.zero_add _)
      rw [e1, e2]
      idx_vars x
      rw [Subsingleton.elim x0 0]
      exact outHalf_apply B p i x1 x2
    intro q hq x
    rcases List.mem_cons.mp hq with rfl | hq
    · exact key 1 x
    · rcases List.mem_cons.mp hq with rfl | hq
      · exact key 0 x
      · exact absurd hq List.not_mem_nil
  · by_cases hr : r.val < 256
    · refine ⟨pieceOut B p 0, by simp, ?_⟩
      show ix3 0 r e ∈ (rectRows 0).set
      unfold rectRows
      rw [Rect.mem_set_unit]
      intro a
      fin_cases a
      · exact ⟨Nat.zero_le _, Nat.one_pos⟩
      · exact ⟨Nat.zero_le _, by show r.val < 256 * (0 % 2) + 256; omega⟩
      · exact ⟨Nat.zero_le _, by show e.val < 0 + 1024; omega⟩
    · refine ⟨pieceOut B p 1, by simp, ?_⟩
      show ix3 0 r e ∈ (rectRows 1).set
      unfold rectRows
      rw [Rect.mem_set_unit]
      intro a
      fin_cases a
      · exact ⟨Nat.zero_le _, Nat.one_pos⟩
      · exact ⟨show 256 * (1 % 2) ≤ r.val by omega, by show r.val < 256 * (1 % 2) + 256; omega⟩
      · exact ⟨Nat.zero_le _, by show e.val < 0 + 1024; omega⟩

theorem tailPiece_apply (n : Nat) (q : Fin 8) (j : Fin 256) :
    shapeCast S1x8x256 (extractStridedSlice S8x256 ![504, 0] (prod B B.wg n) slices_S512x256_o504_0_S8x256)
      shapeCasts_S8x256_S1x8x256 (ix3 0 q j) = Cert.Mix.tail (tileOf B) q (col n j) := by
  have hp : ∀ y : FVec Ideal S512x256 .f32, shapeCast S1x8x256 (extractStridedSlice S8x256 ![504, 0] y
      slices_S512x256_o504_0_S8x256) shapeCasts_S8x256_S1x8x256 (ix3 0 q j) = y (ix2 ⟨504 + q.val, by omega⟩ j) := by
    intro y
    pointwise
  refine (hp _).trans ?_
  rw [gate_apply]
  rfl

/-- The rows a grid point keeps for the next tile, whatever the buffer held before. -/
theorem tail_apply (L : List (View.Piece (Elt Ideal) S11x8x256 .f32)) (q : Fin 8) (k : Fin 2816) :
    prevRows (View.canon (tailPieces B ++ L)) q k = Cert.Mix.tail (tileOf B) q k := by
  unfold prevRows tailPieces
  refine (View.canon_append_of_pieces (Val := Elt Ideal) (S := S11x8x256) (e := .f32)
    (fun y => Cert.Mix.tail (tileOf B) (y 1) (col (y 0).val (y 2))) L
    ((List.range 11).reverse.map (pieceTail B)) ?_ _ ?_).trans ?_
  · intro p hp x
    obtain ⟨n, hn, rfl⟩ := List.mem_map.mp hp
    have hn11 : n < 11 := by simpa using hn
    have e0 : ((rectTail n).emb x 0).val = n := by
      refine (Rect.idx_unit_val (s := S11x8x256) _ S1x8x256.size (inbTail n) x 0).trans ?_
      have h0 : (x 0).val < 1 := (x 0).isLt
      show n % 11 + (x 0).val = n
      omega
    have e1 : (rectTail n).emb x 1 = x 1 := by
      apply Fin.ext
      exact (Rect.idx_unit_val (s := S11x8x256) _ S1x8x256.size (inbTail n) x 1).trans (Nat.zero_add _)
    have e2 : (rectTail n).emb x 2 = x 2 := by
      apply Fin.ext
      exact (Rect.idx_unit_val (s := S11x8x256) _ S1x8x256.size (inbTail n) x 2).trans (Nat.zero_add _)
    show (pieceTail B n).2 x = Cert.Mix.tail (tileOf B) ((rectTail n).emb x 1) (col ((rectTail n).emb x 0).val ((rectTail n).emb x 2))
    rw [e0, e1, e2]
    have key : ∀ x : S1x8x256.Idx, (pieceTail B n).2 x = Cert.Mix.tail (tileOf B) (x 1) (col n (x 2)) := by
      intro x
      idx_vars x
      rw [Subsingleton.elim x0 0]
      exact tailPiece_apply B n x1 x2
    exact key x
  · refine ⟨pieceTail B (k.val / 256), List.mem_map.mpr ⟨k.val / 256, by simp; omega, rfl⟩, ?_⟩
    show ix3 ⟨k.val / 256, _⟩ q ⟨k.val % 256, _⟩ ∈ (rectTail (k.val / 256)).set
    unfold rectTail
    rw [Rect.mem_set_unit]
    intro a
    fin_cases a
    · exact ⟨show k.val / 256 % 11 ≤ k.val / 256 by omega, show k.val / 256 < k.val / 256 % 11 + 1 by omega⟩
    · exact ⟨Nat.zero_le _, by show q.val < 0 + 8; omega⟩
    · exact ⟨Nat.zero_le _, by show k.val % 256 < 0 + 256; omega⟩
  · show Cert.Mix.tail (tileOf B) q (col (k.val / 256) ⟨k.val % 256, _⟩) = _
    congr 1
    apply Fin.ext
    simp only [col]
    omega

end Cert.Kernel2Ideal.Mix
-- ==== Proof.Mix.RefRead.lean ====
/- The last call's reference read at one index. -/
module

public import proofs.«01_k».proof.Proof.Gen.Reference2Ideal.Run
public import proofs.«01_k».proof.Proof.Mix.Spec

@[expose] public section

set_option maxRecDepth 16384

noncomputable section

namespace Cert.Reference2Ideal.Mix

open Cert.Reference2Ideal Cert.Reference2Ideal.Gen Cert.Reference2Ideal.Value Idealize.ShloMosaic Idealize.ShloMosaic.TcCoe Idealize.SL.Sem

/-- The sequence `b` of the arguments. -/
def seqOf (ya : FVec Ideal S4x4096x512 .bf16) (yr ga gr : FVec Ideal S4x4096x1024 .bf16) (x : FVec Ideal S4x4096x1024 .f32)
    (mod : FVec Ideal S4x1x6144 .f32) (pa : FVec Ideal S512x1024 .f32) (pr wo : FVec Ideal S1024x1024 .f32)
    (g1 b1 : FVec Ideal S1024 .f32) (wg wu : FVec Ideal S1024x2816 .f32) (cw : FVec Ideal S3x2816 .f32)
    (cb : FVec Ideal S2816 .f32) (wd : FVec Ideal S2816x1024 .f32) (g2 b2 : FVec Ideal S1024 .f32) (b : Fin 4) :
    Cert.Mix.Seq 4096 where
  ya s k := ya (ix3 b s k)
  yr s k := yr (ix3 b s k)
  ga s k := ga (ix3 b s k)
  gr s k := gr (ix3 b s k)
  x s k := x (ix3 b s k)
  mod k := mod (ix3 b 0 k)
  pa i k := pa (ix2 i k)
  pr i k := pr (ix2 i k)
  wo i k := wo (ix2 i k)
  g1 k := g1 (ix1 k)
  b1 k := b1 (ix1 k)
  wg i k := wg (ix2 i k)
  wu i k := wu (ix2 i k)
  wd i k := wd (ix2 i k)
  cw i k := cw (ix2 i k)
  cb k := cb (ix1 k)
  g2 k := g2 (ix1 k)
  b2 k := b2 (ix1 k)

variable (V0 : Valuation τ sig (Elt Ideal))

/-- The sequence `b` of a device's arguments. -/
def seqAt (b : Fin 4) : Cert.Mix.Seq 4096 :=
  seqOf (V0 (Proc.devRef .tc main_arg0)) (V0 (Proc.devRef .tc main_arg1)) (V0 (Proc.devRef .tc main_arg2))
    (V0 (Proc.devRef .tc main_arg3)) (V0 (Proc.devRef .tc main_arg4)) (V0 (Proc.devRef .tc main_arg5))
    (V0 (Proc.devRef .tc main_arg6)) (V0 (Proc.devRef .tc main_arg7)) (V0 (Proc.devRef .tc main_arg8))
    (V0 (Proc.devRef .tc main_arg9)) (V0 (Proc.devRef .tc main_arg10)) (V0 (Proc.devRef .tc main_arg11))
    (V0 (Proc.devRef .tc main_arg12)) (V0 (Proc.devRef .tc main_arg13)) (V0 (Proc.devRef .tc main_arg14))
    (V0 (Proc.devRef .tc main_arg15)) (V0 (Proc.devRef .tc main_arg16)) (V0 (Proc.devRef .tc main_arg17)) b

/-- A row's mean, under a unit axis. -/
def meanR (x : FVec Ideal S4x4096x1024 .f32) : FVec Ideal S4x4096x1 .f32 :=
  Host.divf (broadcastInDim S4x4096x1 ![0, 1] bcast_S4x4096_S4x4096x1_0_1
      (Host.reduceAdd x (constant S_ .f32 0x00000000#32) reducesTo_S4x4096x1024_S4x4096_d2 h_S_))
    (broadcastInDim S4x4096x1 ![] bcast_S_S4x4096x1 (constant S_ .f32 0x44800000#32))

/-- Rows less their means. -/
def centredR (x : FVec Ideal S4x4096x1024 .f32) : FVec Ideal S4x4096x1024 .f32 :=
  subf x (broadcastInDim S4x4096x1024 ![0, 1, 2] bcast_S4x4096x1_S4x4096x1024_0_1_2 (meanR x))

/-- Rows normalised, scaled and shifted. -/
def normR (x : FVec Ideal S4x4096x1024 .f32) (g b : FVec Ideal S1024 .f32) : FVec Ideal S4x4096x1024 .f32 :=
  addf (mulf (mulf (centredR x) (broadcastInDim S4x4096x1024 ![0, 1, 2] bcast_S4x4096x1_S4x4096x1024_0_1_2
      (Host.rsqrt (addf (meanR (mulf (centredR x) (centredR x)))
        (broadcastInDim S4x4096x1 ![] bcast_S_S4x4096x1 (constant S_ .f32 0x3727C5AC#32))))))
      (broadcastInDim S4x4096x1024 ![0, 1, 2] bcast_S1x1x1024_S4x4096x1024_0_1_2
        (broadcastInDim S1x1x1024 ![2] bcast_S1024_S1x1x1024_2 g)))
    (broadcastInDim S4x4096x1024 ![0, 1, 2] bcast_S1x1x1024_S4x4096x1024_0_1_2
      (broadcastInDim S1x1x1024 ![2] bcast_S1024_S1x1x1024_2 b))

theorem normR_apply (x : FVec Ideal S4x4096x1024 .f32) (g b : FVec Ideal S1024 .f32) (i : Fin 4) (s : Fin 4096) (e : Fin 1024) :
    normR x g b (ix3 i s e) = Cert.Mix.normed (fun e => x (ix3 i s e)) (fun e => g (ix1 e)) (fun e => b (ix1 e)) e := by
  unfold normR centredR meanR Cert.Mix.normed Cert.Mix.centred
  pointwise

theorem mixed_apply (b : Fin 4) (s : Fin 4096) (e : Fin 1024) :
    res_main_v20 V0 (ix3 b s e) = Cert.Mix.mixed (seqAt V0 b) s e := by
  unfold res_main_v20 Cert.Mix.mixed Cert.Mix.merged Cert.Mix.part seqAt seqOf
  pointwise

theorem x1_apply (b : Fin 4) (s : Fin 4096) (e : Fin 1024) :
    res_main_v44 V0 (ix3 b s e) = Cert.Mix.x1 (seqAt V0 b) s e := by
  have h : res_main_v44 V0 = normR (res_main_v20 V0) (V0 (Proc.devRef .tc main_arg9)) (V0 (Proc.devRef .tc main_arg10)) := rfl
  rw [h, normR_apply]
  simp only [mixed_apply]
  rfl

theorem h2_apply (b : Fin 4) (s : Fin 4096) (e : Fin 1024) :
    res_main_v50 V0 (ix3 b s e) = Cert.Mix.h2 (seqAt V0 b) s e := by
  unfold res_main_v50 Cert.Mix.h2 Cert.Mix.part
  pointwise [x1_apply]
  rfl

theorem gate_apply (b : Fin 4) (s : Fin 4096) (k : Fin 2816) :
    Host.dotGeneral (F := Ideal) (φ₁ := .f32) (φ₂ := .f32) dot_S4x4096x1024_S1024x2816_S4x4096x2816_2_0_01_1_n_n none (res_main_v50 V0)
      (V0 (Proc.devRef .tc main_arg11)) (ix3 b s k) = Cert.Mix.gate (seqAt V0 b) s k := by
  unfold Cert.Mix.gate
  pointwise [h2_apply]
  rfl

theorem up_apply (b : Fin 4) (s : Fin 4096) (k : Fin 2816) :
    Host.dotGeneral (F := Ideal) (φ₁ := .f32) (φ₂ := .f32) dot_S4x4096x1024_S1024x2816_S4x4096x2816_2_0_01_1_n_n none (res_main_v50 V0)
      (V0 (Proc.devRef .tc main_arg12)) (ix3 b s k) = Cert.Mix.up (seqAt V0 b) s k := by
  unfold Cert.Mix.up
  pointwise [h2_apply]
  rfl

/-- The gates with two rows of zeros before them. -/
theorem padded_apply (b : Fin 4) (s : Fin 4098) (k : Fin 2816) :
    res_main_v53 V0 (ix3 b s k) = if h : s.val < 2 then 0 else Cert.Mix.gate (seqAt V0 b) ⟨s.val - 2, by omega⟩ k := by
  unfold res_main_v53
  pointwise [h2_apply]
  by_cases h : s.val < 2
  · rw [dif_neg (by omega), dif_pos h]
    show (((0#32).toInt : ℝ) : EReal) = 0
    simp
  · rw [dif_pos (by omega), dif_neg h]
    rfl

theorem taps_apply (b : Fin 4) (s : Fin 4096) (k : Fin 2816) :
    res_main_v78 V0 (ix3 b s k) = Cert.Mix.taps (seqAt V0 b) (Cert.Mix.lagged (seqAt V0 b) 2 s k)
      (Cert.Mix.lagged (seqAt V0 b) 1 s k) (Cert.Mix.gate (seqAt V0 b) s k) k := by
  unfold res_main_v78 Cert.Mix.taps Cert.Mix.lagged
  pointwise [padded_apply]
  have h1 : (if h : 1 + s.val < 2 then (0 : EReal) else Cert.Mix.gate (seqAt V0 b) ⟨1 + s.val - 2, by omega⟩ k)
      = if s.val < 1 then 0 else Cert.Mix.gate (seqAt V0 b) ⟨s.val - 1, by omega⟩ k := by
    by_cases h : s.val < 1
    · rw [dif_pos (by omega), if_pos h]
    · rw [dif_neg (by omega), if_neg h]
      congr 2
      omega
  rw [h1]
  rfl

theorem out_apply (b : Fin 4) (s : Fin 4096) (e : Fin 1024) :
    res_main_v92 V0 (ix3 b s e) = Ideal.ofBits .f32 0x3F9837F0#32 * Cert.Mix.x1 (seqAt V0 b) s e
      + Ideal.ofBits .f32 0x3F000000#32 * Cert.Mix.part (seqAt V0 b) 5 e * Cert.Mix.down (seqAt V0 b) (fun k =>
        Cert.Mix.taps (seqAt V0 b) (Cert.Mix.lagged (seqAt V0 b) 2 s k) (Cert.Mix.lagged (seqAt V0 b) 1 s k)
          (Cert.Mix.gate (seqAt V0 b) s k) k) s e := by
  rw [← Cert.Mix.half_down]
  unfold res_main_v92
  pointwise [x1_apply, taps_apply, h2_apply]
  rfl

/-- The reference's result at one index. -/
theorem result_apply (b : Fin 4) (s : Fin 4096) (e : Fin 1024) :
    normR (res_main_v92 V0) (V0 (Proc.devRef .tc main_arg16)) (V0 (Proc.devRef .tc main_arg17)) (ix3 b s e)
      = Cert.Mix.result (seqAt V0 b) s e := by
  rw [normR_apply]
  simp only [out_apply]
  rfl

end Cert.Reference2Ideal.Mix
-- ==== Proof.Mix.Tiles.lean ====
/- The blocks a grid point of the last call reads are a tile of its sequence. -/
module

public import proofs.«01_k».proof.Proof.Mix.KernelOut
public import proofs.«01_k».proof.Proof.Mix.RefRead

@[expose] public section

set_option maxRecDepth 16384

noncomputable section

namespace Cert.Kernel2Ideal.Mix

open Cert.Kernel2Ideal Cert.Kernel2Ideal.Gen Idealize.ShloMosaic Idealize.ShloMosaic.TcCoe Idealize.SL.Sem
open Idealize.ShloMosaic.Pipeline (Dat)
open Cert.Mix (row)

variable (m : (ℓ : Loc nD τ sig) → Buf (Elt Ideal) ℓ) (c : Dev nD)

theorem index_facts : ∀ t : Fin cfg0.N, win0_0.index t = ![t.val / 8, t.val % 8, 0] ∧ win0_1.index t = ![t.val / 8, t.val % 8, 0]
    ∧ win0_2.index t = ![t.val / 8, t.val % 8, 0] ∧ win0_3.index t = ![t.val / 8, t.val % 8, 0]
    ∧ win0_4.index t = ![t.val / 8, t.val % 8, 0] ∧ win0_5.index t = ![t.val / 8, 0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![0, 0]
    ∧ win0_15.index t = ![0, 0] ∧ win0_16.index t = ![0, 0] ∧ win0_17.index t = ![0, 0]
    ∧ win0_18.index t = ![t.val / 8, t.val % 8, 0] := by
  show ∀ t : Fin grid0.N, _
  decide +kernel

/-- The batch of a grid point. -/
def batch (t : Fin cfg0.N) : Fin 4 := ⟨t.val / 8, by have := t.isLt; simp only [show cfg0.N = 32 from rfl] at this; omega⟩

/-- The sequence a grid point works on. -/
def seqAt (b : Fin 4) : Cert.Mix.Seq 4096 :=
  Cert.Reference2Ideal.Mix.seqOf (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
    (m ((c : Thread nD τ).loc main_arg11)) (m ((c : Thread nD τ).loc main_arg12)) (m ((c : Thread nD τ).loc main_arg13))
    (m ((c : Thread nD τ).loc main_arg14)) (m ((c : Thread nD τ).loc main_arg15)) (m ((c : Thread nD τ).loc main_arg16))
    (m ((c : Thread nD τ).loc main_arg17)) b

variable (t : Fin cfg0.N)

theorem ya_blk (r : Fin 512) (k : Fin 512) : iblk m c 0 t (ix3 0 r k) = m ((c : Thread nD τ).loc main_arg0) (ix3 (batch t) (row t.val r) k) := by
  unfold batch row
  blk_ext [iblk, V_main_arg0, index_facts t]

theorem yr_blk (r : Fin 512) (k : Fin 1024) : iblk m c 1 t (ix3 0 r k) = m ((c : Thread nD τ).loc main_arg1) (ix3 (batch t) (row t.val r) k) := by
  unfold batch row
  blk_ext [iblk, V_main_arg1, index_facts t]

theorem ga_blk (r : Fin 512) (k : Fin 1024) : iblk m c 2 t (ix3 0 r k) = m ((c : Thread nD τ).loc main_arg2) (ix3 (batch t) (row t.val r) k) := by
  unfold batch row
  blk_ext [iblk, V_main_arg2, index_facts t]

theorem gr_blk (r : Fin 512) (k : Fin 1024) : iblk m c 3 t (ix3 0 r k) = m ((c : Thread nD τ).loc main_arg3) (ix3 (batch t) (row t.val r) k) := by
  unfold batch row
  blk_ext [iblk, V_main_arg3, index_facts t]

theorem x_blk (r : Fin 512) (k : Fin 1024) : iblk m c 4 t (ix3 0 r k) = m ((c : Thread nD τ).loc main_arg4) (ix3 (batch t) (row t.val r) k) := by
  unfold batch row
  blk_ext [iblk, V_main_arg4, index_facts t]

theorem mod_blk (k : Fin 6144) : iblk m c 5 t (ix3 0 0 k) = m ((c : Thread nD τ).loc main_arg5) (ix3 (batch t) 0 k) := by
  unfold batch
  blk_ext [iblk, V_main_arg5, index_facts t]

theorem pa_blk (i : Fin 512) (k : Fin 1024) : iblk m c 6 t (ix2 i k) = m ((c : Thread nD τ).loc main_arg6) (ix2 i k) := by
  blk_ext [iblk, V_main_arg6, index_facts t]

theorem pr_blk (i : Fin 1024) (k : Fin 1024) : iblk m c 7 t (ix2 i k) = m ((c : Thread nD τ).loc main_arg7) (ix2 i k) := by
  blk_ext [iblk, V_main_arg7, index_facts t]

theorem wo_blk (i : Fin 1024) (k : Fin 1024) : iblk m c 8 t (ix2 i k) = m ((c : Thread nD τ).loc main_arg8) (ix2 i k) := by
  blk_ext [iblk, V_main_arg8, index_facts t]

theorem wd_blk (i : Fin 2816) (k : Fin 1024) : iblk m c 13 t (ix2 i k) = m ((c : Thread nD τ).loc main_arg15) (ix2 i k) := by
  blk_ext [iblk, V_main_arg15, index_facts t]

theorem cw_blk (i : Fin 3) (k : Fin 2816) : iblk m c 14 t (ix2 i k) = m ((c : Thread nD τ).loc main_arg13) (ix2 i k) := by
  blk_ext [iblk, V_main_arg13, index_facts t]

theorem g1_blk (k : Fin 1024) : iblk m c 9 t (ix2 0 k) = m ((c : Thread nD τ).loc main_arg9) (ix1 k) := by
  have h : V m c main_v2 (ix2 0 k) = m ((c : Thread nD τ).loc main_arg9) (ix1 k) := by entry_read; pointwise
  refine Eq.trans ?_ h
  blk_ext [iblk, index_facts t]

theorem b1_blk (k : Fin 1024) : iblk m c 10 t (ix2 0 k) = m ((c : Thread nD τ).loc main_arg10) (ix1 k) := by
  have h : V m c main_v3 (ix2 0 k) = m ((c : Thread nD τ).loc main_arg10) (ix1 k) := by entry_read; pointwise
  refine Eq.trans ?_ h
  blk_ext [iblk, index_facts t]

theorem wg_blk (i : Fin 1024) (k : Fin 2816) : iblk m c 11 t (ix2 i k) = m ((c : Thread nD τ).loc main_arg11) (ix2 i k) := by
  have h : V m c main_v0 (ix2 i k) = m ((c : Thread nD τ).loc main_arg11) (ix2 i k) := by entry_read; pointwise
  refine Eq.trans ?_ h
  blk_ext [iblk, index_facts t]

theorem wu_blk (i : Fin 1024) (k : Fin 2816) : iblk m c 12 t (ix2 i k) = m ((c : Thread nD τ).loc main_arg12) (ix2 i k) := by
  have h : V m c main_v1 (ix2 i k) = m ((c : Thread nD τ).loc main_arg12) (ix2 i k) := by entry_read; pointwise
  refine Eq.trans ?_ h
  blk_ext [iblk, index_facts t]

theorem cb_blk (k : Fin 2816) : iblk m c 15 t (ix2 0 k) = m ((c : Thread nD τ).loc main_arg14) (ix1 k) := by
  have h : V m c main_v4 (ix2 0 k) = m ((c : Thread nD τ).loc main_arg14) (ix1 k) := by entry_read; pointwise
  refine Eq.trans ?_ h
  blk_ext [iblk, index_facts t]

theorem g2_blk (k : Fin 1024) : iblk m c 16 t (ix2 0 k) = m ((c : Thread nD τ).loc main_arg16) (ix1 k) := by
  have h : V m c main_v5 (ix2 0 k) = m ((c : Thread nD τ).loc main_arg16) (ix1 k) := by entry_read; pointwise
  refine Eq.trans ?_ h
  blk_ext [iblk, index_facts t]

theorem b2_blk (k : Fin 1024) : iblk m c 17 t (ix2 0 k) = m ((c : Thread nD τ).loc main_arg17) (ix1 k) := by
  have h : V m c main_v6 (ix2 0 k) = m ((c : Thread nD τ).loc main_arg17) (ix1 k) := by entry_read; pointwise
  refine Eq.trans ?_ h
  blk_ext [iblk, index_facts t]

/-- A grid point's blocks are its tile of its sequence. -/
theorem tileOf_blocks : tileOf (blocks m c t) = (seqAt m c (batch t)).tile (t.val % 8) := by
  have hr : ∀ r, row (t.val % 8) r = row t.val r := fun r => by unfold row; simp only [Nat.mod_mod]
  unfold tileOf blocks seqAt Cert.Reference2Ideal.Mix.seqOf Cert.Mix.Seq.tile
  simp only [hr, ya_blk, yr_blk, ga_blk, gr_blk, x_blk, mod_blk, pa_blk, pr_blk, wo_blk, g1_blk, b1_blk, wg_blk, wu_blk, wd_blk,
    cw_blk, cb_blk, g2_blk, b2_blk]

/-- Nothing is carried into a sequence. -/
theorem prevRows_zero (q : Fin 8) (k : Fin 2816) : prevRows (k0_pay2 : FVec Ideal S11x8x256 .f32) q k = 0 := by
  unfold prevRows k0_pay2
  pointwise

/-- The result of the call. -/
def result : Buf (Elt Ideal) ((c : Thread nD τ).loc main_v7) := fun i =>
  Cert.Mix.result (seqAt m c (i 0)) (i 1) (i 2)

theorem result_apply (b : Fin 4) (s : Fin 4096) (e : Fin 1024) :
    result m c (ix3 b s e) = Cert.Mix.result (seqAt m c b) s e := rfl

/-- The place of a grid point's block. -/
theorem place (r : Fin 512) (e : Fin 1024) :
    ((View.whole main_v7).slice (win0_18.rect t)).emb (ix3 0 r e) = ix3 (batch t) (row t.val r) e := by
  unfold batch row
  blk_ext [index_facts t]

end Cert.Kernel2Ideal.Mix
-- ==== Proof.Mix.Final.lean ====
/- The last call's output array after the run: every sequence's result. -/
module

public import proofs.«01_k».proof.Proof.Mix.OutsA
public import proofs.«01_k».proof.Proof.Mix.OutsB
public import proofs.«01_k».proof.Proof.Mix.StoreA
public import proofs.«01_k».proof.Proof.Mix.StoreB
public import proofs.«01_k».proof.Proof.Mix.Tiles

@[expose] public section

set_option maxRecDepth 16384

noncomputable section

namespace Cert.Kernel2Ideal.Mix

open Cert.Kernel2Ideal Cert.Kernel2Ideal.Gen Idealize.ShloMosaic Idealize.ShloMosaic.TcCoe Idealize.SL.Sem
open Idealize.ShloMosaic.Pipeline (Dat)
open Cert.Mix (row carried)

variable (m : (ℓ : Loc nD τ sig) → Buf (Elt Ideal) ℓ) (c : Dev nD) (t : Fin cfg0.N)

/-- What a grid point leaves for the next: its tile's last gates. -/
theorem prevRows_after : prevRows (outsAt0 m c t.val t.isLt).2 = Cert.Mix.tail ((seqAt m c (batch t)).tile (t.val % 8)) := by
  funext q k
  rw [← tileOf_blocks]
  by_cases h : t.val % 8 = 0
  · rw [tail_first m c t h]
    exact tail_apply (blocks m c t) _ q k
  · rw [tail_later m c t h]
    refine Eq.trans ?_ (tail_apply (blocks m c t) [] q k)
    rw [List.append_nil]

/-- What a grid point stores. -/
theorem outs_apply (r : Fin 512) (e : Fin 1024) :
    (outsAt0 m c t.val t.isLt).1 (ix3 0 r e) = Cert.Mix.result (seqAt m c (batch t)) (row (t.val % 8) r) e := by
  rw [← Cert.Mix.tileOut_eq _ _ (Nat.mod_lt _ (by decide)), ← tileOf_blocks]
  by_cases h : t.val % 8 = 0
  · have hc : prevRows (k0_pay2 : FVec Ideal S11x8x256 .f32) = carried (seqAt m c (batch t)) (t.val % 8) := by
      funext q k
      rw [prevRows_zero, h]
      rfl
    rw [out_first m c t h, outBlock_apply, hc]
  · have hN : t.val < 32 := t.isLt
    have hc : prevRows (outsAt0 m c (t.val - 1) (by have := t.isLt; omega)).2 = carried (seqAt m c (batch t)) (t.val % 8) := by
      have hb : batch ⟨t.val - 1, by have := t.isLt; omega⟩ = batch t := by
        unfold batch
        apply Fin.ext
        simp only
        omega
      refine (prevRows_after m c ⟨t.val - 1, by have := t.isLt; omega⟩).trans ?_
      rw [hb]
      funext q k
      unfold carried
      rw [if_neg h, show (t.val - 1) % 8 = t.val % 8 - 1 by omega]
    rw [out_later m c t h, outBlock_apply, hc]

/-- The output array after the run. -/
theorem final : (dats m 0 c).arrAt 18 cfg0.N = result m c := by
  refine (dats m 0 c).arrAt_eq_of_covers 18 _ (by decide +kernel) fun t hf y => ?_
  blk_simp
  rw [after0_18]
  idx_vars y
  rw [Subsingleton.elim y0 0, place, result_apply]
  refine (outs_apply m c t y1 y2).trans ?_
  have hr : row (t.val % 8) y1 = row t.val y1 := by unfold row; simp only [Nat.mod_mod]
  rw [hr]

end Cert.Kernel2Ideal.Mix
-- ==== Proof.Mix.Claim.lean ====
/- The last call: the kernel's and the reference's results are one array. -/
module

public import proofs.«01_k».proof.Defs
public import proofs.«01_k».proof.Proof.Gen.Reference2Ideal
public import proofs.«01_k».proof.Proof.Gen.Kernel2Ideal
public import proofs.«01_k».proof.Proof.Mix.Final

@[expose] public section

set_option maxRecDepth 16384

noncomputable section

namespace Cert.Proof.Mix

open Idealize.ShloMosaic Idealize.SL.Sem

theorem algebraic : Cert.algebraic_Kernel2Ideal_Reference2Ideal (hKernel2Ideal := Cert.Kernel2Ideal.Gen.facts)
    (hReference2Ideal := Cert.Reference2Ideal.Gen.facts) := by
  intro m g m' g' _ hargs
  refine ⟨fun c => Cert.Kernel2Ideal.Mix.result m c, ?_, ?_⟩
  · refine (θ_run (Cert.Kernel2Ideal.defs (F := Ideal)) _ _).mono (fun r h c => ?_) (Cert.Kernel2Ideal.Value.run_blocks (F := Ideal) m g)
    exact ⟨(h c).1.trans (Cert.Kernel2Ideal.Mix.final m c), (h c).2⟩
  · refine (θ_run (Cert.Reference2Ideal.defs (F := Ideal)) _ _).mono (fun r h c => ?_)
      (Cert.Reference2Ideal.Value.run (F := Ideal) m' g')
    refine ⟨(h c).1.trans ?_, (h c).2⟩
    obtain ⟨h0, h1, h2, h3, h4, h5, h6, h7, h8, h9, h10, h11, h12, h13, h14, h15, h16, h17⟩ := hargs c
    have hs : ∀ b, Cert.Reference2Ideal.Mix.seqAt (StableHlo.launchContents m' c) b = Cert.Kernel2Ideal.Mix.seqAt m c b := by
      intro b
      unfold Cert.Kernel2Ideal.Mix.seqAt
      rw [← h0, ← h1, ← h2, ← h3, ← h4, ← h5, ← h6, ← h7, ← h8, ← h9, ← h10, ← h11, ← h12, ← h13, ← h14, ← h15, ← h16, ← h17]
      rfl
    funext i
    idx_vars i
    refine (Cert.Reference2Ideal.Mix.result_apply (StableHlo.launchContents m' c) i0 i1 i2).trans ?_
    rw [hs]
    rfl

end Cert.Proof.Mix
-- ==== Proof.Inp.Spec.lean ====
/- The input projection as functions of rows: the modulated row's products with the weight's columns, the half-turned and
   the pairwise turned heads, and the gates. -/
module

public import Idealize.ShloMosaic.Lib.Pipeline.ValueKit

@[expose] public section

noncomputable section

namespace Cert.Inp

open Idealize.ShloMosaic

/-- A position as a number. -/
def pos (n : Nat) : EReal := FloatOps.sitofp (F := Ideal) .f32 (BitVec.ofNat 32 n)

/-- The angle of position `s` in plane `j` of a head of 64. -/
def angle (s : Fin 4096) (j : Fin 32) : EReal :=
  pos s * Ideal.pow (Ideal.ofBits .f32 0x461C4000#32)
    (Ideal.div (-(Ideal.ofBits .f32 0x40000000#32 * pos j)) (Ideal.ofBits .f32 0x42800000#32))

/-- The angle of position `s` in plane `j` of a head of 128. -/
def angleR (s : Fin 4096) (j : Fin 64) : EReal :=
  pos s * Ideal.div 1 (Ideal.pow (Ideal.ofBits .f32 0x461C4000#32)
    (if j.val < 63 then Ideal.ofBits .f32 0x00000000#32 * (1 - Ideal.div (pos j) (Ideal.ofBits .f32 0x427C0000#32))
      + Ideal.ofBits .f32 0x3F800000#32 * Ideal.div (pos j) (Ideal.ofBits .f32 0x427C0000#32)
    else Ideal.ofBits .f32 0x3F800000#32))

/-- A call's arguments. -/
structure Args where
  x : Fin 4 → Fin 4096 → Fin 1024 → EReal
  mod : Fin 4 → Fin 6144 → EReal
  w : Fin 1024 → Fin 6656 → EReal

/-- A modulated row's product with a column. -/
def product (x sc sh w : Fin 1024 → EReal) : EReal := ∑ k, (x k * (1 + sc k) + sh k) * w k

/-- Entry `n` of row `s` of sequence `b`'s projection. -/
def proj (A : Args) (b : Fin 4) (s : Fin 4096) (n : Fin 6656) : EReal :=
  product (A.x b s) (fun k => A.mod b ⟨1024 + k, by omega⟩) (fun k => A.mod b ⟨k, by omega⟩) (fun k => A.w k n)

/-- Column `n` of the part that starts at `o`. -/
def at512 (o : Nat) (ho : o ≤ 6144) (p : Fin 6656 → EReal) (n : Fin 512) : EReal := p ⟨o + n, by omega⟩

/-- Heads of 64, each half turned against the other by the position's angles. -/
def turn (p : Fin 512 → EReal) (s : Fin 4096) (n : Fin 512) : EReal :=
  if n.val % 64 < 32 then
    p n * Ideal.cos (angle s ⟨n % 32, by omega⟩) - p ⟨(n + 32) % 512, by omega⟩ * Ideal.sin (angle s ⟨n % 32, by omega⟩)
  else p n * Ideal.cos (angle s ⟨n % 32, by omega⟩) + p ⟨n - 32, by omega⟩ * Ideal.sin (angle s ⟨n % 32, by omega⟩)

/-- Heads of 128, each even entry turned against the odd one after it. -/
def turnR (p : Fin 512 → EReal) (s : Fin 4096) (n : Fin 512) : EReal :=
  if n.val % 2 = 0 then
    p n * Ideal.cos (angleR s ⟨n % 128 / 2, by omega⟩)
      - p ⟨(n + 1) % 512, by omega⟩ * Ideal.sin (angleR s ⟨n % 128 / 2, by omega⟩)
  else p n * Ideal.cos (angleR s ⟨n % 128 / 2, by omega⟩) + p ⟨n - 1, by omega⟩ * Ideal.sin (angleR s ⟨n % 128 / 2, by omega⟩)

def gate (z : EReal) : EReal := Ideal.div 1 (1 + Ideal.exp (-z))

/-! ## The results -/

/-- Row `r` of block `i`. -/
def rowOf (i : Fin 16) (r : Fin 256) : Fin 4096 := ⟨i * 256 + r, by omega⟩

def qAt (A : Args) (b : Fin 4) (i : Fin 16) (n : Fin 512) (r : Fin 256) : EReal :=
  turn (at512 0 (by decide) (proj A b (rowOf i r))) (rowOf i r) n * Ideal.ofBits .f32 0x3E38AA3B#32

def kAt (A : Args) (b : Fin 4) (i : Fin 16) (r : Fin 256) (n : Fin 512) : EReal :=
  turn (at512 512 (by decide) (proj A b (rowOf i r))) (rowOf i r) n

def vAt (A : Args) (b : Fin 4) (i : Fin 16) (r : Fin 256) (n : Fin 512) : EReal :=
  at512 1024 (by decide) (proj A b (rowOf i r)) n

def rqAt (A : Args) (b : Fin 4) (s : Fin 4096) (n : Fin 512) : EReal :=
  turnR (at512 1536 (by decide) (proj A b s)) s n

def rkAt (A : Args) (b : Fin 4) (s : Fin 4096) (n : Fin 512) : EReal :=
  turnR (at512 2048 (by decide) (proj A b s)) s n * Ideal.ofBits .f32 0x3DB504F3#32

def rvAt (A : Args) (b : Fin 4) (s : Fin 4096) (n : Fin 1024) : EReal := proj A b s ⟨2560 + n, by omega⟩

def sgAt (A : Args) (b : Fin 4) (s : Fin 4096) (n : Fin 1024) : EReal :=
  proj A b s ⟨3584 + n, by omega⟩ * gate (proj A b s ⟨3584 + n, by omega⟩)

def gaAt (A : Args) (b : Fin 4) (s : Fin 4096) (n : Fin 1024) : EReal := gate (proj A b s ⟨4608 + n, by omega⟩)

def grAt (A : Args) (b : Fin 4) (s : Fin 4096) (n : Fin 1024) : EReal := gate (proj A b s ⟨5632 + n, by omega⟩)

end Cert.Inp
-- ==== Proof.Inp.KernelRead.lean ====
/- The input projection's kernel: the pieces of a grid point's stores, each read at one index. -/
module

public import proofs.«01_k».proof.Proof.Gen.Kernel3Ideal.Value
public import proofs.«01_k».proof.Proof.Inp.Spec
public import Idealize.ShloMosaic.Lib.KernelVsHost

@[expose] public section

set_option maxRecDepth 16384

noncomputable section

namespace Cert.Kernel3Ideal.Inp

open Cert.Kernel3Ideal Cert.Kernel3Ideal.Gen Idealize.ShloMosaic Idealize.ShloMosaic.TcCoe Idealize.SL.Sem
open Cert.Inp

/-! ## The product -/

/-- The modulated rows. -/
def rows (x0 : Vec Ideal S1x512x1024 .f32) (x1 : Vec Ideal S1x1x6144 .f32) : FVec Ideal S512x1024 .bf16 :=
  k0_pay3 (View.ld x1 r0_0) (View.ld x1 r0_1) (View.ld x0 r0_2)

/-- The modulated rows' product with 512 columns. -/
def prod (h : FVec Ideal S512x1024 .bf16) (w : Vec Ideal S1024x512 .f32) : FVec Ideal S512x512 .f32 :=
  matmul dot_S512x1024_S1024x512_S512x512_1_0_0_1_n_n none h (truncf .bf16 w bitsLt_bf16_f32) (constant S512x512 .f32 0x00000000#32)

/-- The modulated rows' product with 256 columns. -/
def prodV (h : FVec Ideal S512x1024 .bf16) (w : Vec Ideal S1024x256 .f32) : FVec Ideal S512x256 .f32 :=
  matmul dot_S512x1024_S1024x256_S512x256_1_0_0_1_n_n none h (truncf .bf16 w bitsLt_bf16_f32) (constant S512x256 .f32 0x00000000#32)

/-- Row `r` of the tile's projection. -/
def tileProj (x0 : Vec Ideal S1x512x1024 .f32) (x1 : Vec Ideal S1x1x6144 .f32) (x2 : Vec Ideal S1024x6656 .f32)
    (r : Fin 512) (n : Fin 6656) : EReal :=
  product (fun k => x0 (ix3 0 r k)) (fun k => x1 (ix3 0 0 ⟨1024 + k, by omega⟩)) (fun k => x1 (ix3 0 0 ⟨k, by omega⟩))
    (fun k => x2 (ix2 k n))

theorem modulate_apply (v0 v2 : Vec Ideal S1x1x1024 .f32) (v4 : Vec Ideal S1x512x1024 .f32) (r : Fin 512) (k : Fin 1024) :
    (k0_pay3 v0 v2 v4 : FVec Ideal S512x1024 .bf16) (ix2 r k) = v4 (ix3 0 r k) * (1 + v2 (ix3 0 0 k)) + v0 (ix3 0 0 k) := by
  unfold k0_pay3
  have hc : ∀ y : FVec Ideal S1x1x1024 .f32, shapeCast S1x1024 y shapeCasts_S1x1x1024_S1x1024 (ix2 0 k) = y (ix3 0 0 k) := by
    intro y
    pointwise
  pointwise [hc]

theorem rows_apply (x0 : Vec Ideal S1x512x1024 .f32) (x1 : Vec Ideal S1x1x6144 .f32) (r : Fin 512) (k : Fin 1024) :
    rows x0 x1 (ix2 r k) = x0 (ix3 0 r k) * (1 + x1 (ix3 0 0 ⟨1024 + k, by omega⟩)) + x1 (ix3 0 0 ⟨k, by omega⟩) := by
  refine (modulate_apply _ _ _ r k).trans ?_
  have e0 : View.ld x1 r0_0 (ix3 0 0 k) = x1 (ix3 0 0 ⟨k, by omega⟩) :=
    View.ld_unit_apply_of x1 _ _ inb_S1x1x6144_S1x1x1024_0_0_0 _ _ (fun a => by fin_cases a <;> simp)
  have e1 : View.ld x1 r0_1 (ix3 0 0 k) = x1 (ix3 0 0 ⟨1024 + k, by omega⟩) :=
    View.ld_unit_apply_of x1 _ _ inb_S1x1x6144_S1x1x1024_0_0_1024 _ _ (fun a => by fin_cases a <;> simp)
  have e2 : View.ld x0 r0_2 (ix3 0 r k) = x0 (ix3 0 r k) :=
    View.ld_unit_apply_of x0 _ _ inb_S1x512x1024_S1x512x1024_0_0_0 _ _ (fun a => by fin_cases a <;> simp)
  rw [e0, e1, e2]

theorem prod_sum (h : FVec Ideal S512x1024 .bf16) (w : Vec Ideal S1024x512 .f32) (r n : Fin 512) :
    prod h w (ix2 r n) = ∑ k : Fin 1024, h (ix2 r k) * w (ix2 k n) := by
  unfold prod
  pointwise

theorem prodV_sum (h : FVec Ideal S512x1024 .bf16) (w : Vec Ideal S1024x256 .f32) (r : Fin 512) (n : Fin 256) :
    prodV h w (ix2 r n) = ∑ k : Fin 1024, h (ix2 r k) * w (ix2 k n) := by
  unfold prodV
  pointwise

section
variable (x0 : Vec Ideal S1x512x1024 .f32) (x1 : Vec Ideal S1x1x6144 .f32) (x2 : Vec Ideal S1024x6656 .f32)

theorem prod_apply (o : Nat) (ho : o ≤ 6144) (inb : ∀ a, (![0, o] : Fin 2 → Nat) a + S1024x512.size a ≤ S1024x6656.size a) (r n : Fin 512) :
    prod (rows x0 x1) (View.ld x2 (Rect.unit (s := S1024x6656) ![0, o] S1024x512.size inb)) (ix2 r n)
      = tileProj x0 x1 x2 r ⟨o + n, by omega⟩ := by
  rw [prod_sum]
  unfold tileProj product
  refine Finset.sum_congr rfl fun k _ => ?_
  rw [rows_apply]
  congr 1
  exact View.ld_unit_apply_of x2 _ _ inb _ _ (fun a => by fin_cases a <;> simp)

theorem prodV_apply (o : Nat) (ho : o ≤ 6400) (inb : ∀ a, (![0, o] : Fin 2 → Nat) a + S1024x256.size a ≤ S1024x6656.size a) (r : Fin 512) (n : Fin 256) :
    prodV (rows x0 x1) (View.ld x2 (Rect.unit (s := S1024x6656) ![0, o] S1024x256.size inb)) (ix2 r n)
      = tileProj x0 x1 x2 r ⟨o + n, by omega⟩ := by
  rw [prodV_sum]
  unfold tileProj product
  refine Finset.sum_congr rfl fun k _ => ?_
  rw [rows_apply]
  congr 1
  exact View.ld_unit_apply_of x2 _ _ inb _ _ (fun a => by fin_cases a <;> simp)
end

/-! ## The turned groups of 128 columns -/

/-- Whether a column is in the first half of its head of 64. -/
def maskA : IVec S512x128 1 := k0_pay6

/-- Whether a column is even. -/
def maskR : IVec S512x128 1 := k0_pay40 (iota .tc S512x128 32 [1] iota_S512x128_d1_w32)

theorem maskA_apply (r : Fin 512) (l : Fin 128) : maskA (ix2 r l) = if l.val % 64 < 32 then 1#1 else 0#1 := by
  have h : ∀ l : Fin 128, IntOp.cmpi .eq (IntOp.andi (BitVec.ofNat 32 l.val) 32#32) 0#32 = if l.val % 64 < 32 then 1#1 else 0#1 := by
    decide +kernel
  refine Eq.trans ?_ (h l)
  unfold maskA k0_pay6
  pointwise

theorem maskR_apply (r : Fin 512) (l : Fin 128) : maskR (ix2 r l) = if l.val % 2 = 0 then 1#1 else 0#1 := by
  have h : ∀ l : Fin 128, IntOp.cmpi .eq (IntOp.andi (BitVec.ofNat 32 l.val) 1#32) 0#32 = if l.val % 2 = 0 then 1#1 else 0#1 := by
    decide +kernel
  refine Eq.trans ?_ (h l)
  unfold maskR k0_pay40
  pointwise

/-- A group of columns times one table, and the columns `a` after or `b` before them times another. -/
def groupOf (a b : BitVec 32) (mk : IVec S512x128 1) (g : FVec Ideal S512x128 .f32) (ct st : FVec Ideal S512x128 .f32) :
    FVec Ideal S512x128 .f32 :=
  addf (mulf g ct) (mulf (select mk (dynamicRotate 1 a none g rotates_S512x128_d1) (dynamicRotate 1 b none g rotates_S512x128_d1)) st)

theorem rotate_apply (a : BitVec 32) (g : FVec Ideal S512x128 .f32) (r : Fin 512) (l : Fin 128) :
    dynamicRotate 1 a none g rotates_S512x128_d1 (ix2 r l) = g (ix2 r ⟨(l + 128 - a.toNat % 128) % 128, by omega⟩) :=
  dynamicRotate_apply 1 a g _ _ _ (fun b => by fin_cases b <;> simp)

theorem groupOf_apply (a b : BitVec 32) (mk : IVec S512x128 1) (g ct st : FVec Ideal S512x128 .f32) (r : Fin 512) (l : Fin 128)
    (c : Prop) [Decidable c] (hm : mk (ix2 r l) = if c then 1#1 else 0#1) :
    groupOf a b mk g ct st (ix2 r l) = g (ix2 r l) * ct (ix2 r l)
      + (if c then g (ix2 r ⟨(l + 128 - a.toNat % 128) % 128, by omega⟩) else g (ix2 r ⟨(l + 128 - b.toNat % 128) % 128, by omega⟩))
        * st (ix2 r l) := by
  unfold groupOf
  by_cases h : c
  · rw [if_pos h] at hm
    pointwise [hm, rotate_apply]
    simp [h]
  · rw [if_neg h] at hm
    pointwise [hm, rotate_apply]
    simp [h]

theorem slice_apply (P : FVec Ideal S512x512 .f32) (o : Nat) (ho : o ≤ 384) (hs : S512x512.Slices ![0, o] S512x128) (r : Fin 512) (l : Fin 128) :
    extractStridedSlice S512x128 ![0, o] P hs (ix2 r l) = P (ix2 r ⟨o + l, by omega⟩) :=
  extractStridedSlice_apply ![0, o] P hs (ix2 r l) (ix2 r ⟨o + l, by omega⟩) (fun a => by fin_cases a <;> simp)

theorem groupA_apply (P : FVec Ideal S512x512 .f32) (o : Nat) (ho : o ≤ 384) (h128 : o % 128 = 0) (hs : S512x512.Slices ![0, o] S512x128)
    (ct st : FVec Ideal S512x128 .f32) (p : Fin 512 → EReal) (s : Fin 4096) (r : Fin 512) (hP : ∀ n, P (ix2 r n) = p n)
    (hc : ∀ l : Fin 128, ct (ix2 r l) = Ideal.cos (angle s ⟨l % 32, by omega⟩))
    (hst : ∀ l : Fin 128, st (ix2 r l) = if l.val % 64 < 32 then -Ideal.sin (angle s ⟨l % 32, by omega⟩) else Ideal.sin (angle s ⟨l % 32, by omega⟩))
    (l : Fin 128) :
    groupOf 96#32 32#32 maskA (extractStridedSlice S512x128 ![0, o] P hs) ct st (ix2 r l) = turn p s ⟨o + l, by omega⟩ := by
  rw [groupOf_apply _ _ _ _ _ _ r l _ (maskA_apply r l), slice_apply P o ho, slice_apply P o ho, slice_apply P o ho, hP, hP, hP, hc, hst]
  unfold turn
  have hl := l.isLt
  have e32 : (o + l.val) % 32 = l.val % 32 := by omega
  have e64 : (o + l.val) % 64 = l.val % 64 := by omega
  simp only [e32, e64]
  by_cases h : l.val % 64 < 32
  · simp only [if_pos h, mul_neg, ← sub_eq_add_neg]
    simp only [show o + (l.val + 128 - (96#32).toNat % 128) % 128 = (o + l.val + 32) % 512 by simp only [show (96#32).toNat = 96 from rfl]; omega]
  · simp only [if_neg h]
    simp only [show o + (l.val + 128 - (32#32).toNat % 128) % 128 = o + l.val - 32 by simp only [show (32#32).toNat = 32 from rfl]; omega]

theorem groupR_apply (P : FVec Ideal S512x512 .f32) (o : Nat) (ho : o ≤ 384) (h128 : o % 128 = 0) (hs : S512x512.Slices ![0, o] S512x128)
    (ct st : FVec Ideal S512x128 .f32) (p : Fin 512 → EReal) (s : Fin 4096) (r : Fin 512) (hP : ∀ n, P (ix2 r n) = p n)
    (hc : ∀ l : Fin 128, ct (ix2 r l) = Ideal.cos (angleR s ⟨l / 2, by omega⟩))
    (hst : ∀ l : Fin 128, st (ix2 r l) = if l.val % 2 = 0 then -Ideal.sin (angleR s ⟨l / 2, by omega⟩) else Ideal.sin (angleR s ⟨l / 2, by omega⟩))
    (l : Fin 128) :
    groupOf 127#32 1#32 maskR (extractStridedSlice S512x128 ![0, o] P hs) ct st (ix2 r l) = turnR p s ⟨o + l, by omega⟩ := by
  rw [groupOf_apply _ _ _ _ _ _ r l _ (maskR_apply r l), slice_apply P o ho, slice_apply P o ho, slice_apply P o ho, hP, hP, hP, hc, hst]
  unfold turnR
  have hl := l.isLt
  have e2 : (o + l.val) % 2 = l.val % 2 := by omega
  have e128 : (o + l.val) % 128 / 2 = l.val / 2 := by omega
  simp only [e2, e128]
  by_cases h : l.val % 2 = 0
  · simp only [if_pos h, mul_neg, ← sub_eq_add_neg]
    simp only [show o + (l.val + 128 - (127#32).toNat % 128) % 128 = (o + l.val + 1) % 512 by simp only [show (127#32).toNat = 127 from rfl]; omega]
  · simp only [if_neg h]
    simp only [show o + (l.val + 128 - (1#32).toNat % 128) % 128 = o + l.val - 1 by simp only [show (1#32).toNat = 1 from rfl]; omega]

end Cert.Kernel3Ideal.Inp
-- ==== Proof.Inp.Stores.lean ====
/- What the input projection's stores leave in each output's block, of the values stored. -/
module

public import proofs.«01_k».proof.Proof.Inp.KernelRead

@[expose] public section

set_option maxRecDepth 16384

noncomputable section

namespace Cert.Kernel3Ideal.Inp

open Cert.Kernel3Ideal Cert.Kernel3Ideal.Gen Idealize.ShloMosaic Idealize.ShloMosaic.TcCoe Idealize.SL.Sem
open Cert.Inp

/-- Row `r` of the tile's block `i`. -/
def trow (i : Fin 2) (r : Fin 256) : Fin 512 := ⟨256 * i + r, by omega⟩

variable (T : Fin 512 → Fin 512 → EReal)

/-! ## The queries, transposed in two blocks -/

def atQ : S1x2x512x256.Idx → EReal := fun y => T (trow (y 1) (y 3)) (y 2)

theorem qpiece (i : Fin 2) (ro : Nat) (hr : ro = 256 * i.val) (inb : ∀ a, (![0, i.val, 0, 0] : Fin 4 → Nat) a + S1x1x512x256.size a ≤ S1x2x512x256.size a)
    (g : FVec Ideal S512x512 .bf16) (hg : ∀ n r, g (ix2 n r) = T r n) (hs : S512x512.Slices ![0, ro] S512x256) (x : S1x1x512x256.Idx) :
    shapeCast S1x1x512x256 (extractStridedSlice S512x256 ![0, ro] g hs) shapeCasts_S512x256_S1x1x512x256 x
      = atQ T ((Rect.unit (s := S1x2x512x256) ![0, i.val, 0, 0] S1x1x512x256.size inb).emb x) := by
  idx_vars x
  have hc : ∀ y : FVec Ideal S512x256 .bf16, shapeCast S1x1x512x256 y shapeCasts_S512x256_S1x1x512x256 (ix4 x0 x1 x2 x3) = y (ix2 x2 x3) := by
    intro y
    rw [Subsingleton.elim x0 0, Subsingleton.elim x1 0]
    pointwise
  refine (hc _).trans ?_
  refine (extractStridedSlice_apply ![0, ro] g hs (ix2 x2 x3) (ix2 x2 ⟨ro + x3, by omega⟩) (fun a => by fin_cases a <;> simp)).trans ?_
  rw [hg]
  unfold atQ
  have e : ∀ a, ((Rect.unit (s := S1x2x512x256) ![0, i.val, 0, 0] S1x1x512x256.size inb).emb (ix4 x0 x1 x2 x3) a).val
      = (![0, i.val, 0, 0] : Fin 4 → Nat) a + (ix4 x0 x1 x2 x3 a).val :=
    fun a => Rect.idx_unit_val (s := S1x2x512x256) _ S1x1x512x256.size inb (ix4 x0 x1 x2 x3) a
  have e1 : ((Rect.unit (s := S1x2x512x256) ![0, i.val, 0, 0] S1x1x512x256.size inb).emb (ix4 x0 x1 x2 x3) 1).val = i.val + x1.val := e 1
  have e2 : ((Rect.unit (s := S1x2x512x256) ![0, i.val, 0, 0] S1x1x512x256.size inb).emb (ix4 x0 x1 x2 x3) 2).val = 0 + x2.val := e 2
  have e3 : ((Rect.unit (s := S1x2x512x256) ![0, i.val, 0, 0] S1x1x512x256.size inb).emb (ix4 x0 x1 x2 x3) 3).val = 0 + x3.val := e 3
  congr 1
  · apply Fin.ext
    show ro + x3.val = 256 * ((Rect.unit (s := S1x2x512x256) ![0, i.val, 0, 0] S1x1x512x256.size inb).emb (ix4 x0 x1 x2 x3) 1).val + ((Rect.unit (s := S1x2x512x256) ![0, i.val, 0, 0] S1x1x512x256.size inb).emb (ix4 x0 x1 x2 x3) 3).val
    rw [e1, e3, hr]
    omega
  · apply Fin.ext
    show x2.val = ((Rect.unit (s := S1x2x512x256) ![0, i.val, 0, 0] S1x1x512x256.size inb).emb (ix4 x0 x1 x2 x3) 2).val
    rw [e2]
    omega

theorem queries_apply (g : FVec Ideal S512x512 .bf16) (hg : ∀ n r, g (ix2 n r) = T r n) (i : Fin 2) (n : Fin 512) (r : Fin 256) :
    View.canon (Val := Elt Ideal) (s := S1x2x512x256) (e := .bf16)
      [⟨r0_6, shapeCast S1x1x512x256 (extractStridedSlice S512x256 ![0, 256] g slices_S512x512_o0_256_S512x256) shapeCasts_S512x256_S1x1x512x256⟩,
        ⟨r0_5, shapeCast S1x1x512x256 (extractStridedSlice S512x256 ![0, 0] g slices_S512x512_o0_0_S512x256) shapeCasts_S512x256_S1x1x512x256⟩]
      (ix4 0 i n r) = T (trow i r) n := by
  refine View.canon_apply_of_pieces (Val := Elt Ideal) (S := S1x2x512x256) (e := .bf16) (atQ T) _ ?_ (ix4 0 i n r) (cover0_7 _ _ _)
  intro p hp x
  rcases List.mem_cons.mp hp with rfl | hp
  · exact qpiece T 1 256 rfl inb_S1x2x512x256_S1x1x512x256_0_1_0_0 g hg slices_S512x512_o0_256_S512x256 x
  rcases List.mem_cons.mp hp with rfl | hp
  · exact qpiece T 0 0 rfl inb_S1x2x512x256_S1x1x512x256_0_0_0_0 g hg slices_S512x512_o0_0_S512x256 x
  · exact absurd hp List.not_mem_nil

/-! ## The keys and the values, in two blocks of rows -/

def atK : S1x2x256x512.Idx → EReal := fun y => T (trow (y 1) (y 2)) (y 3)

theorem kpiece (i : Fin 2) (o ro : Nat) (ho : o ≤ 384) (hr : ro = 256 * i.val)
    (inb : ∀ a, (![0, i.val, 0, o] : Fin 4 → Nat) a + S1x1x256x128.size a ≤ S1x2x256x512.size a)
    (g : FVec Ideal S512x128 .bf16) (hg : ∀ r (l : Fin 128), g (ix2 r l) = T r ⟨o + l, by omega⟩) (hs : S512x128.Slices ![ro, 0] S256x128)
    (x : S1x1x256x128.Idx) :
    shapeCast S1x1x256x128 (extractStridedSlice S256x128 ![ro, 0] g hs) shapeCasts_S256x128_S1x1x256x128 x
      = atK T ((Rect.unit (s := S1x2x256x512) ![0, i.val, 0, o] S1x1x256x128.size inb).emb x) := by
  idx_vars x
  have hc : ∀ y : FVec Ideal S256x128 .bf16, shapeCast S1x1x256x128 y shapeCasts_S256x128_S1x1x256x128 (ix4 x0 x1 x2 x3) = y (ix2 x2 x3) := by
    intro y
    rw [Subsingleton.elim x0 0, Subsingleton.elim x1 0]
    pointwise
  refine (hc _).trans ?_
  refine (extractStridedSlice_apply ![ro, 0] g hs (ix2 x2 x3) (ix2 ⟨ro + x2, by omega⟩ x3) (fun a => by fin_cases a <;> simp)).trans ?_
  rw [hg]
  unfold atK
  have e : ∀ a, ((Rect.unit (s := S1x2x256x512) ![0, i.val, 0, o] S1x1x256x128.size inb).emb (ix4 x0 x1 x2 x3) a).val
      = (![0, i.val, 0, o] : Fin 4 → Nat) a + (ix4 x0 x1 x2 x3 a).val :=
    fun a => Rect.idx_unit_val (s := S1x2x256x512) _ S1x1x256x128.size inb (ix4 x0 x1 x2 x3) a
  have e1 : ((Rect.unit (s := S1x2x256x512) ![0, i.val, 0, o] S1x1x256x128.size inb).emb (ix4 x0 x1 x2 x3) 1).val = i.val + x1.val := e 1
  have e2 : ((Rect.unit (s := S1x2x256x512) ![0, i.val, 0, o] S1x1x256x128.size inb).emb (ix4 x0 x1 x2 x3) 2).val = 0 + x2.val := e 2
  have e3 : ((Rect.unit (s := S1x2x256x512) ![0, i.val, 0, o] S1x1x256x128.size inb).emb (ix4 x0 x1 x2 x3) 3).val = o + x3.val := e 3
  congr 1
  · apply Fin.ext
    show ro + x2.val = 256 * ((Rect.unit (s := S1x2x256x512) ![0, i.val, 0, o] S1x1x256x128.size inb).emb (ix4 x0 x1 x2 x3) 1).val + ((Rect.unit (s := S1x2x256x512) ![0, i.val, 0, o] S1x1x256x128.size inb).emb (ix4 x0 x1 x2 x3) 2).val
    rw [e1, e2, hr]
    omega
  · apply Fin.ext
    show o + x3.val = ((Rect.unit (s := S1x2x256x512) ![0, i.val, 0, o] S1x1x256x128.size inb).emb (ix4 x0 x1 x2 x3) 3).val
    rw [e3]

/-- One of a group's two stores. -/
def kst0 (g : FVec Ideal S512x128 .bf16) : FVec Ideal S1x1x256x128 .bf16 :=
  shapeCast S1x1x256x128 (extractStridedSlice S256x128 ![0, 0] g slices_S512x128_o0_0_S256x128) shapeCasts_S256x128_S1x1x256x128

def kst1 (g : FVec Ideal S512x128 .bf16) : FVec Ideal S1x1x256x128 .bf16 :=
  shapeCast S1x1x256x128 (extractStridedSlice S256x128 ![256, 0] g slices_S512x128_o256_0_S256x128) shapeCasts_S256x128_S1x1x256x128

theorem keys_apply (g0 g1 g2 g3 : FVec Ideal S512x128 .bf16) (h0 : ∀ r (l : Fin 128), g0 (ix2 r l) = T r ⟨0 + l, by omega⟩)
    (h1 : ∀ r (l : Fin 128), g1 (ix2 r l) = T r ⟨128 + l, by omega⟩) (h2 : ∀ r (l : Fin 128), g2 (ix2 r l) = T r ⟨256 + l, by omega⟩)
    (h3 : ∀ r (l : Fin 128), g3 (ix2 r l) = T r ⟨384 + l, by omega⟩) (i : Fin 2) (r : Fin 256) (n : Fin 512) :
    View.canon (Val := Elt Ideal) (s := S1x2x256x512) (e := .bf16)
      [⟨r0_15, kst1 g3⟩, ⟨r0_14, kst0 g3⟩, ⟨r0_13, kst1 g2⟩, ⟨r0_12, kst0 g2⟩, ⟨r0_11, kst1 g1⟩, ⟨r0_10, kst0 g1⟩, ⟨r0_9, kst1 g0⟩,
        ⟨r0_8, kst0 g0⟩] (ix4 0 i r n) = T (trow i r) n := by
  refine View.canon_apply_of_pieces (Val := Elt Ideal) (S := S1x2x256x512) (e := .bf16) (atK T) _ ?_ (ix4 0 i r n) (cover0_8 _ _ _ _ _ _ _ _ _)
  intro p hp x
  rcases List.mem_cons.mp hp with rfl | hp
  · exact kpiece T 1 384 256 (by decide) rfl inb_S1x2x256x512_S1x1x256x128_0_1_0_384 g3 h3 slices_S512x128_o256_0_S256x128 x
  rcases List.mem_cons.mp hp with rfl | hp
  · exact kpiece T 0 384 0 (by decide) rfl inb_S1x2x256x512_S1x1x256x128_0_0_0_384 g3 h3 slices_S512x128_o0_0_S256x128 x
  rcases List.mem_cons.mp hp with rfl | hp
  · exact kpiece T 1 256 256 (by decide) rfl inb_S1x2x256x512_S1x1x256x128_0_1_0_256 g2 h2 slices_S512x128_o256_0_S256x128 x
  rcases List.mem_cons.mp hp with rfl | hp
  · exact kpiece T 0 256 0 (by decide) rfl inb_S1x2x256x512_S1x1x256x128_0_0_0_256 g2 h2 slices_S512x128_o0_0_S256x128 x
  rcases List.mem_cons.mp hp with rfl | hp
  · exact kpiece T 1 128 256 (by decide) rfl inb_S1x2x256x512_S1x1x256x128_0_1_0_128 g1 h1 slices_S512x128_o256_0_S256x128 x
  rcases List.mem_cons.mp hp with rfl | hp
  · exact kpiece T 0 128 0 (by decide) rfl inb_S1x2x256x512_S1x1x256x128_0_0_0_128 g1 h1 slices_S512x128_o0_0_S256x128 x
  rcases List.mem_cons.mp hp with rfl | hp
  · exact kpiece T 1 0 256 (by decide) rfl inb_S1x2x256x512_S1x1x256x128_0_1_0_0 g0 h0 slices_S512x128_o256_0_S256x128 x
  rcases List.mem_cons.mp hp with rfl | hp
  · exact kpiece T 0 0 0 (by decide) rfl inb_S1x2x256x512_S1x1x256x128_0_0_0_0 g0 h0 slices_S512x128_o0_0_S256x128 x
  · exact absurd hp List.not_mem_nil

theorem vpiece (i : Fin 2) (o ro : Nat) (ho : o ≤ 256) (hr : ro = 256 * i.val)
    (inb : ∀ a, (![0, i.val, 0, o] : Fin 4 → Nat) a + S1x1x256x256.size a ≤ S1x2x256x512.size a)
    (g : FVec Ideal S512x256 .bf16) (hg : ∀ r (l : Fin 256), g (ix2 r l) = T r ⟨o + l, by omega⟩) (hs : S512x256.Slices ![ro, 0] S256x256)
    (x : S1x1x256x256.Idx) :
    shapeCast S1x1x256x256 (extractStridedSlice S256x256 ![ro, 0] g hs) shapeCasts_S256x256_S1x1x256x256 x
      = atK T ((Rect.unit (s := S1x2x256x512) ![0, i.val, 0, o] S1x1x256x256.size inb).emb x) := by
  idx_vars x
  have hc : ∀ y : FVec Ideal S256x256 .bf16, shapeCast S1x1x256x256 y shapeCasts_S256x256_S1x1x256x256 (ix4 x0 x1 x2 x3) = y (ix2 x2 x3) := by
    intro y
    rw [Subsingleton.elim x0 0, Subsingleton.elim x1 0]
    pointwise
  refine (hc _).trans ?_
  refine (extractStridedSlice_apply ![ro, 0] g hs (ix2 x2 x3) (ix2 ⟨ro + x2, by omega⟩ x3) (fun a => by fin_cases a <;> simp)).trans ?_
  rw [hg]
  unfold atK
  have e : ∀ a, ((Rect.unit (s := S1x2x256x512) ![0, i.val, 0, o] S1x1x256x256.size inb).emb (ix4 x0 x1 x2 x3) a).val
      = (![0, i.val, 0, o] : Fin 4 → Nat) a + (ix4 x0 x1 x2 x3 a).val :=
    fun a => Rect.idx_unit_val (s := S1x2x256x512) _ S1x1x256x256.size inb (ix4 x0 x1 x2 x3) a
  have e1 : ((Rect.unit (s := S1x2x256x512) ![0, i.val, 0, o] S1x1x256x256.size inb).emb (ix4 x0 x1 x2 x3) 1).val = i.val + x1.val := e 1
  have e2 : ((Rect.unit (s := S1x2x256x512) ![0, i.val, 0, o] S1x1x256x256.size inb).emb (ix4 x0 x1 x2 x3) 2).val = 0 + x2.val := e 2
  have e3 : ((Rect.unit (s := S1x2x256x512) ![0, i.val, 0, o] S1x1x256x256.size inb).emb (ix4 x0 x1 x2 x3) 3).val = o + x3.val := e 3
  congr 1
  · apply Fin.ext
    show ro + x2.val = 256 * ((Rect.unit (s := S1x2x256x512) ![0, i.val, 0, o] S1x1x256x256.size inb).emb (ix4 x0 x1 x2 x3) 1).val + ((Rect.unit (s := S1x2x256x512) ![0, i.val, 0, o] S1x1x256x256.size inb).emb (ix4 x0 x1 x2 x3) 2).val
    rw [e1, e2, hr]
    omega
  · apply Fin.ext
    show o + x3.val = ((Rect.unit (s := S1x2x256x512) ![0, i.val, 0, o] S1x1x256x256.size inb).emb (ix4 x0 x1 x2 x3) 3).val
    rw [e3]

/-- One of a product's two stores. -/
def vst0 (g : FVec Ideal S512x256 .f32) : FVec Ideal S1x1x256x256 .bf16 :=
  shapeCast S1x1x256x256 (extractStridedSlice S256x256 ![0, 0] (truncf .bf16 g bitsLt_bf16_f32) slices_S512x256_o0_0_S256x256)
    shapeCasts_S256x256_S1x1x256x256

def vst1 (g : FVec Ideal S512x256 .f32) : FVec Ideal S1x1x256x256 .bf16 :=
  shapeCast S1x1x256x256 (extractStridedSlice S256x256 ![256, 0] (truncf .bf16 g bitsLt_bf16_f32) slices_S512x256_o256_0_S256x256)
    shapeCasts_S256x256_S1x1x256x256

theorem values_apply (g0 g1 : FVec Ideal S512x256 .f32) (h0 : ∀ r (l : Fin 256), g0 (ix2 r l) = T r ⟨0 + l, by omega⟩)
    (h1 : ∀ r (l : Fin 256), g1 (ix2 r l) = T r ⟨256 + l, by omega⟩) (i : Fin 2) (r : Fin 256) (n : Fin 512) :
    View.canon (Val := Elt Ideal) (s := S1x2x256x512) (e := .bf16)
      [⟨r0_21, vst1 g1⟩, ⟨r0_20, vst0 g1⟩, ⟨r0_18, vst1 g0⟩, ⟨r0_17, vst0 g0⟩] (ix4 0 i r n) = T (trow i r) n := by
  refine View.canon_apply_of_pieces (Val := Elt Ideal) (S := S1x2x256x512) (e := .bf16) (atK T) _ ?_ (ix4 0 i r n) (cover0_9 _ _ _ _ _)
  intro p hp x
  rcases List.mem_cons.mp hp with rfl | hp
  · exact vpiece T 1 256 256 (by decide) rfl inb_S1x2x256x512_S1x1x256x256_0_1_0_256 (truncf .bf16 g1 bitsLt_bf16_f32) h1
      slices_S512x256_o256_0_S256x256 x
  rcases List.mem_cons.mp hp with rfl | hp
  · exact vpiece T 0 256 0 (by decide) rfl inb_S1x2x256x512_S1x1x256x256_0_0_0_256 (truncf .bf16 g1 bitsLt_bf16_f32) h1
      slices_S512x256_o0_0_S256x256 x
  rcases List.mem_cons.mp hp with rfl | hp
  · exact vpiece T 1 0 256 (by decide) rfl inb_S1x2x256x512_S1x1x256x256_0_1_0_0 (truncf .bf16 g0 bitsLt_bf16_f32) h0
      slices_S512x256_o256_0_S256x256 x
  rcases List.mem_cons.mp hp with rfl | hp
  · exact vpiece T 0 0 0 (by decide) rfl inb_S1x2x256x512_S1x1x256x256_0_0_0_0 (truncf .bf16 g0 bitsLt_bf16_f32) h0
      slices_S512x256_o0_0_S256x256 x
  · exact absurd hp List.not_mem_nil

/-! ## The retention's queries and keys, 128 columns a store -/

def atR : S1x512x512.Idx → EReal := fun y => T (y 1) (y 2)

def rst (g : FVec Ideal S512x128 .f32) : FVec Ideal S1x512x128 .bf16 :=
  shapeCast S1x512x128 (truncf .bf16 g bitsLt_bf16_f32) shapeCasts_S512x128_S1x512x128

theorem rpiece (o : Nat) (ho : o ≤ 384) (inb : ∀ a, (![0, 0, o] : Fin 3 → Nat) a + S1x512x128.size a ≤ S1x512x512.size a)
    (g : FVec Ideal S512x128 .f32) (hg : ∀ r (l : Fin 128), g (ix2 r l) = T r ⟨o + l, by omega⟩) (x : S1x512x128.Idx) :
    rst g x = atR T ((Rect.unit (s := S1x512x512) ![0, 0, o] S1x512x128.size inb).emb x) := by
  idx_vars x
  have hc : rst g (ix3 x0 x1 x2) = g (ix2 x1 x2) := by
    rw [Subsingleton.elim x0 0]
    unfold rst
    pointwise
  refine hc.trans ?_
  rw [hg]
  unfold atR
  have e : ∀ a, ((Rect.unit (s := S1x512x512) ![0, 0, o] S1x512x128.size inb).emb (ix3 x0 x1 x2) a).val
      = (![0, 0, o] : Fin 3 → Nat) a + (ix3 x0 x1 x2 a).val :=
    fun a => Rect.idx_unit_val (s := S1x512x512) _ S1x512x128.size inb (ix3 x0 x1 x2) a
  have e1 : ((Rect.unit (s := S1x512x512) ![0, 0, o] S1x512x128.size inb).emb (ix3 x0 x1 x2) 1).val = 0 + x1.val := e 1
  have e2 : ((Rect.unit (s := S1x512x512) ![0, 0, o] S1x512x128.size inb).emb (ix3 x0 x1 x2) 2).val = o + x2.val := e 2
  congr 1
  · apply Fin.ext
    show x1.val = ((Rect.unit (s := S1x512x512) ![0, 0, o] S1x512x128.size inb).emb (ix3 x0 x1 x2) 1).val
    rw [e1]
    omega
  · apply Fin.ext
    show o + x2.val = ((Rect.unit (s := S1x512x512) ![0, 0, o] S1x512x128.size inb).emb (ix3 x0 x1 x2) 2).val
    rw [e2]

theorem groups_apply (g0 g1 g2 g3 : FVec Ideal S512x128 .f32) (h0 : ∀ r (l : Fin 128), g0 (ix2 r l) = T r ⟨0 + l, by omega⟩)
    (h1 : ∀ r (l : Fin 128), g1 (ix2 r l) = T r ⟨128 + l, by omega⟩) (h2 : ∀ r (l : Fin 128), g2 (ix2 r l) = T r ⟨256 + l, by omega⟩)
    (h3 : ∀ r (l : Fin 128), g3 (ix2 r l) = T r ⟨384 + l, by omega⟩) (r n : Fin 512) :
    View.canon (Val := Elt Ideal) (s := S1x512x512) (e := .bf16)
      [⟨r0_26, rst g3⟩, ⟨r0_25, rst g2⟩, ⟨r0_24, rst g1⟩, ⟨r0_23, rst g0⟩] (ix3 0 r n) = T r n := by
  refine View.canon_apply_of_pieces (Val := Elt Ideal) (S := S1x512x512) (e := .bf16) (atR T) _ ?_ (ix3 0 r n) (cover0_10 _ _ _ _ _)
  intro p hp x
  rcases List.mem_cons.mp hp with rfl | hp
  · exact rpiece T 384 (by decide) inb_S1x512x512_S1x512x128_0_0_384 g3 h3 x
  rcases List.mem_cons.mp hp with rfl | hp
  · exact rpiece T 256 (by decide) inb_S1x512x512_S1x512x128_0_0_256 g2 h2 x
  rcases List.mem_cons.mp hp with rfl | hp
  · exact rpiece T 128 (by decide) inb_S1x512x512_S1x512x128_0_0_128 g1 h1 x
  rcases List.mem_cons.mp hp with rfl | hp
  · exact rpiece T 0 (by decide) inb_S1x512x512_S1x512x128_0_0_0 g0 h0 x
  · exact absurd hp List.not_mem_nil

/-! ## The wide outputs, 512 columns a store -/

variable (W : Fin 512 → Fin 1024 → EReal)

def atW : S1x512x1024.Idx → EReal := fun y => W (y 1) (y 2)

def wst (g : FVec Ideal S512x512 .f32) : FVec Ideal S1x512x512 .bf16 :=
  shapeCast S1x512x512 (truncf .bf16 g bitsLt_bf16_f32) shapeCasts_S512x512_S1x512x512

theorem wpiece (o : Nat) (ho : o ≤ 512) (inb : ∀ a, (![0, 0, o] : Fin 3 → Nat) a + S1x512x512.size a ≤ S1x512x1024.size a)
    (g : FVec Ideal S512x512 .f32) (hg : ∀ r (l : Fin 512), g (ix2 r l) = W r ⟨o + l, by omega⟩) (x : S1x512x512.Idx) :
    wst g x = atW W ((Rect.unit (s := S1x512x1024) ![0, 0, o] S1x512x512.size inb).emb x) := by
  idx_vars x
  have hc : wst g (ix3 x0 x1 x2) = g (ix2 x1 x2) := by
    rw [Subsingleton.elim x0 0]
    unfold wst
    pointwise
  refine hc.trans ?_
  rw [hg]
  unfold atW
  have e : ∀ a, ((Rect.unit (s := S1x512x1024) ![0, 0, o] S1x512x512.size inb).emb (ix3 x0 x1 x2) a).val
      = (![0, 0, o] : Fin 3 → Nat) a + (ix3 x0 x1 x2 a).val :=
    fun a => Rect.idx_unit_val (s := S1x512x1024) _ S1x512x512.size inb (ix3 x0 x1 x2) a
  have e1 : ((Rect.unit (s := S1x512x1024) ![0, 0, o] S1x512x512.size inb).emb (ix3 x0 x1 x2) 1).val = 0 + x1.val := e 1
  have e2 : ((Rect.unit (s := S1x512x1024) ![0, 0, o] S1x512x512.size inb).emb (ix3 x0 x1 x2) 2).val = o + x2.val := e 2
  congr 1
  · apply Fin.ext
    show x1.val = ((Rect.unit (s := S1x512x1024) ![0, 0, o] S1x512x512.size inb).emb (ix3 x0 x1 x2) 1).val
    rw [e1]
    omega
  · apply Fin.ext
    show o + x2.val = ((Rect.unit (s := S1x512x1024) ![0, 0, o] S1x512x512.size inb).emb (ix3 x0 x1 x2) 2).val
    rw [e2]

theorem wide_apply (g0 g1 : FVec Ideal S512x512 .f32) (h0 : ∀ r (l : Fin 512), g0 (ix2 r l) = W r ⟨0 + l, by omega⟩)
    (h1 : ∀ r (l : Fin 512), g1 (ix2 r l) = W r ⟨512 + l, by omega⟩) (r : Fin 512) (n : Fin 1024) :
    View.canon (Val := Elt Ideal) (s := S1x512x1024) (e := .bf16) [⟨r0_31, wst g1⟩, ⟨r0_29, wst g0⟩] (ix3 0 r n) = W r n := by
  refine View.canon_apply_of_pieces (Val := Elt Ideal) (S := S1x512x1024) (e := .bf16) (atW W) _ ?_ (ix3 0 r n) (cover0_12 _ _ _)
  intro p hp x
  rcases List.mem_cons.mp hp with rfl | hp
  · exact wpiece W 512 (by decide) inb_S1x512x1024_S1x512x512_0_0_512 g1 h1 x
  rcases List.mem_cons.mp hp with rfl | hp
  · exact wpiece W 0 (by decide) inb_S1x512x1024_S1x512x512_0_0_0 g0 h0 x
  · exact absurd hp List.not_mem_nil

end Cert.Kernel3Ideal.Inp
-- ==== Proof.Inp.Outs.lean ====
/- What a grid point of the input projection leaves in each output's block, of the blocks it reads. -/
module

public import proofs.«01_k».proof.Proof.Inp.Stores

@[expose] public section

set_option maxRecDepth 16384

noncomputable section

namespace Cert.Kernel3Ideal.Inp

open Cert.Kernel3Ideal Cert.Kernel3Ideal.Gen Idealize.ShloMosaic Idealize.ShloMosaic.TcCoe Idealize.SL.Sem
open Cert.Inp

/-- A table as the kernel reads it. -/
def tab (t : Vec Ideal S512x128 .f32) : FVec Ideal S512x128 .f32 :=
  shapeCast S512x128 (View.ld t r0_3) shapeCasts_S512x128_S512x128

theorem tab_apply (t : Vec Ideal S512x128 .f32) (r : Fin 512) (l : Fin 128) : tab t (ix2 r l) = t (ix2 r l) := by
  have hc : ∀ y : FVec Ideal S512x128 .f32, shapeCast S512x128 y shapeCasts_S512x128_S512x128 (ix2 r l) = y (ix2 r l) := by
    intro y
    pointwise
  exact (hc _).trans (View.ld_unit_apply_of t _ _ inb_S512x128_S512x128_0_0 _ _ (fun a => by fin_cases a <;> simp))

/-- The tables hold the cosines and the signed sines of the rows' positions. -/
structure Tables (ca sa cr sr : Vec Ideal S512x128 .f32) (s : Fin 512 → Fin 4096) : Prop where
  ca : ∀ r (l : Fin 128), ca (ix2 r l) = Ideal.cos (angle (s r) ⟨l % 32, by omega⟩)
  sa : ∀ r (l : Fin 128), sa (ix2 r l) = if l.val % 64 < 32 then -Ideal.sin (angle (s r) ⟨l % 32, by omega⟩)
    else Ideal.sin (angle (s r) ⟨l % 32, by omega⟩)
  cr : ∀ r (l : Fin 128), cr (ix2 r l) = Ideal.cos (angleR (s r) ⟨l / 2, by omega⟩)
  sr : ∀ r (l : Fin 128), sr (ix2 r l) = if l.val % 2 = 0 then -Ideal.sin (angleR (s r) ⟨l / 2, by omega⟩)
    else Ideal.sin (angleR (s r) ⟨l / 2, by omega⟩)

variable (x0 : Vec Ideal S1x512x1024 .f32) (x1 : Vec Ideal S1x1x6144 .f32) (x2 : Vec Ideal S1024x6656 .f32)
  (x3 x4 x5 x6 : Vec Ideal S512x128 .f32) (s : Fin 512 → Fin 4096)

/-- 512 columns of the product from column `o`. -/
def cols (o : Nat) (inb : ∀ a, (![0, o] : Fin 2 → Nat) a + S1024x512.size a ≤ S1024x6656.size a) : FVec Ideal S512x512 .f32 :=
  prod (rows x0 x1) (View.ld x2 (Rect.unit (s := S1024x6656) ![0, o] S1024x512.size inb))

/-- A turned group of heads of 64. -/
def grpA (P : FVec Ideal S512x512 .f32) (o : Nat) (hs : S512x512.Slices ![0, o] S512x128) : FVec Ideal S512x128 .f32 :=
  groupOf 96#32 32#32 maskA (extractStridedSlice S512x128 ![0, o] P hs) (tab x3) (tab x4)

/-- A turned group of a head of 128. -/
def grpR (P : FVec Ideal S512x512 .f32) (o : Nat) (hs : S512x512.Slices ![0, o] S512x128) : FVec Ideal S512x128 .f32 :=
  groupOf 127#32 1#32 maskR (extractStridedSlice S512x128 ![0, o] P hs) (tab x5) (tab x6)

/-- A group times the scale. -/
def scaled (g : FVec Ideal S512x128 .f32) : FVec Ideal S512x128 .f32 :=
  mulf g (broadcast S512x128 (Scalar.ofBits .f32 0x3DB504F3#32))

theorem scaled_apply (g : FVec Ideal S512x128 .f32) (r : Fin 512) (l : Fin 128) :
    scaled g (ix2 r l) = g (ix2 r l) * Ideal.ofBits .f32 0x3DB504F3#32 := by
  unfold scaled
  pointwise

variable {x3 x4 x5 x6 s} (hT : Tables x3 x4 x5 x6 s)
include hT

theorem grpA_apply (o c : Nat) (ho : o ≤ 384) (h128 : o % 128 = 0) (hc : c ≤ 6144) (hs : S512x512.Slices ![0, o] S512x128)
    (inb : ∀ a, (![0, c] : Fin 2 → Nat) a + S1024x512.size a ≤ S1024x6656.size a) (r : Fin 512) (l : Fin 128) :
    grpA x3 x4 (cols x0 x1 x2 c inb) o hs (ix2 r l) = turn (at512 c hc (tileProj x0 x1 x2 r)) (s r) ⟨o + l, by omega⟩ :=
  groupA_apply _ o ho h128 hs _ _ _ (s r) r (fun n => prod_apply x0 x1 x2 c hc inb r n)
    (fun l => (tab_apply x3 r l).trans (hT.ca r l)) (fun l => (tab_apply x4 r l).trans (hT.sa r l)) l

theorem grpR_apply (o c : Nat) (ho : o ≤ 384) (h128 : o % 128 = 0) (hc : c ≤ 6144) (hs : S512x512.Slices ![0, o] S512x128)
    (inb : ∀ a, (![0, c] : Fin 2 → Nat) a + S1024x512.size a ≤ S1024x6656.size a) (r : Fin 512) (l : Fin 128) :
    grpR x5 x6 (cols x0 x1 x2 c inb) o hs (ix2 r l) = turnR (at512 c hc (tileProj x0 x1 x2 r)) (s r) ⟨o + l, by omega⟩ :=
  groupR_apply _ o ho h128 hs _ _ _ (s r) r (fun n => prod_apply x0 x1 x2 c hc inb r n)
    (fun l => (tab_apply x5 r l).trans (hT.cr r l)) (fun l => (tab_apply x6 r l).trans (hT.sr r l)) l

omit hT in
/-- The groups side by side, scaled and transposed. -/
theorem joined_apply (g0 g1 g2 g3 : FVec Ideal S512x128 .f32) (T : Fin 512 → Fin 512 → EReal)
    (h0 : ∀ r (l : Fin 128), g0 (ix2 r l) = T r ⟨0 + l, by omega⟩)
    (h1 : ∀ r (l : Fin 128), g1 (ix2 r l) = T r ⟨128 + l, by omega⟩) (h2 : ∀ r (l : Fin 128), g2 (ix2 r l) = T r ⟨256 + l, by omega⟩)
    (h3 : ∀ r (l : Fin 128), g3 (ix2 r l) = T r ⟨384 + l, by omega⟩) (n r : Fin 512) :
    truncf .bf16 (transpose S512x512 [1, 0] (mulf (concatenate S512x512 1 [⟨S512x128, g0⟩, ⟨S512x128, g1⟩, ⟨S512x128, g2⟩, ⟨S512x128, g3⟩]
      concatenates_S512x128_S512x128_S512x128_S512x128_S512x512_d1) (broadcast S512x512 (Scalar.ofBits .f32 0x3E38AA3B#32)))
      transposes_S512x512_p1_0_S512x512) bitsLt_bf16_f32 (ix2 n r) = T r n * Ideal.ofBits .f32 0x3E38AA3B#32 := by
  pointwise
  simp only [h0, h1, h2, h3]
  congr 1
  have hn := n.isLt
  split_ifs <;> exact congrArg _ (Fin.ext (by simp only; omega))

theorem out7_apply (i : Fin 2) (n : Fin 512) (r : Fin 256) :
    out0_7 x0 x1 x2 x3 x4 x5 x6 (ix4 0 i n r)
      = turn (at512 0 (by decide) (tileProj x0 x1 x2 (trow i r))) (s (trow i r)) n * Ideal.ofBits .f32 0x3E38AA3B#32 :=
  queries_apply (fun r n => turn (at512 0 (by decide) (tileProj x0 x1 x2 r)) (s r) n * Ideal.ofBits .f32 0x3E38AA3B#32) _
    (fun n r => joined_apply (grpA x3 x4 (cols x0 x1 x2 0 inb_S1024x6656_S1024x512_0_0) 0 slices_S512x512_o0_0_S512x128)
      (grpA x3 x4 (cols x0 x1 x2 0 inb_S1024x6656_S1024x512_0_0) 128 slices_S512x512_o0_128_S512x128)
      (grpA x3 x4 (cols x0 x1 x2 0 inb_S1024x6656_S1024x512_0_0) 256 slices_S512x512_o0_256_S512x128)
      (grpA x3 x4 (cols x0 x1 x2 0 inb_S1024x6656_S1024x512_0_0) 384 slices_S512x512_o0_384_S512x128)
      (fun r n => turn (at512 0 (by decide) (tileProj x0 x1 x2 r)) (s r) n)
      (fun r l => grpA_apply x0 x1 x2 hT 0 0 (by decide) rfl (by decide) _ _ r l) (fun r l => grpA_apply x0 x1 x2 hT 128 0 (by decide) rfl (by decide) _ _ r l)
      (fun r l => grpA_apply x0 x1 x2 hT 256 0 (by decide) rfl (by decide) _ _ r l) (fun r l => grpA_apply x0 x1 x2 hT 384 0 (by decide) rfl (by decide) _ _ r l)
      n r) i n r

theorem out8_apply (i : Fin 2) (r : Fin 256) (n : Fin 512) :
    out0_8 x0 x1 x2 x3 x4 x5 x6 (ix4 0 i r n) = turn (at512 512 (by decide) (tileProj x0 x1 x2 (trow i r))) (s (trow i r)) n :=
  keys_apply (fun r n => turn (at512 512 (by decide) (tileProj x0 x1 x2 r)) (s r) n)
    (truncf .bf16 (grpA x3 x4 (cols x0 x1 x2 512 inb_S1024x6656_S1024x512_0_512) 0 slices_S512x512_o0_0_S512x128) bitsLt_bf16_f32)
    (truncf .bf16 (grpA x3 x4 (cols x0 x1 x2 512 inb_S1024x6656_S1024x512_0_512) 128 slices_S512x512_o0_128_S512x128) bitsLt_bf16_f32)
    (truncf .bf16 (grpA x3 x4 (cols x0 x1 x2 512 inb_S1024x6656_S1024x512_0_512) 256 slices_S512x512_o0_256_S512x128) bitsLt_bf16_f32)
    (truncf .bf16 (grpA x3 x4 (cols x0 x1 x2 512 inb_S1024x6656_S1024x512_0_512) 384 slices_S512x512_o0_384_S512x128) bitsLt_bf16_f32)
    (fun r l => grpA_apply x0 x1 x2 hT 0 512 (by decide) rfl (by decide) _ _ r l) (fun r l => grpA_apply x0 x1 x2 hT 128 512 (by decide) rfl (by decide) _ _ r l)
    (fun r l => grpA_apply x0 x1 x2 hT 256 512 (by decide) rfl (by decide) _ _ r l) (fun r l => grpA_apply x0 x1 x2 hT 384 512 (by decide) rfl (by decide) _ _ r l)
    i r n

theorem out10_apply (r n : Fin 512) :
    out0_10 x0 x1 x2 x3 x4 x5 x6 (ix3 0 r n) = turnR (at512 1536 (by decide) (tileProj x0 x1 x2 r)) (s r) n :=
  groups_apply (fun r n => turnR (at512 1536 (by decide) (tileProj x0 x1 x2 r)) (s r) n)
    (grpR x5 x6 (cols x0 x1 x2 1536 inb_S1024x6656_S1024x512_0_1536) 0 slices_S512x512_o0_0_S512x128)
    (grpR x5 x6 (cols x0 x1 x2 1536 inb_S1024x6656_S1024x512_0_1536) 128 slices_S512x512_o0_128_S512x128)
    (grpR x5 x6 (cols x0 x1 x2 1536 inb_S1024x6656_S1024x512_0_1536) 256 slices_S512x512_o0_256_S512x128)
    (grpR x5 x6 (cols x0 x1 x2 1536 inb_S1024x6656_S1024x512_0_1536) 384 slices_S512x512_o0_384_S512x128)
    (fun r l => grpR_apply x0 x1 x2 hT 0 1536 (by decide) rfl (by decide) _ _ r l) (fun r l => grpR_apply x0 x1 x2 hT 128 1536 (by decide) rfl (by decide) _ _ r l)
    (fun r l => grpR_apply x0 x1 x2 hT 256 1536 (by decide) rfl (by decide) _ _ r l) (fun r l => grpR_apply x0 x1 x2 hT 384 1536 (by decide) rfl (by decide) _ _ r l)
    r n

theorem grpRs_apply (o c : Nat) (ho : o ≤ 384) (h128 : o % 128 = 0) (hc : c ≤ 6144) (hs : S512x512.Slices ![0, o] S512x128)
    (inb : ∀ a, (![0, c] : Fin 2 → Nat) a + S1024x512.size a ≤ S1024x6656.size a) (r : Fin 512) (l : Fin 128) :
    scaled (grpR x5 x6 (cols x0 x1 x2 c inb) o hs) (ix2 r l)
      = turnR (at512 c hc (tileProj x0 x1 x2 r)) (s r) ⟨o + l, by omega⟩ * Ideal.ofBits .f32 0x3DB504F3#32 :=
  (scaled_apply _ r l).trans (congrArg (· * Ideal.ofBits .f32 0x3DB504F3#32) (grpR_apply x0 x1 x2 hT o c ho h128 hc hs inb r l))

theorem out11_apply (r n : Fin 512) :
    out0_11 x0 x1 x2 x3 x4 x5 x6 (ix3 0 r n)
      = turnR (at512 2048 (by decide) (tileProj x0 x1 x2 r)) (s r) n * Ideal.ofBits .f32 0x3DB504F3#32 :=
  groups_apply (fun r n => turnR (at512 2048 (by decide) (tileProj x0 x1 x2 r)) (s r) n * Ideal.ofBits .f32 0x3DB504F3#32)
    (scaled (grpR x5 x6 (cols x0 x1 x2 2048 inb_S1024x6656_S1024x512_0_2048) 0 slices_S512x512_o0_0_S512x128))
    (scaled (grpR x5 x6 (cols x0 x1 x2 2048 inb_S1024x6656_S1024x512_0_2048) 128 slices_S512x512_o0_128_S512x128))
    (scaled (grpR x5 x6 (cols x0 x1 x2 2048 inb_S1024x6656_S1024x512_0_2048) 256 slices_S512x512_o0_256_S512x128))
    (scaled (grpR x5 x6 (cols x0 x1 x2 2048 inb_S1024x6656_S1024x512_0_2048) 384 slices_S512x512_o0_384_S512x128))
    (fun r l => grpRs_apply x0 x1 x2 hT 0 2048 (by decide) rfl (by decide) _ _ r l) (fun r l => grpRs_apply x0 x1 x2 hT 128 2048 (by decide) rfl (by decide) _ _ r l)
    (fun r l => grpRs_apply x0 x1 x2 hT 256 2048 (by decide) rfl (by decide) _ _ r l) (fun r l => grpRs_apply x0 x1 x2 hT 384 2048 (by decide) rfl (by decide) _ _ r l)
    r n

omit hT

theorem out9_apply (i : Fin 2) (r : Fin 256) (n : Fin 512) :
    out0_9 x0 x1 x2 x3 x4 x5 x6 (ix4 0 i r n) = at512 1024 (by decide) (tileProj x0 x1 x2 (trow i r)) n :=
  values_apply (fun r n => at512 1024 (by decide) (tileProj x0 x1 x2 r) n)
    (prodV (rows x0 x1) (View.ld x2 r0_16)) (prodV (rows x0 x1) (View.ld x2 r0_19))
    (fun r l => (prodV_apply x0 x1 x2 1024 (by decide) _ r l).trans (congrArg _ (Fin.ext (by simp only; omega))))
    (fun r l => (prodV_apply x0 x1 x2 1280 (by decide) _ r l).trans (congrArg _ (Fin.ext (by simp only; omega)))) i r n

theorem cols_apply (c : Nat) (hc : c ≤ 6144) (inb : ∀ a, (![0, c] : Fin 2 → Nat) a + S1024x512.size a ≤ S1024x6656.size a) (r l : Fin 512) :
    cols x0 x1 x2 c inb (ix2 r l) = tileProj x0 x1 x2 r ⟨c + l, by omega⟩ := prod_apply x0 x1 x2 c hc inb r l

theorem out12_apply (r : Fin 512) (n : Fin 1024) :
    out0_12 x0 x1 x2 x3 x4 x5 x6 (ix3 0 r n) = tileProj x0 x1 x2 r ⟨2560 + n, by omega⟩ :=
  wide_apply (fun r n => tileProj x0 x1 x2 r ⟨2560 + n, by omega⟩)
    (cols x0 x1 x2 2560 inb_S1024x6656_S1024x512_0_2560) (cols x0 x1 x2 3072 inb_S1024x6656_S1024x512_0_3072)
    (fun r l => (cols_apply x0 x1 x2 2560 (by decide) _ r l).trans (congrArg _ (Fin.ext (by simp only; omega))))
    (fun r l => (cols_apply x0 x1 x2 3072 (by decide) _ r l).trans (congrArg _ (Fin.ext (by simp only; omega)))) r n

theorem gated_apply (P : FVec Ideal S512x512 .f32) (r l : Fin 512) (z : EReal) (h : P (ix2 r l) = z) : logistic P (ix2 r l) = gate z := by
  rw [← h]
  rfl

theorem sgated_apply (P : FVec Ideal S512x512 .f32) (r l : Fin 512) (z : EReal) (h : P (ix2 r l) = z) :
    mulf P (logistic P) (ix2 r l) = z * gate z := by
  rw [← h]
  rfl

theorem out13_apply (r : Fin 512) (n : Fin 1024) :
    out0_13 x0 x1 x2 x3 x4 x5 x6 (ix3 0 r n)
      = tileProj x0 x1 x2 r ⟨3584 + n, by omega⟩ * gate (tileProj x0 x1 x2 r ⟨3584 + n, by omega⟩) :=
  wide_apply (fun r n => tileProj x0 x1 x2 r ⟨3584 + n, by omega⟩ * gate (tileProj x0 x1 x2 r ⟨3584 + n, by omega⟩))
    (mulf (cols x0 x1 x2 3584 inb_S1024x6656_S1024x512_0_3584) (logistic (cols x0 x1 x2 3584 inb_S1024x6656_S1024x512_0_3584)))
    (mulf (cols x0 x1 x2 4096 inb_S1024x6656_S1024x512_0_4096) (logistic (cols x0 x1 x2 4096 inb_S1024x6656_S1024x512_0_4096)))
    (fun r l => sgated_apply _ r l _ ((cols_apply x0 x1 x2 3584 (by decide) _ r l).trans (congrArg _ (Fin.ext (by simp only; omega)))))
    (fun r l => sgated_apply _ r l _ ((cols_apply x0 x1 x2 4096 (by decide) _ r l).trans (congrArg _ (Fin.ext (by simp only; omega))))) r n

theorem out14_apply (r : Fin 512) (n : Fin 1024) :
    out0_14 x0 x1 x2 x3 x4 x5 x6 (ix3 0 r n) = gate (tileProj x0 x1 x2 r ⟨4608 + n, by omega⟩) :=
  wide_apply (fun r n => gate (tileProj x0 x1 x2 r ⟨4608 + n, by omega⟩))
    (logistic (cols x0 x1 x2 4608 inb_S1024x6656_S1024x512_0_4608)) (logistic (cols x0 x1 x2 5120 inb_S1024x6656_S1024x512_0_5120))
    (fun r l => gated_apply _ r l _ ((cols_apply x0 x1 x2 4608 (by decide) _ r l).trans (congrArg _ (Fin.ext (by simp only; omega)))))
    (fun r l => gated_apply _ r l _ ((cols_apply x0 x1 x2 5120 (by decide) _ r l).trans (congrArg _ (Fin.ext (by simp only; omega))))) r n

theorem out15_apply (r : Fin 512) (n : Fin 1024) :
    out0_15 x0 x1 x2 x3 x4 x5 x6 (ix3 0 r n) = gate (tileProj x0 x1 x2 r ⟨5632 + n, by omega⟩) :=
  wide_apply (fun r n => gate (tileProj x0 x1 x2 r ⟨5632 + n, by omega⟩))
    (logistic (cols x0 x1 x2 5632 inb_S1024x6656_S1024x512_0_5632)) (logistic (cols x0 x1 x2 6144 inb_S1024x6656_S1024x512_0_6144))
    (fun r l => gated_apply _ r l _ ((cols_apply x0 x1 x2 5632 (by decide) _ r l).trans (congrArg _ (Fin.ext (by simp only; omega)))))
    (fun r l => gated_apply _ r l _ ((cols_apply x0 x1 x2 6144 (by decide) _ r l).trans (congrArg _ (Fin.ext (by simp only; omega))))) r n

end Cert.Kernel3Ideal.Inp
-- ==== Proof.Inp.Tables.lean ====
/- The tables the input projection's host part makes, read at one index. -/
module

public import proofs.«01_k».proof.Proof.Inp.Outs

@[expose] public section

set_option maxRecDepth 16384

noncomputable section

namespace Cert.Kernel3Ideal.Inp

open Cert.Kernel3Ideal Cert.Kernel3Ideal.Gen Idealize.ShloMosaic Idealize.ShloMosaic.TcCoe Idealize.SL.Sem
open Cert.Inp

/-- The angles of the heads of 64. -/
def anglesA : FVec Ideal S4096x32 .f32 :=
  mulf
    (broadcastInDim S4096x32 ![0, 1] bcast_S4096x1_S4096x32_0_1
      (broadcastInDim S4096x1 ![0] bcast_S4096_S4096x1_0 (sitofp .f32 (iotaInDim S4096 32 0))))
    (broadcastInDim S4096x32 ![0, 1] bcast_S1x32_S4096x32_0_1
      (broadcastInDim S1x32 ![1] bcast_S32_S1x32_1
        (Host.powf (broadcastInDim S32 ![] bcast_S_S32 (constant S_ .f32 0x461C4000#32))
          (Host.divf
            (Host.negf
              (addf (broadcastInDim S32 ![] bcast_S_S32 (constant S_ .f32 0x00000000#32))
                (mulf (broadcastInDim S32 ![] bcast_S_S32 (constant S_ .f32 0x40000000#32))
                  (sitofp .f32 (iotaInDim S32 32 0)))))
            (broadcastInDim S32 ![] bcast_S_S32 (constant S_ .f32 0x42800000#32))))))

theorem anglesA_apply (s : Fin 4096) (j : Fin 32) : anglesA (ix2 s j) = angle s j := by
  unfold anglesA angle pos
  pointwise

/-- The even steps from nought to one. -/
def steps : FVec Ideal S64 .f32 :=
  concatenate S64 0
    [⟨S63, addf
        (mulf (broadcastInDim S63 ![0] bcast_S1_S63_0 (shapeCast S1 (constant S_ .f32 0x00000000#32 : FVec Ideal S_ .f32) shapeCasts_S_S1))
          (subf (broadcastInDim S63 ![] bcast_S_S63 (constant S_ .f32 0x3F800000#32))
            (Host.divf (sitofp .f32 (iotaInDim S63 32 0)) (broadcastInDim S63 ![] bcast_S_S63 (constant S_ .f32 0x427C0000#32)))))
        (mulf (broadcastInDim S63 ![0] bcast_S1_S63_0 (shapeCast S1 (constant S_ .f32 0x3F800000#32 : FVec Ideal S_ .f32) shapeCasts_S_S1))
          (Host.divf (sitofp .f32 (iotaInDim S63 32 0)) (broadcastInDim S63 ![] bcast_S_S63 (constant S_ .f32 0x427C0000#32))))⟩,
      ⟨S1, broadcastInDim S1 ![] bcast_S_S1 (constant S_ .f32 0x3F800000#32)⟩]
    concatenates_S63_S1_S64_d0

/-- The angles of the heads of 128. -/
def anglesR : FVec Ideal S4096x64 .f32 :=
  mulf
    (broadcastInDim S4096x64 ![0, 1] bcast_S4096x1_S4096x64_0_1
      (broadcastInDim S4096x1 ![0] bcast_S4096_S4096x1_0 (sitofp .f32 (iotaInDim S4096 32 0))))
    (broadcastInDim S4096x64 ![0, 1] bcast_S1x64_S4096x64_0_1
      (broadcastInDim S1x64 ![1] bcast_S64_S1x64_1
        (Host.divf (broadcastInDim S64 ![] bcast_S_S64 (constant S_ .f32 0x3F800000#32))
          (Host.powf (broadcastInDim S64 ![] bcast_S_S64 (constant S_ .f32 0x461C4000#32)) steps))))

theorem anglesR_apply (s : Fin 4096) (j : Fin 64) : anglesR (ix2 s j) = angleR s j := by
  unfold anglesR steps angleR pos
  pointwise
  try rfl

/-- A table's columns for each of four heads' halves. -/
theorem cosines_apply (T : FVec Ideal S4096x32 .f32) (s : Fin 4096) (l : Fin 128) :
    shapeCast S4096x128 (broadcastInDim S1x4096x4x32 ![0, 1, 2, 3] bcast_S1x4096x1x32_S1x4096x4x32_0_1_2_3
      (shapeCast S1x4096x1x32 T shapeCasts_S4096x32_S1x4096x1x32)) shapeCasts_S1x4096x4x32_S4096x128 (ix2 s l)
    = T (ix2 s ⟨l % 32, by omega⟩) := by
  pointwise

theorem sines_apply (T U : FVec Ideal S4096x32 .f32) (s : Fin 4096) (l : Fin 128) :
    shapeCast S4096x128 (broadcastInDim S1x4096x2x64 ![0, 1, 2, 3] bcast_S1x4096x1x64_S1x4096x2x64_0_1_2_3
      (shapeCast S1x4096x1x64 (concatenate S4096x64 1 [⟨S4096x32, T⟩, ⟨S4096x32, U⟩] concatenates_S4096x32_S4096x32_S4096x64_d1)
        shapeCasts_S4096x64_S1x4096x1x64)) shapeCasts_S1x4096x2x64_S4096x128 (ix2 s l)
    = if l.val % 64 < 32 then T (ix2 s ⟨l % 32, by omega⟩) else U (ix2 s ⟨l % 32, by omega⟩) := by
  pointwise
  by_cases h : l.val % 64 < 32
  · have e : l.val % 64 = l.val % 32 := by omega
    refine (dif_pos h).trans (Eq.trans ?_ (if_pos h).symm)
    simp only [e]
  · have e : l.val % 64 - 32 = l.val % 32 := by omega
    refine (dif_neg h).trans (Eq.trans ?_ (if_neg h).symm)
    simp only [e]

theorem pairs_apply (T : FVec Ideal S4096x64 .f32) (s : Fin 4096) (l : Fin 128) :
    shapeCast S4096x128 (broadcastInDim S4096x64x2 ![0, 1] bcast_S4096x64_S4096x64x2_0_1 T) shapeCasts_S4096x64x2_S4096x128 (ix2 s l)
    = T (ix2 s ⟨l / 2, by omega⟩) := by
  pointwise

theorem signs_apply (T U : FVec Ideal S4096x64 .f32) (s : Fin 4096) (l : Fin 128) :
    shapeCast S4096x128 (concatenate S4096x64x2 2
      [⟨S4096x64x1, broadcastInDim S4096x64x1 ![0, 1] bcast_S4096x64_S4096x64x1_0_1 T⟩,
        ⟨S4096x64x1, broadcastInDim S4096x64x1 ![0, 1] bcast_S4096x64_S4096x64x1_0_1 U⟩]
      concatenates_S4096x64x1_S4096x64x1_S4096x64x2_d2) shapeCasts_S4096x64x2_S4096x128 (ix2 s l)
    = if l.val % 2 = 0 then T (ix2 s ⟨l / 2, by omega⟩) else U (ix2 s ⟨l / 2, by omega⟩) := by
  pointwise
  by_cases h : l.val % 2 = 0
  · exact (dif_pos (by omega)).trans (if_pos h).symm
  · exact (dif_neg (by omega)).trans (if_neg h).symm

variable (m : (ℓ : Loc nD τ sig) → Buf (Elt Ideal) ℓ) (c : Dev nD)

theorem ca_apply (s : Fin 4096) (l : Fin 128) : V m c main_v20 (ix2 s l) = Ideal.cos (angle s ⟨l % 32, by omega⟩) := by
  simp only [V, hostOps0, hostOps0_1, hostOps0_2, List.flatten_cons, List.flatten_nil, List.append_nil, List.cons_append, List.nil_append]
  entry_read
  exact (cosines_apply (Host.cos anglesA) s l).trans (congrArg Ideal.cos (anglesA_apply _ _))

theorem sa_apply (s : Fin 4096) (l : Fin 128) : V m c main_v25 (ix2 s l)
    = if l.val % 64 < 32 then -Ideal.sin (angle s ⟨l % 32, by omega⟩) else Ideal.sin (angle s ⟨l % 32, by omega⟩) := by
  simp only [V, hostOps0, hostOps0_1, hostOps0_2, List.flatten_cons, List.flatten_nil, List.append_nil, List.cons_append, List.nil_append]
  entry_read
  refine (sines_apply (Host.negf (Host.sin anglesA)) (Host.sin anglesA) s l).trans ?_
  have e : Host.sin anglesA (ix2 s ⟨l % 32, by omega⟩) = Ideal.sin (angle s ⟨l % 32, by omega⟩) := congrArg Ideal.sin (anglesA_apply _ _)
  rw [← e]
  rfl

theorem cr_apply (s : Fin 4096) (l : Fin 128) : V m c main_v39 (ix2 s l) = Ideal.cos (angleR s ⟨l / 2, by omega⟩) := by
  simp only [V, hostOps0, hostOps0_1, hostOps0_2, List.flatten_cons, List.flatten_nil, List.append_nil, List.cons_append, List.nil_append]
  entry_read
  exact (pairs_apply (Host.cos anglesR) s l).trans (congrArg Ideal.cos (anglesR_apply _ _))

theorem sr_apply (s : Fin 4096) (l : Fin 128) : V m c main_v44 (ix2 s l)
    = if l.val % 2 = 0 then -Ideal.sin (angleR s ⟨l / 2, by omega⟩) else Ideal.sin (angleR s ⟨l / 2, by omega⟩) := by
  simp only [V, hostOps0, hostOps0_1, hostOps0_2, List.flatten_cons, List.flatten_nil, List.append_nil, List.cons_append, List.nil_append]
  entry_read
  refine (signs_apply (Host.negf (Host.sin anglesR)) (Host.sin anglesR) s l).trans ?_
  have e : Host.sin anglesR (ix2 s ⟨l / 2, by omega⟩) = Ideal.sin (angleR s ⟨l / 2, by omega⟩) := congrArg Ideal.sin (anglesR_apply _ _)
  rw [← e]
  rfl

end Cert.Kernel3Ideal.Inp
-- ==== Proof.Inp.RefTables.lean ====
/- The input projection's reference: its product and its angles at one index. -/
module

public import proofs.«01_k».proof.Proof.Gen.Reference3Ideal.Run
public import proofs.«01_k».proof.Proof.Inp.Spec

@[expose] public section

set_option maxRecDepth 16384

noncomputable section

namespace Cert.Reference3Ideal.Inp

open Cert.Reference3Ideal Cert.Reference3Ideal.Gen Cert.Reference3Ideal.Value Idealize.ShloMosaic Idealize.ShloMosaic.TcCoe Idealize.SL.Sem
open Cert.Inp

variable (V0 : Valuation τ sig (Elt Ideal))

/-- The call's arguments from its arrays. -/
def argsOf (x : FVec Ideal S4x4096x1024 .f32) (mod : FVec Ideal S4x1x6144 .f32) (w : FVec Ideal S1024x6656 .f32) : Args where
  x b s k := x (ix3 b s k)
  mod b k := mod (ix3 b 0 k)
  w k n := w (ix2 k n)

/-- A device's arguments. -/
def args : Args := argsOf (V0 (Proc.devRef .tc main_arg0)) (V0 (Proc.devRef .tc main_arg1)) (V0 (Proc.devRef .tc main_arg2))

theorem angle_apply (s : Fin 4096) (j : Fin 32) : res_main_v35 V0 (ix2 s j) = angle s j := by
  unfold res_main_v35 res_main_v18 angle pos
  pointwise

theorem angleK_apply (s : Fin 4096) (j : Fin 32) : res_main_v73 V0 (ix2 s j) = angle s j := angle_apply V0 s j

theorem angleR_apply (s : Fin 4096) (j : Fin 64) : res_main_v106 V0 (ix2 s j) = angleR s j := by
  unfold res_main_v106 res_main_v18 res_main_call0_v6 res_main_call0_v1 res_main_call0_v0 angleR pos
  simp only [id_eq]
  pointwise
  rfl

theorem angleRK_apply (s : Fin 4096) (j : Fin 64) : res_main_v145 V0 (ix2 s j) = angleR s j := angleR_apply V0 s j

theorem proj_apply (b : Fin 4) (s : Fin 4096) (n : Fin 6656) : res_main_v8 V0 (ix3 b s n) = proj (args V0) b s n := by
  unfold res_main_v8 proj product args argsOf
  pointwise

/-- Heads of 64 of the part that starts at `o`. -/
theorem half0_apply (b : Fin 4) (h : Fin 8) (s : Fin 4096) (j : Fin 32) :
    res_main_v38 V0 (ix4 b h s j) = at512 0 (by decide) (proj (args V0) b s) ⟨h * 64 + j, by omega⟩ := by
  unfold res_main_v38 res_main_v20 at512
  pointwise [proj_apply]

theorem half1_apply (b : Fin 4) (h : Fin 8) (s : Fin 4096) (j : Fin 32) :
    res_main_v39 V0 (ix4 b h s j) = at512 0 (by decide) (proj (args V0) b s) ⟨h * 64 + (32 + j), by omega⟩ := by
  unfold res_main_v39 res_main_v20 at512
  pointwise [proj_apply]

theorem khalf0_apply (b : Fin 4) (h : Fin 8) (s : Fin 4096) (j : Fin 32) :
    res_main_v76 V0 (ix4 b h s j) = at512 512 (by decide) (proj (args V0) b s) ⟨h * 64 + j, by omega⟩ := by
  unfold res_main_v76 res_main_v58 at512
  pointwise [proj_apply]

theorem khalf1_apply (b : Fin 4) (h : Fin 8) (s : Fin 4096) (j : Fin 32) :
    res_main_v77 V0 (ix4 b h s j) = at512 512 (by decide) (proj (args V0) b s) ⟨h * 64 + (32 + j), by omega⟩ := by
  unfold res_main_v77 res_main_v58 at512
  pointwise [proj_apply]

theorem cos_apply (s : Fin 4096) (j : Fin 32) : res_main_v36 V0 (ix2 s j) = Ideal.cos (angle s j) := by
  unfold res_main_v36
  pointwise [angle_apply]

theorem sin_apply (s : Fin 4096) (j : Fin 32) : res_main_v37 V0 (ix2 s j) = Ideal.sin (angle s j) := by
  unfold res_main_v37
  pointwise [angle_apply]

theorem even_apply (b : Fin 4) (h : Fin 4) (s : Fin 4096) (j : Fin 64) :
    res_main_v111 V0 (ix4 b h s j) = at512 1536 (by decide) (proj (args V0) b s) ⟨h * 128 + j * 2, by omega⟩ := by
  unfold res_main_v111 res_main_v109 at512
  pointwise [proj_apply]

theorem odd_apply (b : Fin 4) (h : Fin 4) (s : Fin 4096) (j : Fin 64) :
    res_main_v113 V0 (ix4 b h s j) = at512 1536 (by decide) (proj (args V0) b s) ⟨h * 128 + (j * 2 + 1), by omega⟩ := by
  unfold res_main_v113 res_main_v109 at512
  pointwise [proj_apply]

theorem keven_apply (b : Fin 4) (h : Fin 4) (s : Fin 4096) (j : Fin 64) :
    res_main_v150 V0 (ix4 b h s j) = at512 2048 (by decide) (proj (args V0) b s) ⟨h * 128 + j * 2, by omega⟩ := by
  unfold res_main_v150 res_main_v148 at512
  pointwise [proj_apply]

theorem kodd_apply (b : Fin 4) (h : Fin 4) (s : Fin 4096) (j : Fin 64) :
    res_main_v152 V0 (ix4 b h s j) = at512 2048 (by decide) (proj (args V0) b s) ⟨h * 128 + (j * 2 + 1), by omega⟩ := by
  unfold res_main_v152 res_main_v148 at512
  pointwise [proj_apply]

theorem cosR_apply (s : Fin 4096) (j : Fin 64) : res_main_v107 V0 (ix2 s j) = Ideal.cos (angleR s j) := by
  unfold res_main_v107
  pointwise [angleR_apply]

theorem sinR_apply (s : Fin 4096) (j : Fin 64) : res_main_v108 V0 (ix2 s j) = Ideal.sin (angleR s j) := by
  unfold res_main_v108
  pointwise [angleR_apply]

theorem kcos_apply (s : Fin 4096) (j : Fin 32) : res_main_v74 V0 (ix2 s j) = Ideal.cos (angle s j) := by
  unfold res_main_v74
  pointwise [angleK_apply]

theorem ksin_apply (s : Fin 4096) (j : Fin 32) : res_main_v75 V0 (ix2 s j) = Ideal.sin (angle s j) := by
  unfold res_main_v75
  pointwise [angleK_apply]

theorem kcosR_apply (s : Fin 4096) (j : Fin 64) : res_main_v146 V0 (ix2 s j) = Ideal.cos (angleR s j) := by
  unfold res_main_v146
  pointwise [angleRK_apply]

theorem ksinR_apply (s : Fin 4096) (j : Fin 64) : res_main_v147 V0 (ix2 s j) = Ideal.sin (angleR s j) := by
  unfold res_main_v147
  pointwise [angleRK_apply]

end Cert.Reference3Ideal.Inp
-- ==== Proof.Inp.Tiles.lean ====
/- The blocks a grid point of the input projection reads are a tile of its sequence, and the places of those it stores. -/
module

public import proofs.«01_k».proof.Proof.Inp.Tables
public import proofs.«01_k».proof.Proof.Inp.RefTables

@[expose] public section

set_option maxRecDepth 16384

noncomputable section

namespace Cert.Kernel3Ideal.Inp

open Cert.Kernel3Ideal Cert.Kernel3Ideal.Gen Idealize.ShloMosaic Idealize.ShloMosaic.TcCoe Idealize.SL.Sem
open Idealize.ShloMosaic.Pipeline (Dat)
open Cert.Inp

variable (m : (ℓ : Loc nD τ sig) → Buf (Elt Ideal) ℓ) (c : Dev nD)

theorem index_facts : ∀ t : Fin cfg0.N, win0_0.index t = ![t.val / 8, t.val % 8, 0] ∧ win0_1.index t = ![t.val / 8, 0, 0]
    ∧ win0_2.index t = ![0, 0] ∧ win0_3.index t = ![t.val % 8, 0] ∧ win0_4.index t = ![t.val % 8, 0]
    ∧ win0_5.index t = ![t.val % 8, 0] ∧ win0_6.index t = ![t.val % 8, 0]
    ∧ win0_7.index t = ![t.val / 8, t.val % 8, 0, 0] ∧ win0_8.index t = ![t.val / 8, t.val % 8, 0, 0]
    ∧ win0_9.index t = ![t.val / 8, t.val % 8, 0, 0] ∧ win0_10.index t = ![t.val / 8, t.val % 8, 0]
    ∧ win0_11.index t = ![t.val / 8, t.val % 8, 0] ∧ win0_12.index t = ![t.val / 8, t.val % 8, 0]
    ∧ win0_13.index t = ![t.val / 8, t.val % 8, 0] ∧ win0_14.index t = ![t.val / 8, t.val % 8, 0]
    ∧ win0_15.index t = ![t.val / 8, t.val % 8, 0] := by
  show ∀ t : Fin grid0.N, _
  decide +kernel

/-- The sequence of a grid point. -/
def batch (t : Fin cfg0.N) : Fin 4 := ⟨t.val / 8, by have := t.isLt; simp only [show cfg0.N = 32 from rfl] at this; omega⟩

/-- The position of a tile's row. -/
def srow (t : Nat) (R : Fin 512) : Fin 4096 := ⟨t % 8 * 512 + R, by omega⟩

/-- The block of 256 rows. -/
def sblk (t : Nat) (i : Fin 2) : Fin 16 := ⟨t % 8 * 2 + i, by omega⟩

theorem rowOf_sblk (t : Nat) (i : Fin 2) (r : Fin 256) : rowOf (sblk t i) r = srow t (trow i r) := by
  unfold rowOf sblk srow trow
  apply Fin.ext
  simp only
  omega

/-- A device's arguments. -/
def argsAt : Args := Cert.Reference3Ideal.Inp.argsOf (m ((c : Thread nD τ).loc main_arg0)) (m ((c : Thread nD τ).loc main_arg1))
  (m ((c : Thread nD τ).loc main_arg2))

variable (t : Fin cfg0.N)

theorem x_blk (r : Fin 512) (k : Fin 1024) : iblk m c 0 t (ix3 0 r k) = m ((c : Thread nD τ).loc main_arg0) (ix3 (batch t) (srow t.val r) k) := by
  unfold batch srow
  blk_ext [iblk, V_main_arg0, index_facts t]

theorem mod_blk (k : Fin 6144) : iblk m c 1 t (ix3 0 0 k) = m ((c : Thread nD τ).loc main_arg1) (ix3 (batch t) 0 k) := by
  unfold batch
  blk_ext [iblk, V_main_arg1, index_facts t]

theorem w_blk (i : Fin 1024) (k : Fin 6656) : iblk m c 2 t (ix2 i k) = m ((c : Thread nD τ).loc main_arg2) (ix2 i k) := by
  blk_ext [iblk, V_main_arg2, index_facts t]

theorem tileProj_blocks (r : Fin 512) : tileProj (iblk m c 0 t) (iblk m c 1 t) (iblk m c 2 t) r
    = proj (argsAt m c) (batch t) (srow t.val r) := by
  funext n
  unfold tileProj proj argsAt Cert.Reference3Ideal.Inp.argsOf
  simp only [x_blk, mod_blk, w_blk]

theorem ca_blk (r : Fin 512) (l : Fin 128) : iblk m c 3 t (ix2 r l) = V m c main_v20 (ix2 (srow t.val r) l) := by
  unfold srow
  blk_ext [iblk, index_facts t]

theorem sa_blk (r : Fin 512) (l : Fin 128) : iblk m c 4 t (ix2 r l) = V m c main_v25 (ix2 (srow t.val r) l) := by
  unfold srow
  blk_ext [iblk, index_facts t]

theorem cr_blk (r : Fin 512) (l : Fin 128) : iblk m c 5 t (ix2 r l) = V m c main_v39 (ix2 (srow t.val r) l) := by
  unfold srow
  blk_ext [iblk, index_facts t]

theorem sr_blk (r : Fin 512) (l : Fin 128) : iblk m c 6 t (ix2 r l) = V m c main_v44 (ix2 (srow t.val r) l) := by
  unfold srow
  blk_ext [iblk, index_facts t]

theorem tables : Tables (iblk m c 3 t) (iblk m c 4 t) (iblk m c 5 t) (iblk m c 6 t) (srow t.val) :=
  ⟨fun r l => (ca_blk m c t r l).trans (ca_apply m c _ l), fun r l => (sa_blk m c t r l).trans (sa_apply m c _ l),
    fun r l => (cr_blk m c t r l).trans (cr_apply m c _ l), fun r l => (sr_blk m c t r l).trans (sr_apply m c _ l)⟩

/-! ## The places of a grid point's stored blocks -/

theorem place7 (i : Fin 2) (n : Fin 512) (r : Fin 256) :
    ((View.whole main_v45_0).slice (win0_7.rect t)).emb (ix4 0 i n r) = ix4 (batch t) (sblk t.val i) n r := by
  unfold batch sblk
  blk_ext [index_facts t]

theorem place8 (i : Fin 2) (r : Fin 256) (n : Fin 512) :
    ((View.whole main_v45_1).slice (win0_8.rect t)).emb (ix4 0 i r n) = ix4 (batch t) (sblk t.val i) r n := by
  unfold batch sblk
  blk_ext [index_facts t]

theorem place9 (i : Fin 2) (r : Fin 256) (n : Fin 512) :
    ((View.whole main_v45_2).slice (win0_9.rect t)).emb (ix4 0 i r n) = ix4 (batch t) (sblk t.val i) r n := by
  unfold batch sblk
  blk_ext [index_facts t]

theorem place10 (r : Fin 512) (n : Fin 512) :
    ((View.whole main_v45_3).slice (win0_10.rect t)).emb (ix3 0 r n) = ix3 (batch t) (srow t.val r) n := by
  unfold batch srow
  blk_ext [index_facts t]

theorem place11 (r : Fin 512) (n : Fin 512) :
    ((View.whole main_v45_4).slice (win0_11.rect t)).emb (ix3 0 r n) = ix3 (batch t) (srow t.val r) n := by
  unfold batch srow
  blk_ext [index_facts t]

theorem place12 (r : Fin 512) (n : Fin 1024) :
    ((View.whole main_v45_5).slice (win0_12.rect t)).emb (ix3 0 r n) = ix3 (batch t) (srow t.val r) n := by
  unfold batch srow
  blk_ext [index_facts t]

theorem place13 (r : Fin 512) (n : Fin 1024) :
    ((View.whole main_v45_6).slice (win0_13.rect t)).emb (ix3 0 r n) = ix3 (batch t) (srow t.val r) n := by
  unfold batch srow
  blk_ext [index_facts t]

theorem place14 (r : Fin 512) (n : Fin 1024) :
    ((View.whole main_v45_7).slice (win0_14.rect t)).emb (ix3 0 r n) = ix3 (batch t) (srow t.val r) n := by
  unfold batch srow
  blk_ext [index_facts t]

theorem place15 (r : Fin 512) (n : Fin 1024) :
    ((View.whole main_v45_8).slice (win0_15.rect t)).emb (ix3 0 r n) = ix3 (batch t) (srow t.val r) n := by
  unfold batch srow
  blk_ext [index_facts t]

end Cert.Kernel3Ideal.Inp
-- ==== Proof.Inp.Final.lean ====
/- The input projection's result arrays after the run. -/
module

public import proofs.«01_k».proof.Proof.Inp.Tiles

@[expose] public section

set_option maxRecDepth 16384

noncomputable section

namespace Cert.Kernel3Ideal.Inp

open Cert.Kernel3Ideal Cert.Kernel3Ideal.Gen Idealize.ShloMosaic Idealize.ShloMosaic.TcCoe Idealize.SL.Sem
open Idealize.ShloMosaic.Pipeline (Dat)
open Cert.Inp

variable (m : (ℓ : Loc nD τ sig) → Buf (Elt Ideal) ℓ) (c : Dev nD)

/-- The queries. -/
def q : Buf (Elt Ideal) ((c : Thread nD τ).loc main_v45_0) := fun y => qAt (argsAt m c) (y 0) (y 1) (y 2) (y 3)

/-- The keys. -/
def k : Buf (Elt Ideal) ((c : Thread nD τ).loc main_v45_1) := fun y => kAt (argsAt m c) (y 0) (y 1) (y 2) (y 3)

/-- The values. -/
def v : Buf (Elt Ideal) ((c : Thread nD τ).loc main_v45_2) := fun y => vAt (argsAt m c) (y 0) (y 1) (y 2) (y 3)

/-- The retention's queries. -/
def rq : Buf (Elt Ideal) ((c : Thread nD τ).loc main_v45_3) := fun y => rqAt (argsAt m c) (y 0) (y 1) (y 2)

/-- The retention's keys. -/
def rk : Buf (Elt Ideal) ((c : Thread nD τ).loc main_v45_4) := fun y => rkAt (argsAt m c) (y 0) (y 1) (y 2)

/-- The retention's values. -/
def rv : Buf (Elt Ideal) ((c : Thread nD τ).loc main_v45_5) := fun y => rvAt (argsAt m c) (y 0) (y 1) (y 2)

/-- The retention's gate. -/
def sg : Buf (Elt Ideal) ((c : Thread nD τ).loc main_v45_6) := fun y => sgAt (argsAt m c) (y 0) (y 1) (y 2)

/-- The first branch's gate. -/
def ga : Buf (Elt Ideal) ((c : Thread nD τ).loc main_v45_7) := fun y => gaAt (argsAt m c) (y 0) (y 1) (y 2)

/-- The second branch's gate. -/
def gr : Buf (Elt Ideal) ((c : Thread nD τ).loc main_v45_8) := fun y => grAt (argsAt m c) (y 0) (y 1) (y 2)

theorem final_q : (dats m 0 c).arrAt 7 cfg0.N = q m c := by
  refine (dats m 0 c).arrAt_eq_of_covers 7 _ (by decide +kernel) fun t hf y => ?_
  blk_simp
  rw [after0_7]
  idx_vars y
  rw [Subsingleton.elim y0 0, place7, show q m c (ix4 (batch t) (sblk t.val y1) y2 y3) = qAt (argsAt m c) (batch t) (sblk t.val y1) y2 y3 from rfl]
  refine (out7_apply (iblk m c 0 t) (iblk m c 1 t) (iblk m c 2 t) (tables m c t) y1 y2 y3).trans ?_
  rw [tileProj_blocks]
  unfold qAt
  simp only [rowOf_sblk]

theorem final_k : (dats m 0 c).arrAt 8 cfg0.N = k m c := by
  refine (dats m 0 c).arrAt_eq_of_covers 8 _ (by decide +kernel) fun t hf y => ?_
  blk_simp
  rw [after0_8]
  idx_vars y
  rw [Subsingleton.elim y0 0, place8, show k m c (ix4 (batch t) (sblk t.val y1) y2 y3) = kAt (argsAt m c) (batch t) (sblk t.val y1) y2 y3 from rfl]
  refine (out8_apply (iblk m c 0 t) (iblk m c 1 t) (iblk m c 2 t) (tables m c t) y1 y2 y3).trans ?_
  rw [tileProj_blocks]
  unfold kAt
  simp only [rowOf_sblk]

theorem final_v : (dats m 0 c).arrAt 9 cfg0.N = v m c := by
  refine (dats m 0 c).arrAt_eq_of_covers 9 _ (by decide +kernel) fun t hf y => ?_
  blk_simp
  rw [after0_9]
  idx_vars y
  rw [Subsingleton.elim y0 0, place9, show v m c (ix4 (batch t) (sblk t.val y1) y2 y3) = vAt (argsAt m c) (batch t) (sblk t.val y1) y2 y3 from rfl]
  refine (out9_apply (iblk m c 0 t) (iblk m c 1 t) (iblk m c 2 t) y1 y2 y3).trans ?_
  rw [tileProj_blocks]
  unfold vAt
  simp only [rowOf_sblk]

theorem final_rq : (dats m 0 c).arrAt 10 cfg0.N = rq m c := by
  refine (dats m 0 c).arrAt_eq_of_covers 10 _ (by decide +kernel) fun t hf y => ?_
  blk_simp
  rw [after0_10]
  idx_vars y
  rw [Subsingleton.elim y0 0, place10, show rq m c (ix3 (batch t) (srow t.val y1) y2) = rqAt (argsAt m c) (batch t) (srow t.val y1) y2 from rfl]
  refine (out10_apply (iblk m c 0 t) (iblk m c 1 t) (iblk m c 2 t) (tables m c t) y1 y2).trans ?_
  rw [tileProj_blocks]
  rfl

theorem final_rk : (dats m 0 c).arrAt 11 cfg0.N = rk m c := by
  refine (dats m 0 c).arrAt_eq_of_covers 11 _ (by decide +kernel) fun t hf y => ?_
  blk_simp
  rw [after0_11]
  idx_vars y
  rw [Subsingleton.elim y0 0, place11, show rk m c (ix3 (batch t) (srow t.val y1) y2) = rkAt (argsAt m c) (batch t) (srow t.val y1) y2 from rfl]
  refine (out11_apply (iblk m c 0 t) (iblk m c 1 t) (iblk m c 2 t) (tables m c t) y1 y2).trans ?_
  rw [tileProj_blocks]
  rfl

theorem final_rv : (dats m 0 c).arrAt 12 cfg0.N = rv m c := by
  refine (dats m 0 c).arrAt_eq_of_covers 12 _ (by decide +kernel) fun t hf y => ?_
  blk_simp
  rw [after0_12]
  idx_vars y
  rw [Subsingleton.elim y0 0, place12, show rv m c (ix3 (batch t) (srow t.val y1) y2) = rvAt (argsAt m c) (batch t) (srow t.val y1) y2 from rfl]
  refine (out12_apply (iblk m c 0 t) (iblk m c 1 t) (iblk m c 2 t) y1 y2).trans ?_
  rw [tileProj_blocks]
  rfl

theorem final_sg : (dats m 0 c).arrAt 13 cfg0.N = sg m c := by
  refine (dats m 0 c).arrAt_eq_of_covers 13 _ (by decide +kernel) fun t hf y => ?_
  blk_simp
  rw [after0_13]
  idx_vars y
  rw [Subsingleton.elim y0 0, place13, show sg m c (ix3 (batch t) (srow t.val y1) y2) = sgAt (argsAt m c) (batch t) (srow t.val y1) y2 from rfl]
  refine (out13_apply (iblk m c 0 t) (iblk m c 1 t) (iblk m c 2 t) y1 y2).trans ?_
  rw [tileProj_blocks]
  rfl

theorem final_ga : (dats m 0 c).arrAt 14 cfg0.N = ga m c := by
  refine (dats m 0 c).arrAt_eq_of_covers 14 _ (by decide +kernel) fun t hf y => ?_
  blk_simp
  rw [after0_14]
  idx_vars y
  rw [Subsingleton.elim y0 0, place14, show ga m c (ix3 (batch t) (srow t.val y1) y2) = gaAt (argsAt m c) (batch t) (srow t.val y1) y2 from rfl]
  refine (out14_apply (iblk m c 0 t) (iblk m c 1 t) (iblk m c 2 t) y1 y2).trans ?_
  rw [tileProj_blocks]
  rfl

theorem final_gr : (dats m 0 c).arrAt 15 cfg0.N = gr m c := by
  refine (dats m 0 c).arrAt_eq_of_covers 15 _ (by decide +kernel) fun t hf y => ?_
  blk_simp
  rw [after0_15]
  idx_vars y
  rw [Subsingleton.elim y0 0, place15, show gr m c (ix3 (batch t) (srow t.val y1) y2) = grAt (argsAt m c) (batch t) (srow t.val y1) y2 from rfl]
  refine (out15_apply (iblk m c 0 t) (iblk m c 1 t) (iblk m c 2 t) y1 y2).trans ?_
  rw [tileProj_blocks]
  rfl

end Cert.Kernel3Ideal.Inp
-- ==== Proof.Inp.RefTurn.lean ====
/- The input projection's reference: the turned heads and the blocks, of any arrays. -/
module

public import proofs.«01_k».proof.Proof.Gen.Reference3Ideal.Run
public import proofs.«01_k».proof.Proof.Inp.Spec

@[expose] public section

set_option maxRecDepth 16384

noncomputable section

namespace Cert.Reference3Ideal.Inp

open Cert.Reference3Ideal Cert.Reference3Ideal.Gen Cert.Reference3Ideal.Value Idealize.ShloMosaic Idealize.ShloMosaic.TcCoe Idealize.SL.Sem
open Cert.Inp

/-- Heads of 64 turned, each head's rows after one another. -/
def turned (p0 p1 : FVec Ideal S4x8x4096x32 .f32) (co si : FVec Ideal S4096x32 .f32) : FVec Ideal S4x4096x512 .f32 :=
  shapeCast S4x4096x512 (transpose S4x4096x8x64 [0, 2, 1, 3] (concatenate S4x8x4096x64 3 [⟨S4x8x4096x32, (subf (mulf p0 (broadcastInDim S4x8x4096x32 ![0, 1, 2, 3] bcast_S1x1x4096x32_S4x8x4096x32_0_1_2_3 (broadcastInDim S1x1x4096x32 ![2, 3] bcast_S4096x32_S1x1x4096x32_2_3 co))) (mulf p1 (broadcastInDim S4x8x4096x32 ![0, 1, 2, 3] bcast_S1x1x4096x32_S4x8x4096x32_0_1_2_3 (broadcastInDim S1x1x4096x32 ![2, 3] bcast_S4096x32_S1x1x4096x32_2_3 si))))⟩, ⟨S4x8x4096x32, (addf (mulf p1 (broadcastInDim S4x8x4096x32 ![0, 1, 2, 3] bcast_S1x1x4096x32_S4x8x4096x32_0_1_2_3 (broadcastInDim S1x1x4096x32 ![2, 3] bcast_S4096x32_S1x1x4096x32_2_3 co))) (mulf p0 (broadcastInDim S4x8x4096x32 ![0, 1, 2, 3] bcast_S1x1x4096x32_S4x8x4096x32_0_1_2_3 (broadcastInDim S1x1x4096x32 ![2, 3] bcast_S4096x32_S1x1x4096x32_2_3 si))))⟩] concatenates_S4x8x4096x32_S4x8x4096x32_S4x8x4096x64_d3) transposes_S4x8x4096x64_S4x4096x8x64_0_2_1_3) shapeCasts_S4x4096x8x64_S4x4096x512

theorem turned_apply (p0 p1 : FVec Ideal S4x8x4096x32 .f32) (co si : FVec Ideal S4096x32 .f32) (p : Fin 512 → EReal)
    (b : Fin 4) (s : Fin 4096) (h0 : ∀ h j, p0 (ix4 b h s j) = p ⟨h * 64 + j, by omega⟩)
    (h1 : ∀ h j, p1 (ix4 b h s j) = p ⟨h * 64 + (32 + j), by omega⟩) (hc : ∀ j, co (ix2 s j) = Ideal.cos (angle s j))
    (hs : ∀ j, si (ix2 s j) = Ideal.sin (angle s j)) (n : Fin 512) :
    turned p0 p1 co si (ix3 b s n) = turn p s n := by
  unfold turned turn
  pointwise
  simp only [h0, h1, hc, hs]
  have hn := n.isLt
  by_cases h : n.val % 64 < 32
  · refine (dif_pos h).trans (Eq.trans ?_ (if_pos h).symm)
    simp only [show n.val % 64 = n.val % 32 by omega, show n.val / 64 * 64 + n.val % 32 = n.val by omega,
      show n.val / 64 * 64 + (32 + n.val % 32) = (n.val + 32) % 512 by omega]
  · refine (dif_neg h).trans (Eq.trans ?_ (if_neg h).symm)
    simp only [show n.val % 64 - 32 = n.val % 32 by omega, show n.val / 64 * 64 + (32 + n.val % 32) = n.val by omega,
      show n.val / 64 * 64 + n.val % 32 = n.val - 32 by omega]

/-- Heads of 128 turned, each head's rows after one another under the head's axis. -/
def turnedR (p0 p1 : FVec Ideal S4x4x4096x64 .f32) (co si : FVec Ideal S4096x64 .f32) : FVec Ideal S4x4x4096x128 .f32 :=
  shapeCast S4x4x4096x128 (concatenate S4x4x4096x64x2 4 [⟨S4x4x4096x64x1, (broadcastInDim S4x4x4096x64x1 ![0, 1, 2, 3] bcast_S4x4x4096x64_S4x4x4096x64x1_0_1_2_3 (subf (mulf p0 (broadcastInDim S4x4x4096x64 ![0, 1, 2, 3] bcast_S1x1x4096x64_S4x4x4096x64_0_1_2_3 (broadcastInDim S1x1x4096x64 ![2, 3] bcast_S4096x64_S1x1x4096x64_2_3 co))) (mulf p1 (broadcastInDim S4x4x4096x64 ![0, 1, 2, 3] bcast_S1x1x4096x64_S4x4x4096x64_0_1_2_3 (broadcastInDim S1x1x4096x64 ![2, 3] bcast_S4096x64_S1x1x4096x64_2_3 si)))))⟩, ⟨S4x4x4096x64x1, (broadcastInDim S4x4x4096x64x1 ![0, 1, 2, 3] bcast_S4x4x4096x64_S4x4x4096x64x1_0_1_2_3 (addf (mulf p1 (broadcastInDim S4x4x4096x64 ![0, 1, 2, 3] bcast_S1x1x4096x64_S4x4x4096x64_0_1_2_3 (broadcastInDim S1x1x4096x64 ![2, 3] bcast_S4096x64_S1x1x4096x64_2_3 co))) (mulf p0 (broadcastInDim S4x4x4096x64 ![0, 1, 2, 3] bcast_S1x1x4096x64_S4x4x4096x64_0_1_2_3 (broadcastInDim S1x1x4096x64 ![2, 3] bcast_S4096x64_S1x1x4096x64_2_3 si)))))⟩] concatenates_S4x4x4096x64x1_S4x4x4096x64x1_S4x4x4096x64x2_d4) shapeCasts_S4x4x4096x64x2_S4x4x4096x128

theorem turnedR_apply (p0 p1 : FVec Ideal S4x4x4096x64 .f32) (co si : FVec Ideal S4096x64 .f32) (p : Fin 512 → EReal)
    (b : Fin 4) (s : Fin 4096) (h0 : ∀ h j, p0 (ix4 b h s j) = p ⟨h * 128 + j * 2, by omega⟩)
    (h1 : ∀ h j, p1 (ix4 b h s j) = p ⟨h * 128 + (j * 2 + 1), by omega⟩) (hc : ∀ j, co (ix2 s j) = Ideal.cos (angleR s j))
    (hs : ∀ j, si (ix2 s j) = Ideal.sin (angleR s j)) (h : Fin 4) (d : Fin 128) :
    turnedR p0 p1 co si (ix4 b h s d) = turnR p s ⟨h * 128 + d, by omega⟩ := by
  unfold turnedR turnR
  pointwise
  simp only [h0, h1, hc, hs]
  have hd := d.isLt
  have hh := h.isLt
  have hm : (h.val * 128 + d.val) % 2 = 0 ↔ d.val % 2 < 1 := by omega
  have e : (h.val * 128 + d.val) % 128 / 2 = d.val / 2 := by omega
  by_cases h' : d.val % 2 < 1
  · refine (dif_pos h').trans (Eq.trans ?_ (if_pos (hm.2 h')).symm)
    simp only [show d.val / 2 * 2 = d.val by omega, e, show (h.val * 128 + d.val + 1) % 512 = h.val * 128 + (d.val + 1) by omega]
  · refine (dif_neg h').trans (Eq.trans ?_ (if_neg (fun z => h' (hm.1 z))).symm)
    simp only [show d.val / 2 * 2 + 1 = d.val by omega, e,
      show h.val * 128 + d.val - 1 = h.val * 128 + d.val / 2 * 2 by omega]

theorem qblocks_apply (T : FVec Ideal S4x4096x512 .f32) (b : Fin 4) (i : Fin 16) (n : Fin 512) (r : Fin 256) :
    truncf .bf16 (transpose S4x16x512x256 [0, 1, 3, 2] (shapeCast S4x16x256x512 (mulf T
      (broadcastInDim S4x4096x512 ![] bcast_S_S4x4096x512 (constant S_ .f32 0x3E38AA3B#32)))
      shapeCasts_S4x4096x512_S4x16x256x512) transposes_S4x16x256x512_S4x16x512x256_0_1_3_2) bitsLt_bf16_f32 (ix4 b i n r)
      = T (ix3 b (rowOf i r) n) * Ideal.ofBits .f32 0x3E38AA3B#32 := by
  unfold rowOf
  pointwise

theorem kblocks_apply (T : FVec Ideal S4x4096x512 .f32) (b : Fin 4) (i : Fin 16) (r : Fin 256) (n : Fin 512) :
    truncf .bf16 (shapeCast S4x16x256x512 T shapeCasts_S4x4096x512_S4x16x256x512) bitsLt_bf16_f32 (ix4 b i r n)
      = T (ix3 b (rowOf i r) n) := by
  unfold rowOf
  pointwise

theorem rqheads_apply (T : FVec Ideal S4x4x4096x128 .f32) (b : Fin 4) (s : Fin 4096) (n : Fin 512) :
    truncf .bf16 (shapeCast S4x4096x512 (transpose S4x4096x4x128 [0, 2, 1, 3] T
      transposes_S4x4x4096x128_S4x4096x4x128_0_2_1_3) shapeCasts_S4x4096x4x128_S4x4096x512) bitsLt_bf16_f32 (ix3 b s n)
      = T (ix4 b ⟨n / 128, by omega⟩ s ⟨n % 128, by omega⟩) := by
  pointwise

theorem rkheads_apply (T : FVec Ideal S4x4x4096x128 .f32) (b : Fin 4) (s : Fin 4096) (n : Fin 512) :
    truncf .bf16 (shapeCast S4x4096x512 (transpose S4x4096x4x128 [0, 2, 1, 3] (mulf T
      (broadcastInDim S4x4x4096x128 ![] bcast_S_S4x4x4096x128 (constant S_ .f32 0x3DB504F3#32)))
      transposes_S4x4x4096x128_S4x4096x4x128_0_2_1_3) shapeCasts_S4x4096x4x128_S4x4096x512) bitsLt_bf16_f32 (ix3 b s n)
      = T (ix4 b ⟨n / 128, by omega⟩ s ⟨n % 128, by omega⟩) * Ideal.ofBits .f32 0x3DB504F3#32 := by
  pointwise

end Cert.Reference3Ideal.Inp
-- ==== Proof.Inp.RefRead.lean ====
/- The input projection's reference read at one index. -/
module

public import proofs.«01_k».proof.Proof.Gen.Reference3Ideal.Run
public import proofs.«01_k».proof.Proof.Inp.RefTurn
public import proofs.«01_k».proof.Proof.Inp.RefTables

@[expose] public section

set_option maxRecDepth 16384

noncomputable section

namespace Cert.Reference3Ideal.Inp

open Cert.Reference3Ideal Cert.Reference3Ideal.Gen Cert.Reference3Ideal.Value Idealize.ShloMosaic Idealize.ShloMosaic.TcCoe Idealize.SL.Sem
open Cert.Inp

variable (V0 : Valuation τ sig (Elt Ideal))

theorem q_apply (b : Fin 4) (i : Fin 16) (n : Fin 512) (r : Fin 256) :
    truncf .bf16 (transpose S4x16x512x256 [0, 1, 3, 2] (shapeCast S4x16x256x512 (mulf (turned (res_main_v38 V0) (res_main_v39 V0)
      (res_main_v36 V0) (res_main_v37 V0)) (broadcastInDim S4x4096x512 ![] bcast_S_S4x4096x512 (constant S_ .f32 0x3E38AA3B#32)))
      shapeCasts_S4x4096x512_S4x16x256x512) transposes_S4x16x256x512_S4x16x512x256_0_1_3_2) bitsLt_bf16_f32 (ix4 b i n r)
      = qAt (args V0) b i n r := by
  refine (qblocks_apply _ b i n r).trans (congrArg (· * Ideal.ofBits .f32 0x3E38AA3B#32) ?_)
  exact turned_apply _ _ _ _ (at512 0 (by decide) (proj (args V0) b (rowOf i r))) b (rowOf i r)
    (fun h j => half0_apply V0 b h _ j) (fun h j => half1_apply V0 b h _ j) (fun j => cos_apply V0 _ j) (fun j => sin_apply V0 _ j) n

theorem k_apply (b : Fin 4) (i : Fin 16) (r : Fin 256) (n : Fin 512) :
    truncf .bf16 (shapeCast S4x16x256x512 (turned (res_main_v76 V0) (res_main_v77 V0) (res_main_v74 V0) (res_main_v75 V0))
      shapeCasts_S4x4096x512_S4x16x256x512) bitsLt_bf16_f32 (ix4 b i r n)
      = kAt (args V0) b i r n := by
  refine (kblocks_apply _ b i r n).trans ?_
  exact turned_apply _ _ _ _ (at512 512 (by decide) (proj (args V0) b (rowOf i r))) b (rowOf i r)
    (fun h j => khalf0_apply V0 b h _ j) (fun h j => khalf1_apply V0 b h _ j) (fun j => kcos_apply V0 _ j) (fun j => ksin_apply V0 _ j) n

theorem v_apply (b : Fin 4) (i : Fin 16) (r : Fin 256) (n : Fin 512) :
    truncf .bf16 (shapeCast S4x16x256x512 (extractStridedSlice S4x4096x512 ![0, 0, 1024] (res_main_v8 V0)
      slices_S4x4096x6656_S4x4096x512_0_0_1024) shapeCasts_S4x4096x512_S4x16x256x512) bitsLt_bf16_f32 (ix4 b i r n)
      = vAt (args V0) b i r n := by
  unfold vAt at512 rowOf
  pointwise [proj_apply]

theorem rq_apply (b : Fin 4) (s : Fin 4096) (n : Fin 512) :
    truncf .bf16 (shapeCast S4x4096x512 (transpose S4x4096x4x128 [0, 2, 1, 3] (turnedR (res_main_v111 V0) (res_main_v113 V0)
      (res_main_v107 V0) (res_main_v108 V0)) transposes_S4x4x4096x128_S4x4096x4x128_0_2_1_3) shapeCasts_S4x4096x4x128_S4x4096x512)
      bitsLt_bf16_f32 (ix3 b s n) = rqAt (args V0) b s n := by
  refine (rqheads_apply _ b s n).trans ?_
  refine (turnedR_apply _ _ _ _ (at512 1536 (by decide) (proj (args V0) b s)) b s (fun h j => even_apply V0 b h _ j)
    (fun h j => odd_apply V0 b h _ j) (fun j => cosR_apply V0 _ j) (fun j => sinR_apply V0 _ j) _ _).trans ?_
  unfold rqAt
  exact congrArg _ (Fin.ext (by simp only; omega))

theorem rk_apply (b : Fin 4) (s : Fin 4096) (n : Fin 512) :
    truncf .bf16 (shapeCast S4x4096x512 (transpose S4x4096x4x128 [0, 2, 1, 3] (mulf (turnedR (res_main_v150 V0) (res_main_v152 V0)
      (res_main_v146 V0) (res_main_v147 V0)) (broadcastInDim S4x4x4096x128 ![] bcast_S_S4x4x4096x128 (constant S_ .f32 0x3DB504F3#32)))
      transposes_S4x4x4096x128_S4x4096x4x128_0_2_1_3) shapeCasts_S4x4096x4x128_S4x4096x512)
      bitsLt_bf16_f32 (ix3 b s n) = rkAt (args V0) b s n := by
  refine (rkheads_apply _ b s n).trans (congrArg (· * Ideal.ofBits .f32 0x3DB504F3#32) ?_)
  refine (turnedR_apply _ _ _ _ (at512 2048 (by decide) (proj (args V0) b s)) b s (fun h j => keven_apply V0 b h _ j)
    (fun h j => kodd_apply V0 b h _ j) (fun j => kcosR_apply V0 _ j) (fun j => ksinR_apply V0 _ j) _ _).trans ?_
  exact congrArg _ (Fin.ext (by simp only; omega))

theorem rv_apply (b : Fin 4) (s : Fin 4096) (n : Fin 1024) :
    truncf .bf16 (extractStridedSlice S4x4096x1024 ![0, 0, 2560] (res_main_v8 V0) slices_S4x4096x6656_S4x4096x1024_0_0_2560)
      bitsLt_bf16_f32 (ix3 b s n) = rvAt (args V0) b s n := by
  unfold rvAt
  pointwise [proj_apply]

/-- The logistic function of an array. -/
def gates (z : FVec Ideal S4x4096x1024 .f32) : FVec Ideal S4x4096x1024 .f32 :=
  Host.divf (broadcastInDim S4x4096x1024 ![] bcast_S_S4x4096x1024 (constant S_ .f32 0x3F800000#32))
    (addf (broadcastInDim S4x4096x1024 ![] bcast_S_S4x4096x1024 (constant S_ .f32 0x3F800000#32)) (Host.exp (Host.negf z)))

theorem sg_apply (b : Fin 4) (s : Fin 4096) (n : Fin 1024) :
    truncf .bf16 (mulf (res_main_v15 V0) (gates (res_main_v15 V0))) bitsLt_bf16_f32 (ix3 b s n) = sgAt (args V0) b s n := by
  unfold sgAt gate gates res_main_v15
  pointwise [proj_apply]

theorem ga_apply (b : Fin 4) (s : Fin 4096) (n : Fin 1024) :
    truncf .bf16 (gates (extractStridedSlice S4x4096x1024 ![0, 0, 4608] (res_main_v8 V0) slices_S4x4096x6656_S4x4096x1024_0_0_4608))
      bitsLt_bf16_f32 (ix3 b s n) = gaAt (args V0) b s n := by
  unfold gaAt gate gates
  pointwise [proj_apply]

theorem gr_apply (b : Fin 4) (s : Fin 4096) (n : Fin 1024) :
    truncf .bf16 (gates (extractStridedSlice S4x4096x1024 ![0, 0, 5632] (res_main_v8 V0) slices_S4x4096x6656_S4x4096x1024_0_0_5632))
      bitsLt_bf16_f32 (ix3 b s n) = grAt (args V0) b s n := by
  unfold grAt gate gates
  pointwise [proj_apply]

end Cert.Reference3Ideal.Inp
-- ==== Proof.Inp.Claim.lean ====
/- The input projection: the kernel's and the reference's results are the same arrays. -/
module

public import proofs.«01_k».proof.Defs
public import proofs.«01_k».proof.Proof.Gen.Reference3Ideal
public import proofs.«01_k».proof.Proof.Gen.Kernel3Ideal
public import proofs.«01_k».proof.Proof.Inp.Final
public import proofs.«01_k».proof.Proof.Inp.RefRead

@[expose] public section

set_option maxRecDepth 16384

noncomputable section

namespace Cert.Proof.Inp

open Idealize.ShloMosaic Idealize.SL.Sem
open Cert.Kernel3Ideal.Inp

theorem algebraic : Cert.algebraic_Kernel3Ideal_Reference3Ideal (hKernel3Ideal := Cert.Kernel3Ideal.Gen.facts)
    (hReference3Ideal := Cert.Reference3Ideal.Gen.facts) := by
  intro m g m' g' _ hargs
  refine ⟨fun c => q m c, fun c => k m c, fun c => v m c, fun c => rq m c, fun c => rk m c, fun c => rv m c, fun c => sg m c,
    fun c => ga m c, fun c => gr m c, ?_, ?_⟩
  · refine (θ_run (Cert.Kernel3Ideal.defs (F := Ideal)) _ _).mono (fun r h c => ?_) (Cert.Kernel3Ideal.Value.run_blocks (F := Ideal) m g)
    obtain ⟨h0, h1, h2, h3, h4, h5, h6, h7, h8, hr⟩ := h c
    exact ⟨h0.trans (final_q m c), h1.trans (final_k m c), h2.trans (final_v m c), h3.trans (final_rq m c), h4.trans (final_rk m c),
      h5.trans (final_rv m c), h6.trans (final_sg m c), h7.trans (final_ga m c), h8.trans (final_gr m c), hr⟩
  · refine (θ_run (Cert.Reference3Ideal.defs (F := Ideal)) _ _).mono (fun r h c => ?_)
      (Cert.Reference3Ideal.Value.run (F := Ideal) m' g')
    have hA : Cert.Reference3Ideal.Inp.args (StableHlo.launchContents m' c) = argsAt m c := by
      obtain ⟨h0, h1, h2⟩ := hargs c
      unfold argsAt
      rw [← h0, ← h1, ← h2]
      rfl
    obtain ⟨h0, h1, h2, h3, h4, h5, h6, h7, h8, hr⟩ := h c
    refine ⟨h0.trans ?_, h1.trans ?_, h2.trans ?_, h3.trans ?_, h4.trans ?_, h5.trans ?_, h6.trans ?_, h7.trans ?_, h8.trans ?_, hr⟩
    · funext i
      idx_vars i
      refine (Cert.Reference3Ideal.Inp.q_apply (StableHlo.launchContents m' c) i0 i1 i2 i3).trans ?_
      rw [hA]
      rfl
    · funext i
      idx_vars i
      refine (Cert.Reference3Ideal.Inp.k_apply (StableHlo.launchContents m' c) i0 i1 i2 i3).trans ?_
      rw [hA]
      rfl
    · funext i
      idx_vars i
      refine (Cert.Reference3Ideal.Inp.v_apply (StableHlo.launchContents m' c) i0 i1 i2 i3).trans ?_
      rw [hA]
      rfl
    · funext i
      idx_vars i
      refine (Cert.Reference3Ideal.Inp.rq_apply (StableHlo.launchContents m' c) i0 i1 i2).trans ?_
      rw [hA]
      rfl
    · funext i
      idx_vars i
      refine (Cert.Reference3Ideal.Inp.rk_apply (StableHlo.launchContents m' c) i0 i1 i2).trans ?_
      rw [hA]
      rfl
    · funext i
      idx_vars i
      refine (Cert.Reference3Ideal.Inp.rv_apply (StableHlo.launchContents m' c) i0 i1 i2).trans ?_
      rw [hA]
      rfl
    · funext i
      idx_vars i
      refine (Cert.Reference3Ideal.Inp.sg_apply (StableHlo.launchContents m' c) i0 i1 i2).trans ?_
      rw [hA]
      rfl
    · funext i
      idx_vars i
      refine (Cert.Reference3Ideal.Inp.ga_apply (StableHlo.launchContents m' c) i0 i1 i2).trans ?_
      rw [hA]
      rfl
    · funext i
      idx_vars i
      refine (Cert.Reference3Ideal.Inp.gr_apply (StableHlo.launchContents m' c) i0 i1 i2).trans ?_
      rw [hA]
      rfl

end Cert.Proof.Inp
-- ==== Proof.Ada.Block.lean ====
/- What a grid point of the modulation call stores, of the blocks it reads, where their entries are real numbers. -/
module

public import proofs.«01_k».proof.Proof.Gen.Kernel4Ideal.Value
public import Idealize.ShloMosaic.Lib.Pipeline.ValueKit
public import Idealize.ShloMosaic.Lib.Pipeline.ReadBack
public import Idealize.ShloMosaic.Lib.KernelVsHost

@[expose] public section

set_option maxRecDepth 16384

noncomputable section

/-! ## Real entries -/

namespace Cert.Ada

open Idealize.ShloMosaic

/-- A value that is a real number. -/
def Real' (x : EReal) : Prop := x ≠ ⊤ ∧ x ≠ ⊥

/-- The gated entry. -/
def act (z : EReal) : EReal := z * Ideal.div 1 (1 + Ideal.exp (-z))

/-- Entry `n` of a row's modulation. -/
def entry (c w : Fin 1024 → EReal) (b : EReal) : EReal := (∑ k, act (c k) * w k) + b

theorem act_real {z : EReal} (h : Real' z) : Real' (act z) := by
  obtain ⟨h1, h2⟩ := h
  lift z to ℝ using ⟨h1, h2⟩
  have e : act (z : EReal) = ((z * (1 + Real.exp (-z))⁻¹ : ℝ) : EReal) := by
    rw [EReal.coe_mul, ← Ideal.logistic_coe]
    rfl
  rw [e]
  exact ⟨EReal.coe_ne_top _, EReal.coe_ne_bot _⟩

/-- Row `r` of four rows padded with noughts. -/
def padded (c : Fin 4 → Fin 1024 → EReal) (r : Fin 16) (k : Fin 1024) : EReal :=
  if h : r.val < 4 then c ⟨r.val, h⟩ k else 0

theorem padded_real {c : Fin 4 → Fin 1024 → EReal} (h : ∀ i k, Real' (c i k)) (r : Fin 16) (k : Fin 1024) : Real' (padded c r k) := by
  unfold padded
  split
  · exact h _ _
  · exact ⟨EReal.zero_ne_top, EReal.zero_ne_bot⟩

/-- The padded array read at an index. -/
theorem pad_apply (x : FVec Ideal ⟨2, ![4, 1024]⟩ .f32) (h : Shape.Pads ⟨2, ![4, 1024]⟩ ![0, 0] ![12, 0] ![0, 0] ⟨2, ![16, 1024]⟩)
    (hu : 0 < Shape.numel ⟨0, ![]⟩) (r : Fin 16) (k : Fin 1024) :
    (pad ⟨2, ![16, 1024]⟩ ![0, 0] ![12, 0] ![0, 0] x (sitofp .f32 (constantI ⟨0, ![]⟩ 32 0#32)) h hu : FVec Ideal ⟨2, ![16, 1024]⟩ .f32) (ix2 r k)
      = padded (fun i k => x (ix2 i k)) r k := by
  unfold padded
  by_cases hr : r.val < 4
  · rw [dif_pos hr]
    refine pad_apply_of_inside _ _ _ x _ h hu (ix2 r k) (ix2 ⟨r.val, hr⟩ k) fun a => ?_
    fin_cases a <;> simp
  · rw [dif_neg hr]
    refine (pad_apply_of_not_inside _ _ _ x _ h hu (ix2 r k) 0 fun hc => hr ?_).trans ?_
    · simpa using hc.2.2
    · pointwise
      refine (show _ = (((0#32 : BitVec 32).toInt : ℝ) : EReal) from rfl).trans ?_
      simp

/-- The rounded parts and the remainders together: the remainders are nought. -/
theorem split_sum (a w : Fin 1024 → EReal) (ha : ∀ k, Real' (a k)) (hw : ∀ k, Real' (w k)) :
    (∑ k, a k * w k) + (∑ k, (a k - a k) * w k) + ∑ k, a k * (w k - w k) = ∑ k, a k * w k := by
  simp only [fun k => EReal.sub_self (ha k).1 (ha k).2, fun k => EReal.sub_self (hw k).1 (hw k).2, zero_mul, mul_zero,
    Finset.sum_const_zero, add_zero]

/-- A number below infinity in size is real. -/
theorem real_of_olt {x : Ideal .f32}
    (h : FloatOps.cmpf .olt (FloatOps.hostAbsf x) (FloatOps.ofBits (F := Ideal) .f32 0x7F800000#32) = 1#1) :
    Real' x := by
  rw [← Ideal.xori_weird_eq_hostAbsf_olt_inf] at h
  by_contra hc
  have hx : x = ⊤ ∨ x = ⊥ := by
    unfold Real' at hc
    tauto
  have hw : FloatOps.weird x = 1#1 := by
    show BitVec.ofBool (decide (x = ⊤ ∨ x = ⊥)) = 1#1
    simp [hx]
  rw [hw] at h
  exact absurd h (by decide)

end Cert.Ada

namespace Cert.Kernel4Ideal.Ada

open Cert.Kernel4Ideal Cert.Kernel4Ideal.Gen Idealize.ShloMosaic Idealize.ShloMosaic.TcCoe Idealize.SL.Sem
open Cert.Ada

theorem pay_apply (v0 : Vec Ideal S16x1024 .f32) (v8 : Vec Ideal S1024x1536 .f32) (v20 : Vec Ideal S1x1536 .f32) (r : Fin 16) (n : Fin 1536) :
    (k0_pay1 v0 v8 v20 : FVec Ideal S16x1536 .f32) (ix2 r n)
      = (∑ k : Fin 1024, act (v0 (ix2 r k)) * v8 (ix2 k n)) + (∑ k : Fin 1024, (act (v0 (ix2 r k)) - act (v0 (ix2 r k))) * v8 (ix2 k n))
        + (∑ k : Fin 1024, act (v0 (ix2 r k)) * (v8 (ix2 k n) - v8 (ix2 k n))) + v20 (ix2 0 n) := by
  unfold k0_pay1 act
  pointwise
  rfl

theorem out_apply (x0 : Vec Ideal S16x1024 .f32) (x1 : Vec Ideal S1024x1536 .f32) (x2 : Vec Ideal S1x1536 .f32) (r : Fin 16) (n : Fin 1536)
    (h0 : ∀ k, Real' (x0 (ix2 r k))) (h1 : ∀ k, Real' (x1 (ix2 k n))) :
    out0_3 x0 x1 x2 (ix2 r n) = entry (fun k => x0 (ix2 r k)) (fun k => x1 (ix2 k n)) (x2 (ix2 0 n)) := by
  have e0 : ∀ k, View.ld x0 r0_0 (ix2 r k) = x0 (ix2 r k) := fun k =>
    View.ld_unit_apply_of x0 _ _ inb_S16x1024_S16x1024_0_0 _ _ (fun a => by fin_cases a <;> simp)
  have e1 : ∀ k, View.ld x1 r0_1 (ix2 k n) = x1 (ix2 k n) := fun k =>
    View.ld_unit_apply_of x1 _ _ inb_S1024x1536_S1024x1536_0_0 _ _ (fun a => by fin_cases a <;> simp)
  have e2 : View.ld x2 r0_2 (ix2 0 n) = x2 (ix2 0 n) :=
    View.ld_unit_apply_of x2 _ _ inb_S1x1536_S1x1536_0_0 _ _ (fun a => by fin_cases a <;> simp)
  have ep : out0_3 x0 x1 x2 (ix2 r n) = (k0_pay1 (View.ld x0 r0_0) (View.ld x1 r0_1) (View.ld x2 r0_2) : FVec Ideal S16x1536 .f32) (ix2 r n) := by
    refine View.canon_apply_of_pieces (Val := Elt Ideal) (S := S16x1536) (e := .f32) (k0_pay1 (View.ld x0 r0_0) (View.ld x1 r0_1) (View.ld x2 r0_2)) _ ?_
      (ix2 r n) (cover0_3 (F := Ideal) _ _)
    intro p hp x
    obtain rfl := List.mem_singleton.mp hp
    have e : r0_3.emb x = x := by
      funext a
      apply Fin.ext
      refine (Rect.idx_unit_val (s := S16x1536) _ S16x1536.size inb_S16x1536_S16x1536_0_0 x a).trans ?_
      fin_cases a <;> simp
    rw [e]
  rw [ep, pay_apply]
  simp only [e0, e1, e2]
  rw [split_sum _ _ (fun k => act_real (h0 k)) h1]
  rfl

end Cert.Kernel4Ideal.Ada
-- ==== Proof.Ada.Final.lean ====
/- The modulation call's output array after the run, and its reference's, read at an index. -/
module

public import proofs.«01_k».proof.Pre_finite
public import proofs.«01_k».proof.Proof.Ada.Block
public import proofs.«01_k».proof.Proof.Gen.Reference4Ideal.Run

@[expose] public section

set_option maxRecDepth 16384

noncomputable section

/-! ## The precondition -/

namespace Cert.Pre_finite

open Idealize.ShloMosaic
open Cert.Ada

theorem facts : Cert.Pre_finite.Facts where
  bcast_S4x1024_S4x1024x1_0_1 := by decide
  bcast_S_S4x1024x1 := by decide
  bcast_S1024x6144_S1x1024x6144_1_2 := by decide
  bcast_S_S1x1024x6144 := by decide
  bcast_S4x1024x1_S4x1024x6144_0_1_2 := by decide
  bcast_S1x1024x6144_S4x1024x6144_0_1_2 := by decide

theorem fn_apply [Facts] (c : FVec Ideal S4x1024 .f32) (w : FVec Ideal S1024x6144 .f32) (b : FVec Ideal S6144 .f32)
    (i : Fin 4) (k : Fin 1024) (n : Fin 6144) :
    fn c w b (ix3 i k n)
      = IntOp.andi (FloatOps.cmpf .olt (FloatOps.hostAbsf (c (ix2 i k))) (FloatOps.ofBits (F := Ideal) .f32 0x7F800000#32))
          (FloatOps.cmpf .olt (FloatOps.hostAbsf (w (ix2 k n))) (FloatOps.ofBits (F := Ideal) .f32 0x7F800000#32)) := by
  unfold fn
  pointwise

theorem and_one {a b : BitVec 1} (h : IntOp.andi a b = 1#1) : a = 1#1 ∧ b = 1#1 := by
  revert a b
  decide

/-- The precondition makes every entry a real number. -/
theorem real_of_fn [Facts] {c : FVec Ideal S4x1024 .f32} {w : FVec Ideal S1024x6144 .f32} {b : FVec Ideal S6144 .f32}
    (h : fn c w b = fun _ => 1#1) : (∀ i k, Real' (c (ix2 i k))) ∧ ∀ k n, Real' (w (ix2 k n)) := by
  have e : ∀ i k n, _ := fun i k n => and_one ((fn_apply c w b i k n).symm.trans (congrFun h _))
  exact ⟨fun i k => real_of_olt (e i k 0).1, fun k n => real_of_olt (e 0 k n).2⟩

end Cert.Pre_finite

/-! ## The reference -/

namespace Cert.Reference4Ideal.Ada

open Cert.Reference4Ideal Cert.Reference4Ideal.Gen Cert.Reference4Ideal.Value Idealize.ShloMosaic Idealize.ShloMosaic.TcCoe Idealize.SL.Sem
open Cert.Ada

/-- The arguments' modulation. -/
def value (c : FVec Ideal S4x1024 .f32) (w : FVec Ideal S1024x6144 .f32) (b : FVec Ideal S6144 .f32) : FVec Ideal S16x6144 .f32 :=
  fun i => entry (padded (fun i k => c (ix2 i k)) (i 0)) (fun k => w (ix2 k (i 1))) (b (ix1 (i 1)))

theorem plain (p : FVec Ideal S16x1024 .f32) (w : FVec Ideal S1024x6144 .f32) (b : FVec Ideal S6144 .f32) (r : Fin 16) (n : Fin 6144) :
    (addf (Host.dotGeneral dot_S16x1024_S1024x6144_S16x6144_1_0_0_1_n_n none (mulf p (Host.divf (broadcastInDim S16x1024 ![] bcast_S_S16x1024 (constant S_ .f32 0x3F800000#32)) (addf (broadcastInDim S16x1024 ![] bcast_S_S16x1024 (constant S_ .f32 0x3F800000#32)) (Host.exp (Host.negf p))))) w) (broadcastInDim S16x6144 ![0, 1] bcast_S1x6144_S16x6144_0_1 (broadcastInDim S1x6144 ![1] bcast_S6144_S1x6144_1 b)) : FVec Ideal S16x6144 .f32) (ix2 r n)
      = entry (fun k => p (ix2 r k)) (fun k => w (ix2 k n)) (b (ix1 n)) := by
  unfold entry act
  pointwise

theorem value_eq (c : FVec Ideal S4x1024 .f32) (w : FVec Ideal S1024x6144 .f32) (b : FVec Ideal S6144 .f32) (p : FVec Ideal S16x1024 .f32)
    (hp : p = pad S16x1024 ![0, 0] ![12, 0] ![0, 0] c (sitofp .f32 (constantI S_ 32 0#32)) pads_S4x1024_S16x1024_0120_000 h_S_) :
    (addf (Host.dotGeneral dot_S16x1024_S1024x6144_S16x6144_1_0_0_1_n_n none (mulf p (Host.divf (broadcastInDim S16x1024 ![] bcast_S_S16x1024 (constant S_ .f32 0x3F800000#32)) (addf (broadcastInDim S16x1024 ![] bcast_S_S16x1024 (constant S_ .f32 0x3F800000#32)) (Host.exp (Host.negf p))))) w) (broadcastInDim S16x6144 ![0, 1] bcast_S1x6144_S16x6144_0_1 (broadcastInDim S1x6144 ![1] bcast_S6144_S1x6144_1 b)) : FVec Ideal S16x6144 .f32)
      = value c w b := by
  funext i
  idx_vars i
  rw [plain]
  have e : ∀ k, p (ix2 i0 k) = padded (fun i k => c (ix2 i k)) i0 k := fun k => by rw [hp]; exact pad_apply c _ _ i0 k
  simp only [e]
  rfl

end Cert.Reference4Ideal.Ada

/-! ## The kernel -/

namespace Cert.Kernel4Ideal.Ada

open Cert.Kernel4Ideal Cert.Kernel4Ideal.Gen Idealize.ShloMosaic Idealize.ShloMosaic.TcCoe Idealize.SL.Sem
open Idealize.ShloMosaic.Pipeline (Dat)
open Cert.Ada

variable (m : (ℓ : Loc nD τ sig) → Buf (Elt Ideal) ℓ) (c : Dev nD)

theorem index_facts : ∀ t : Fin cfg0.N, win0_0.index t = ![0, 0] ∧ win0_1.index t = ![0, t.val] ∧ win0_2.index t = ![0, t.val]
    ∧ win0_3.index t = ![0, t.val] := by
  show ∀ t : Fin grid0.N, _
  decide +kernel

/-- Column `n` of a grid point's block. -/
def col (t : Fin cfg0.N) (n : Fin 1536) : Fin 6144 :=
  ⟨t.val * 1536 + n.val, by have := t.isLt; simp only [show cfg0.N = 4 from rfl] at this; omega⟩

variable (t : Fin cfg0.N)

theorem c_blk (r : Fin 16) (k : Fin 1024) :
    iblk m c 0 t (ix2 r k) = padded (fun i k => m ((c : Thread nD τ).loc main_arg0) (ix2 i k)) r k := by
  have h : V m c main_v0 (ix2 r k) = padded (fun i k => m ((c : Thread nD τ).loc main_arg0) (ix2 i k)) r k := by
    simp only [V, hostOps0, hostOps0_1, hostOps0_2, List.flatten_cons, List.flatten_nil, List.append_nil, List.cons_append, List.nil_append]
    entry_read
    exact pad_apply (m ((c : Thread nD τ).loc main_arg0)) pads_S4x1024_S16x1024_0120_000 h_S_ r k
  refine Eq.trans ?_ h
  blk_ext [iblk, index_facts t]

theorem w_blk (k : Fin 1024) (n : Fin 1536) : iblk m c 1 t (ix2 k n) = m ((c : Thread nD τ).loc main_arg1) (ix2 k (col t n)) := by
  unfold col
  blk_ext [iblk, V_main_arg1, index_facts t]

theorem b_blk (n : Fin 1536) : iblk m c 2 t (ix2 0 n) = m ((c : Thread nD τ).loc main_arg2) (ix1 (col t n)) := by
  have h : ∀ n : Fin 6144, V m c main_v1 (ix2 0 n) = m ((c : Thread nD τ).loc main_arg2) (ix1 n) := by
    intro n
    simp only [V, hostOps0, hostOps0_1, hostOps0_2, List.flatten_cons, List.flatten_nil, List.append_nil, List.cons_append, List.nil_append]
    entry_read
    pointwise
  refine Eq.trans ?_ (h (col t n))
  unfold col
  blk_ext [iblk, index_facts t]

/-- The result of the call. -/
def result : Buf (Elt Ideal) ((c : Thread nD τ).loc main_v2) :=
  Cert.Reference4Ideal.Ada.value (m ((c : Thread nD τ).loc main_arg0)) (m ((c : Thread nD τ).loc main_arg1)) (m ((c : Thread nD τ).loc main_arg2))

/-- The place of a grid point's block. -/
theorem place (r : Fin 16) (n : Fin 1536) :
    ((View.whole main_v2).slice (win0_3.rect t)).emb (ix2 r n) = ix2 r (col t n) := by
  unfold col
  blk_ext [index_facts t]

/-- The output array after the run. -/
theorem final (hc : ∀ i k, Real' (m ((c : Thread nD τ).loc main_arg0) (ix2 i k))) (hw : ∀ k n, Real' (m ((c : Thread nD τ).loc main_arg1) (ix2 k n))) :
    (dats m 0 c).arrAt 3 cfg0.N = result m c := by
  refine (dats m 0 c).arrAt_eq_of_covers 3 _ (by decide +kernel) fun t hf y => ?_
  blk_simp
  rw [after0_3]
  idx_vars y
  rw [place]
  refine (out_apply _ _ _ y0 y1 (fun k => ?_) fun k => ?_).trans ?_
  · rw [c_blk]
    exact padded_real hc y0 k
  · rw [w_blk]
    exact hw k _
  · simp only [c_blk, w_blk, b_blk]
    rfl

end Cert.Kernel4Ideal.Ada
-- ==== Proof.Ada.Claim.lean ====
/- The modulation call: the kernel's and the reference's results are one array, where the arguments are finite. -/
module

public import proofs.«01_k».proof.Defs
public import proofs.«01_k».proof.Proof.Gen.Reference4Ideal
public import proofs.«01_k».proof.Proof.Gen.Kernel4Ideal
public import proofs.«01_k».proof.Proof.Ada.Final

@[expose] public section

set_option maxRecDepth 16384

noncomputable section

namespace Cert.Proof.Ada

open Idealize.ShloMosaic Idealize.SL.Sem

theorem algebraic : Cert.algebraic_Kernel4Ideal_Reference4Ideal_pre_finite (hKernel4Ideal := Cert.Kernel4Ideal.Gen.facts)
    (hReference4Ideal := Cert.Reference4Ideal.Gen.facts) (hPre_finite := Cert.Pre_finite.facts) := by
  intro m g m' g' hpre hargs
  have hr := fun c => @Cert.Pre_finite.real_of_fn Cert.Pre_finite.facts _ _ _ (hpre c)
  refine ⟨fun c => Cert.Kernel4Ideal.Ada.result m c, ?_, ?_⟩
  · refine (θ_run (Cert.Kernel4Ideal.defs (F := Ideal)) _ _).mono (fun r h c => ?_) (Cert.Kernel4Ideal.Value.run_blocks (F := Ideal) m g)
    exact ⟨(h c).1.trans (Cert.Kernel4Ideal.Ada.final m c (hr c).1 (hr c).2), (h c).2⟩
  · refine (θ_run (Cert.Reference4Ideal.defs (F := Ideal)) _ _).mono (fun r h c => ?_)
      (Cert.Reference4Ideal.Value.run (F := Ideal) m' g')
    refine ⟨(h c).1.trans ?_, (h c).2⟩
    obtain ⟨h0, h1, h2⟩ := hargs c
    refine (Cert.Reference4Ideal.Ada.value_eq _ _ _ _ rfl).trans ?_
    exact congr (congr (congrArg Cert.Reference4Ideal.Ada.value h0) h1) h2

end Cert.Proof.Ada
-- ==== Proof.lean ====
/- The claims about the calls of the layer taken: each program's frame, and that the ideal kernel and its ideal
   reference return the same array. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.KernelIdeal.Value
public import proofs.«01_k».proof.Proof.Gen.ReferenceIdeal.Run
public import proofs.«01_k».proof.Proof.Gen.ReferenceIdeal.StepRun
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.Ret.Claim
public import proofs.«01_k».proof.Proof.Mix.Claim
public import proofs.«01_k».proof.Proof.Inp.Claim
public import proofs.«01_k».proof.Proof.Ada.Claim
public import Idealize.ShloMosaic.Adequacy
public import Idealize.ShloMosaic.Init

@[expose] public section

noncomputable section

namespace Cert.Proof

open Idealize.ShloMosaic Idealize.SL.Sem

theorem frame_r2 : Cert.quiescent_Reference2Ideal (hReference2Ideal := Cert.Reference2Ideal.Gen.facts) := fun m g _ =>
  (θ_run Cert.Reference2Ideal.defs _ _).mono (fun r h => ⟨fun c => (h c).2, sem_eq_zero_of_no_sems (by decide) r.2⟩)
    (Cert.Reference2Ideal.Value.run (F := Ideal) m g)

theorem frame_r3 : Cert.quiescent_Reference3Ideal (hReference3Ideal := Cert.Reference3Ideal.Gen.facts) := fun m g _ =>
  (θ_run Cert.Reference3Ideal.defs _ _).mono
    (fun r h => ⟨fun c => (h c).2.2.2.2.2.2.2.2.2, sem_eq_zero_of_no_sems (by decide) r.2⟩)
    (Cert.Reference3Ideal.Value.run (F := Ideal) m g)

theorem frame_r4 : Cert.quiescent_Reference4Ideal (hReference4Ideal := Cert.Reference4Ideal.Gen.facts) := fun m g _ =>
  (θ_run Cert.Reference4Ideal.defs _ _).mono (fun r h => ⟨fun c => (h c).2, sem_eq_zero_of_no_sems (by decide) r.2⟩)
    (Cert.Reference4Ideal.Value.run (F := Ideal) m g)

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Pre_finite.facts,
    fun m ρ _ => Cert.Kernel.Gen.frame m ρ, fun m ρ _ => Cert.KernelIdeal.Gen.frame m ρ, Ret.frame_r,
    fun m ρ _ => Cert.Kernel2.Gen.frame m ρ, fun m ρ _ => Cert.Kernel2Ideal.Gen.frame m ρ, frame_r2,
    fun m ρ _ => Cert.Kernel3.Gen.frame m ρ, fun m ρ _ => Cert.Kernel3Ideal.Gen.frame m ρ, frame_r3,
    fun m ρ _ => Cert.Kernel4.Gen.frame m ρ, fun m ρ _ => Cert.Kernel4Ideal.Gen.frame m ρ,
    fun m ρ _ => Cert.Kernel4Ideal.Gen.frame m ρ, frame_r4, fun m ρ _ => frame_r4 m ρ trivial,
    trivial, Ret.algebraic, trivial, Mix.algebraic, trivial, Inp.algebraic, trivial, Ada.algebraic⟩

end Cert.Proof

end
